-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_InNorm (m : (ℓ : Loc Cert.InNorm.nD Cert.InNorm.τ Cert.InNorm.sig) → Buf (Elt Bits) ℓ) : Prop :=
  True

def Pre_InNormIdeal (m : (ℓ : Loc Cert.InNormIdeal.nD Cert.InNormIdeal.τ Cert.InNormIdeal.sig) → Buf (Elt Ideal) ℓ) : Prop :=
  True

def Pre_InNormRefIdeal (m : (ℓ : Loc Cert.InNormRefIdeal.nD Cert.InNormRefIdeal.τ Cert.InNormRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def quiescent_InNorm [hInNorm : Cert.InNorm.Facts] : Prop :=
  ∀ (m : (ℓ : Loc Cert.InNorm.nD Cert.InNorm.τ Cert.InNorm.sig) → Buf (Elt Bits) ℓ) (g : Dev Cert.InNorm.nD → PrngReg), Pre_InNorm m →
    θ_run (Cert.InNorm.defs (F := Bits)) (onTc (τ := Cert.InNorm.τ) (Cert.InNorm.main (F := Bits))) ⟨m, fun _ => 0, g⟩ (fun r => (∀ c : Dev Cert.InNorm.nD,
      r.2.mem ((c.tc : Thread Cert.InNorm.nD Cert.InNorm.τ).loc Cert.InNorm.main_arg0) = m ((c.tc : Thread Cert.InNorm.nD Cert.InNorm.τ).loc Cert.InNorm.main_arg0)
      ∧ r.2.mem ((c.tc : Thread Cert.InNorm.nD Cert.InNorm.τ).loc Cert.InNorm.main_arg1) = m ((c.tc : Thread Cert.InNorm.nD Cert.InNorm.τ).loc Cert.InNorm.main_arg1))
      ∧ r.2.sem = fun _ => 0)

def quiescent_InNormIdeal [hInNormIdeal : Cert.InNormIdeal.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1))
      ∧ r.2.sem = fun _ => 0)

def quiescent_InNormRefIdeal [hInNormRefIdeal : Cert.InNormRefIdeal.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)) (v2 : (c : Dev Cert.GateUpIdeal.nD) → Buf (Elt Ideal) ((c.tc : Thread Cert.GateUpIdeal.nD Cert.GateUpIdeal.τ).loc Cert.GateUpIdeal.main_v3_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_v3_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v3_0) = v0 c
          ∧ r.2.mem ((c.tc : Thread Cert.GateUpRefIdeal.nD Cert.GateUpRefIdeal.τ).loc Cert.GateUpRefIdeal.main_v3_1) = v1 c
          ∧ r.2.mem ((c.tc : Thread Cert.GateUpRefIdeal.nD Cert.GateUpRefIdeal.τ).loc Cert.GateUpRefIdeal.main_v3_2) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)) (v2 : (c : Dev Cert.DownIdeal.nD) → Buf (Elt Ideal) ((c.tc : Thread Cert.DownIdeal.nD Cert.DownIdeal.τ).loc Cert.DownIdeal.main_v2_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_v2_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2_0) = v0 c
          ∧ r.2.mem ((c.tc : Thread Cert.DownRefIdeal.nD Cert.DownRefIdeal.τ).loc Cert.DownRefIdeal.main_v2_1) = v1 c
          ∧ r.2.mem ((c.tc : Thread Cert.DownRefIdeal.nD Cert.DownRefIdeal.τ).loc Cert.DownRefIdeal.main_v2_2) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v3_0)) (v1 : (c : Dev Cert.OProjIdeal.nD) → Buf (Elt Ideal) ((c.tc : Thread Cert.OProjIdeal.nD Cert.OProjIdeal.τ).loc Cert.OProjIdeal.main_v3_1)) (v2 : (c : Dev Cert.OProjIdeal.nD) → Buf (Elt Ideal) ((c.tc : Thread Cert.OProjIdeal.nD Cert.OProjIdeal.τ).loc Cert.OProjIdeal.main_v3_2)) (v3 : (c : Dev Cert.OProjIdeal.nD) → Buf (Elt Ideal) ((c.tc : Thread Cert.OProjIdeal.nD Cert.OProjIdeal.τ).loc Cert.OProjIdeal.main_v3_3)) (v4 : (c : Dev Cert.OProjIdeal.nD) → Buf (Elt Ideal) ((c.tc : Thread Cert.OProjIdeal.nD Cert.OProjIdeal.τ).loc Cert.OProjIdeal.main_v3_4)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v3_0) = v0 c
          ∧ r.2.mem ((c.tc : Thread Cert.OProjIdeal.nD Cert.OProjIdeal.τ).loc Cert.OProjIdeal.main_v3_1) = v1 c
          ∧ r.2.mem ((c.tc : Thread Cert.OProjIdeal.nD Cert.OProjIdeal.τ).loc Cert.OProjIdeal.main_v3_2) = v2 c
          ∧ r.2.mem ((c.tc : Thread Cert.OProjIdeal.nD Cert.OProjIdeal.τ).loc Cert.OProjIdeal.main_v3_3) = v3 c
          ∧ r.2.mem ((c.tc : Thread Cert.OProjIdeal.nD Cert.OProjIdeal.τ).loc Cert.OProjIdeal.main_v3_4) = v4 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v3_0) = v0 c
          ∧ r.2.mem ((c.tc : Thread Cert.OProjRefIdeal.nD Cert.OProjRefIdeal.τ).loc Cert.OProjRefIdeal.main_v3_1) = v1 c
          ∧ r.2.mem ((c.tc : Thread Cert.OProjRefIdeal.nD Cert.OProjRefIdeal.τ).loc Cert.OProjRefIdeal.main_v3_2) = v2 c
          ∧ r.2.mem ((c.tc : Thread Cert.OProjRefIdeal.nD Cert.OProjRefIdeal.τ).loc Cert.OProjRefIdeal.main_v3_3) = v3 c
          ∧ r.2.mem ((c.tc : Thread Cert.OProjRefIdeal.nD Cert.OProjRefIdeal.τ).loc Cert.OProjRefIdeal.main_v3_4) = v4 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def preserves_InNorm_InNormIdeal : Prop :=
  True

def algebraic_InNormIdeal_InNormRefIdeal [hInNormIdeal : Cert.InNormIdeal.Facts] [hInNormRefIdeal : Cert.InNormRefIdeal.Facts] : Prop :=
  ∀ (m : (ℓ : Loc Cert.InNormIdeal.nD Cert.InNormIdeal.τ Cert.InNormIdeal.sig) → Buf (Elt Ideal) ℓ) (g : Dev Cert.InNormIdeal.nD → PrngReg)
    (m' : (ℓ : Loc Cert.InNormRefIdeal.nD Cert.InNormRefIdeal.τ Cert.InNormRefIdeal.sig) → Buf (Elt Ideal) ℓ) (g' : Dev Cert.InNormRefIdeal.nD → PrngReg), Pre_InNormIdeal m →
    (∀ c : Dev Cert.InNormIdeal.nD,
      m' ((c.tc : Thread Cert.InNormRefIdeal.nD Cert.InNormRefIdeal.τ).loc Cert.InNormRefIdeal.main_arg0) = m ((c.tc : Thread Cert.InNormIdeal.nD Cert.InNormIdeal.τ).loc Cert.InNormIdeal.main_arg0)
      ∧ m' ((c.tc : Thread Cert.InNormRefIdeal.nD Cert.InNormRefIdeal.τ).loc Cert.InNormRefIdeal.main_arg1) = m ((c.tc : Thread Cert.InNormIdeal.nD Cert.InNormIdeal.τ).loc Cert.InNormIdeal.main_arg1)) →
    ∃ (v0 : (c : Dev Cert.InNormIdeal.nD) → Buf (Elt Ideal) ((c.tc : Thread Cert.InNormIdeal.nD Cert.InNormIdeal.τ).loc Cert.InNormIdeal.main_v1_0)) (v1 : (c : Dev Cert.InNormIdeal.nD) → Buf (Elt Ideal) ((c.tc : Thread Cert.InNormIdeal.nD Cert.InNormIdeal.τ).loc Cert.InNormIdeal.main_v1_1)),
      θ_run (Cert.InNormIdeal.defs (F := Ideal)) (onTc (τ := Cert.InNormIdeal.τ) (Cert.InNormIdeal.main (F := Ideal))) ⟨m, fun _ => 0, g⟩ (fun r => ∀ c : Dev Cert.InNormIdeal.nD,
          r.2.mem ((c.tc : Thread Cert.InNormIdeal.nD Cert.InNormIdeal.τ).loc Cert.InNormIdeal.main_v1_0) = v0 c
          ∧ r.2.mem ((c.tc : Thread Cert.InNormIdeal.nD Cert.InNormIdeal.τ).loc Cert.InNormIdeal.main_v1_1) = v1 c
          ∧ r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
          ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1))
      ∧ θ_run (Cert.InNormRefIdeal.defs (F := Ideal)) (onTc (τ := Cert.InNormRefIdeal.τ) (Cert.InNormRefIdeal.main (F := Ideal))) ⟨m', fun _ => 0, g'⟩ (fun r => ∀ c : Dev Cert.InNormRefIdeal.nD,
          r.2.mem ((c.tc : Thread Cert.InNormRefIdeal.nD Cert.InNormRefIdeal.τ).loc Cert.InNormRefIdeal.main_v1_0) = v0 c
          ∧ r.2.mem ((c.tc : Thread Cert.InNormRefIdeal.nD Cert.InNormRefIdeal.τ).loc Cert.InNormRefIdeal.main_v1_1) = v1 c
          ∧ r.2.mem ((c.tc : Thread Cert.InNormRefIdeal.nD Cert.InNormRefIdeal.τ).loc Cert.InNormRefIdeal.main_arg0) = m' ((c.tc : Thread Cert.InNormRefIdeal.nD Cert.InNormRefIdeal.τ).loc Cert.InNormRefIdeal.main_arg0)
          ∧ r.2.mem ((c.tc : Thread Cert.InNormRefIdeal.nD Cert.InNormRefIdeal.τ).loc Cert.InNormRefIdeal.main_arg1) = m' ((c.tc : Thread Cert.InNormRefIdeal.nD Cert.InNormRefIdeal.τ).loc Cert.InNormRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)) (v3 : (c : Dev Cert.QkvIdeal.nD) → Buf (Elt Ideal) ((c.tc : Thread Cert.QkvIdeal.nD Cert.QkvIdeal.τ).loc Cert.QkvIdeal.main_v3_3)) (v4 : (c : Dev Cert.QkvIdeal.nD) → Buf (Elt Ideal) ((c.tc : Thread Cert.QkvIdeal.nD Cert.QkvIdeal.τ).loc Cert.QkvIdeal.main_v3_4)) (v5 : (c : Dev Cert.QkvIdeal.nD) → Buf (Elt Ideal) ((c.tc : Thread Cert.QkvIdeal.nD Cert.QkvIdeal.τ).loc Cert.QkvIdeal.main_v3_5)) (v6 : (c : Dev Cert.QkvIdeal.nD) → Buf (Elt Ideal) ((c.tc : Thread Cert.QkvIdeal.nD Cert.QkvIdeal.τ).loc Cert.QkvIdeal.main_v3_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_v3_3) = v3 c
          ∧ r.2.mem ((c.tc : Thread Cert.QkvIdeal.nD Cert.QkvIdeal.τ).loc Cert.QkvIdeal.main_v3_4) = v4 c
          ∧ r.2.mem ((c.tc : Thread Cert.QkvIdeal.nD Cert.QkvIdeal.τ).loc Cert.QkvIdeal.main_v3_5) = v5 c
          ∧ r.2.mem ((c.tc : Thread Cert.QkvIdeal.nD Cert.QkvIdeal.τ).loc Cert.QkvIdeal.main_v3_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4_0) = v0 c
          ∧ r.2.mem ((c.tc : Thread Cert.QkvRefIdeal.nD Cert.QkvRefIdeal.τ).loc Cert.QkvRefIdeal.main_v4_1) = v1 c
          ∧ r.2.mem ((c.tc : Thread Cert.QkvRefIdeal.nD Cert.QkvRefIdeal.τ).loc Cert.QkvRefIdeal.main_v4_2) = v2 c
          ∧ r.2.mem ((c.tc : Thread Cert.QkvRefIdeal.nD Cert.QkvRefIdeal.τ).loc Cert.QkvRefIdeal.main_v4_3) = v3 c
          ∧ r.2.mem ((c.tc : Thread Cert.QkvRefIdeal.nD Cert.QkvRefIdeal.τ).loc Cert.QkvRefIdeal.main_v4_4) = v4 c
          ∧ r.2.mem ((c.tc : Thread Cert.QkvRefIdeal.nD Cert.QkvRefIdeal.τ).loc Cert.QkvRefIdeal.main_v4_5) = v5 c
          ∧ r.2.mem ((c.tc : Thread Cert.QkvRefIdeal.nD Cert.QkvRefIdeal.τ).loc Cert.QkvRefIdeal.main_v4_6) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOProj : Cert.OProj.Facts) (hOProjIdeal : Cert.OProjIdeal.Facts) (hOProjRefIdeal : Cert.OProjRefIdeal.Facts) (hInNorm : Cert.InNorm.Facts) (hInNormIdeal : Cert.InNormIdeal.Facts) (hInNormRefIdeal : Cert.InNormRefIdeal.Facts) (hQkv : Cert.Qkv.Facts) (hQkvIdeal : Cert.QkvIdeal.Facts) (hQkvRefIdeal : Cert.QkvRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_OProj (hOProj := hOProj)
    ∧ quiescent_OProjIdeal (hOProjIdeal := hOProjIdeal)
    ∧ quiescent_OProjRefIdeal (hOProjRefIdeal := hOProjRefIdeal)
    ∧ quiescent_InNorm (hInNorm := hInNorm)
    ∧ quiescent_InNormIdeal (hInNormIdeal := hInNormIdeal)
    ∧ quiescent_InNormRefIdeal (hInNormRefIdeal := hInNormRefIdeal)
    ∧ quiescent_Qkv (hQkv := hQkv)
    ∧ quiescent_QkvIdeal (hQkvIdeal := hQkvIdeal)
    ∧ quiescent_QkvRefIdeal (hQkvRefIdeal := hQkvRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_OProj_OProjIdeal
    ∧ algebraic_OProjIdeal_OProjRefIdeal (hOProjIdeal := hOProjIdeal) (hOProjRefIdeal := hOProjRefIdeal)
    ∧ preserves_InNorm_InNormIdeal
    ∧ algebraic_InNormIdeal_InNormRefIdeal (hInNormIdeal := hInNormIdeal) (hInNormRefIdeal := hInNormRefIdeal)
    ∧ preserves_Qkv_QkvIdeal
    ∧ algebraic_QkvIdeal_QkvRefIdeal (hQkvIdeal := hQkvIdeal) (hQkvRefIdeal := hQkvRefIdeal)
-- ==== GateUp.lean ====
abbrev S2048x2560 : Shape := ⟨2, ![2048, 2560]⟩
abbrev S1x2048 : Shape := ⟨2, ![1, 2048]⟩
abbrev S1728x2560 : Shape := ⟨2, ![1728, 2560]⟩
abbrev S6912 : Shape := ⟨1, ![6912]⟩
abbrev S1x1x2048 : Shape := ⟨3, ![1, 1, 2048]⟩
abbrev S27x1x256 : Shape := ⟨3, ![27, 1, 256]⟩
abbrev S2048x6912 : Shape := ⟨2, ![2048, 6912]⟩
abbrev S2048x1 : Shape := ⟨2, ![2048, 1]⟩
abbrev S1x1x256 : Shape := ⟨3, ![1, 1, 256]⟩
abbrev S2048x256 : Shape := ⟨2, ![2048, 256]⟩
abbrev S512x2560 : Shape := ⟨2, ![512, 2560]⟩
abbrev S2048x128 : Shape := ⟨2, ![2048, 128]⟩
abbrev S64x2560 : Shape := ⟨2, ![64, 2560]⟩
abbrev S16x2560 : Shape := ⟨2, ![16, 2560]⟩
abbrev S512x512 : Shape := ⟨2, ![512, 512]⟩
abbrev S1x512 : Shape := ⟨2, ![1, 512]⟩
abbrev S512x1 : Shape := ⟨2, ![512, 1]⟩
abbrev S512x256 : Shape := ⟨2, ![512, 256]⟩
abbrev S1x256 : Shape := ⟨2, ![1, 256]⟩
abbrev S512x128 : Shape := ⟨2, ![512, 128]⟩
abbrev S2048 : Shape := ⟨1, ![2048]⟩

abbrev nBuf : Space → Nat
  | .hbm => 12
  | .vmem => 16
  | .smem => 0
  | _ => 0

abbrev bufTy : (tb : Table) → Fin (tcTables nBuf tb) → BufTy
  | .hbm, ⟨0, _⟩ => ⟨S2048x2560, .i8⟩
  | .hbm, ⟨1, _⟩ => ⟨S1x2048, .f32⟩
  | .hbm, ⟨2, _⟩ => ⟨S1728x2560, .i8⟩
  | .hbm, ⟨3, _⟩ => ⟨S1728x2560, .i8⟩
  | .hbm, ⟨4, _⟩ => ⟨S6912, .f32⟩
  | .hbm, ⟨5, _⟩ => ⟨S6912, .f32⟩
  | .hbm, ⟨6, _⟩ => ⟨S1x1x2048, .f32⟩
  | .hbm, ⟨7, _⟩ => ⟨S27x1x256, .f32⟩
  | .hbm, ⟨8, _⟩ => ⟨S27x1x256, .f32⟩
  | .hbm, ⟨9, _⟩ => ⟨S2048x6912, .f32⟩
  | .hbm, ⟨10, _⟩ => ⟨S2048x6912, .bf16⟩
  | .hbm, ⟨11, _⟩ => ⟨S2048x1, .f32⟩
  | .local _ .vmem, ⟨0, _⟩ => ⟨S2048x2560, .i8⟩
  | .local _ .vmem, ⟨1, _⟩ => ⟨S1x1x2048, .f32⟩
  | .local _ .vmem, ⟨2, _⟩ => ⟨S1728x2560, .i8⟩
  | .local _ .vmem, ⟨3, _⟩ => ⟨S1728x2560, .i8⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | .local _ .vmem, ⟨12, _⟩ => ⟨S2048x1, .f32⟩
  | .local _ .vmem, ⟨13, _⟩ => ⟨S512x2560, .bf16⟩
  | .local _ .vmem, ⟨14, _⟩ => ⟨S2048x2560, .bf16⟩
  | .local _ .vmem, ⟨15, _⟩ => ⟨S2048x128, .f32⟩
  | _, _ => ⟨S2048x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![27], ![false]⟩

def k0_mult1 (i : grid0.Coords) : BitVec 32 :=
  let arg0 : BitVec 32 := BitVec.ofNat 32 (i 0).val
  let c4_i32 : BitVec 32 := 4#32
  let v3 : BitVec 32 := Scalar.muli arg0 c4_i32
  let c0_i32_1 : BitVec 32 := 0#32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c27_i32 : BitVec 32 := 27#32
  let c0_i32_4 : BitVec 32 := 0#32
  let v11 : BitVec 1 := Scalar.cmpi .sgt c27_i32 c0_i32_4
  let v12 : BitVec 32 := Scalar.extui v11
  let c0_i32_5 : BitVec 32 := 0#32
  let v13 : BitVec 1 := Scalar.cmpi .slt c27_i32 c0_i32_5
  let v14 : BitVec 32 := Scalar.extui v13
  let v15 : BitVec 32 := Scalar.subi v12 v14
  let v16 : BitVec 1 := Scalar.cmpi .ne v10 v15
  let v17 : BitVec 32 := Scalar.remsi v4 c27_i32
  let c0_i32_6 : BitVec 32 := 0#32
  let v18 : BitVec 1 := Scalar.cmpi .ne v17 c0_i32_6
  let v19 : BitVec 1 := Scalar.andi v16 v18
  let v5 : BitVec 32 := Scalar.divsi v4 c27_i32
  let c1_i32 : BitVec 32 := 1#32
  let v20 : BitVec 32 := Scalar.subi v5 c1_i32
  let v21 : BitVec 32 := Scalar.select v19 v20 v5
  let c27_i32_7 : BitVec 32 := 27#32
  let v22 : BitVec 32 := Scalar.muli v21 c27_i32_7
  let v23 : BitVec 32 := Scalar.subi v4 v22
  let c64_i32 : BitVec 32 := 64#32
  let v24 : BitVec 32 := Scalar.muli v23 c64_i32
  v24
def k0_off1 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c27_i32 : BitVec 32 := 27#32
  let c0_i32_4 : BitVec 32 := 0#32
  let v11 : BitVec 1 := Scalar.cmpi .sgt c27_i32 c0_i32_4
  let v12 : BitVec 32 := Scalar.extui v11
  let c0_i32_5 : BitVec 32 := 0#32
  let v13 : BitVec 1 := Scalar.cmpi .slt c27_i32 c0_i32_5
  let v14 : BitVec 32 := Scalar.extui v13
  let v15 : BitVec 32 := Scalar.subi v12 v14
  let v16 : BitVec 1 := Scalar.cmpi .ne v10 v15
  let v17 : BitVec 32 := Scalar.remsi v4 c27_i32
  let c0_i32_6 : BitVec 32 := 0#32
  let v18 : BitVec 1 := Scalar.cmpi .ne v17 c0_i32_6
  let v19 : BitVec 1 := Scalar.andi v16 v18
  let v5 : BitVec 32 := Scalar.divsi v4 c27_i32
  let c1_i32 : BitVec 32 := 1#32
  let v20 : BitVec 32 := Scalar.subi v5 c1_i32
  let v21 : BitVec 32 := Scalar.select v19 v20 v5
  let c27_i32_7 : BitVec 32 := 27#32
  let v22 : BitVec 32 := Scalar.muli v21 c27_i32_7
  let v23 : BitVec 32 := Scalar.subi v4 v22
  let c64_i32 : BitVec 32 := 64#32
  let v24 : BitVec 32 := Scalar.muli v23 c64_i32
  let v25 : BitVec 32 := v24
  let v26 : Index := Scalar.indexCast v25
  let c0 : Index := 0#32
  ![v26.toNat, 0]
def k0_mult2 (i : grid0.Coords) : BitVec 32 :=
  let arg0 : BitVec 32 := BitVec.ofNat 32 (i 0).val
  let c4_i32_15 : BitVec 32 := 4#32
  let v56 : BitVec 32 := Scalar.muli arg0 c4_i32_15
  let c1_i32_16 : BitVec 32 := 1#32
  let v57 : BitVec 32 := Scalar.addi v56 c1_i32_16
  let c0_i32_18 : BitVec 32 := 0#32
  let v59 : BitVec 1 := Scalar.cmpi .sgt v57 c0_i32_18
  let v60 : BitVec 32 := Scalar.extui v59
  let c0_i32_19 : BitVec 32 := 0#32
  let v61 : BitVec 1 := Scalar.cmpi .slt v57 c0_i32_19
  let v62 : BitVec 32 := Scalar.extui v61
  let v63 : BitVec 32 := Scalar.subi v60 v62
  let c27_i32_17 : BitVec 32 := 27#32
  let c0_i32_20 : BitVec 32 := 0#32
  let v64 : BitVec 1 := Scalar.cmpi .sgt c27_i32_17 c0_i32_20
  let v65 : BitVec 32 := Scalar.extui v64
  let c0_i32_21 : BitVec 32 := 0#32
  let v66 : BitVec 1 := Scalar.cmpi .slt c27_i32_17 c0_i32_21
  let v67 : BitVec 32 := Scalar.extui v66
  let v68 : BitVec 32 := Scalar.subi v65 v67
  let v69 : BitVec 1 := Scalar.cmpi .ne v63 v68
  let v70 : BitVec 32 := Scalar.remsi v57 c27_i32_17
  let c0_i32_22 : BitVec 32 := 0#32
  let v71 : BitVec 1 := Scalar.cmpi .ne v70 c0_i32_22
  let v72 : BitVec 1 := Scalar.andi v69 v71
  let v58 : BitVec 32 := Scalar.divsi v57 c27_i32_17
  let c1_i32_23 : BitVec 32 := 1#32
  let v73 : BitVec 32 := Scalar.subi v58 c1_i32_23
  let v74 : BitVec 32 := Scalar.select v72 v73 v58
  let c27_i32_24 : BitVec 32 := 27#32
  let v75 : BitVec 32 := Scalar.muli v74 c27_i32_24
  let v76 : BitVec 32 := Scalar.subi v57 v75
  let c64_i32_25 : BitVec 32 := 64#32
  let v77 : BitVec 32 := Scalar.muli v76 c64_i32_25
  v77
def k0_mult3 (i : grid0.Coords) : BitVec 32 :=
  let arg0 : BitVec 32 := BitVec.ofNat 32 (i 0).val
  let c4_i32_36 : BitVec 32 := 4#32
  let v109 : BitVec 32 := Scalar.muli arg0 c4_i32_36
  let c2_i32_37 : BitVec 32 := 2#32
  let v110 : BitVec 32 := Scalar.addi v109 c2_i32_37
  let c0_i32_39 : BitVec 32 := 0#32
  let v112 : BitVec 1 := Scalar.cmpi .sgt v110 c0_i32_39
  let v113 : BitVec 32 := Scalar.extui v112
  let c0_i32_40 : BitVec 32 := 0#32
  let v114 : BitVec 1 := Scalar.cmpi .slt v110 c0_i32_40
  let v115 : BitVec 32 := Scalar.extui v114
  let v116 : BitVec 32 := Scalar.subi v113 v115
  let c27_i32_38 : BitVec 32 := 27#32
  let c0_i32_41 : BitVec 32 := 0#32
  let v117 : BitVec 1 := Scalar.cmpi .sgt c27_i32_38 c0_i32_41
  let v118 : BitVec 32 := Scalar.extui v117
  let c0_i32_42 : BitVec 32 := 0#32
  let v119 : BitVec 1 := Scalar.cmpi .slt c27_i32_38 c0_i32_42
  let v120 : BitVec 32 := Scalar.extui v119
  let v121 : BitVec 32 := Scalar.subi v118 v120
  let v122 : BitVec 1 := Scalar.cmpi .ne v116 v121
  let v123 : BitVec 32 := Scalar.remsi v110 c27_i32_38
  let c0_i32_43 : BitVec 32 := 0#32
  let v124 : BitVec 1 := Scalar.cmpi .ne v123 c0_i32_43
  let v125 : BitVec 1 := Scalar.andi v122 v124
  let v111 : BitVec 32 := Scalar.divsi v110 c27_i32_38
  let c1_i32_44 : BitVec 32 := 1#32
  let v126 : BitVec 32 := Scalar.subi v111 c1_i32_44
  let v127 : BitVec 32 := Scalar.select v125 v126 v111
  let c27_i32_45 : BitVec 32 := 27#32
  let v128 : BitVec 32 := Scalar.muli v127 c27_i32_45
  let v129 : BitVec 32 := Scalar.subi v110 v128
  let c64_i32_46 : BitVec 32 := 64#32
  let v130 : BitVec 32 := Scalar.muli v129 c64_i32_46
  v130
def k0_mult4 (i : grid0.Coords) : BitVec 32 :=
  let arg0 : BitVec 32 := BitVec.ofNat 32 (i 0).val
  let c4_i32_57 : BitVec 32 := 4#32
  let v162 : BitVec 32 := Scalar.muli arg0 c4_i32_57
  let c3_i32 : BitVec 32 := 3#32
  let v163 : BitVec 32 := Scalar.addi v162 c3_i32
  let c0_i32_59 : BitVec 32 := 0#32
  let v165 : BitVec 1 := Scalar.cmpi .sgt v163 c0_i32_59
  let v166 : BitVec 32 := Scalar.extui v165
  let c0_i32_60 : BitVec 32 := 0#32
  let v167 : BitVec 1 := Scalar.cmpi .slt v163 c0_i32_60
  let v168 : BitVec 32 := Scalar.extui v167
  let v169 : BitVec 32 := Scalar.subi v166 v168
  let c27_i32_58 : BitVec 32 := 27#32
  let c0_i32_61 : BitVec 32 := 0#32
  let v170 : BitVec 1 := Scalar.cmpi .sgt c27_i32_58 c0_i32_61
  let v171 : BitVec 32 := Scalar.extui v170
  let c0_i32_62 : BitVec 32 := 0#32
  let v172 : BitVec 1 := Scalar.cmpi .slt c27_i32_58 c0_i32_62
  let v173 : BitVec 32 := Scalar.extui v172
  let v174 : BitVec 32 := Scalar.subi v171 v173
  let v175 : BitVec 1 := Scalar.cmpi .ne v169 v174
  let v176 : BitVec 32 := Scalar.remsi v163 c27_i32_58
  let c0_i32_63 : BitVec 32 := 0#32
  let v177 : BitVec 1 := Scalar.cmpi .ne v176 c0_i32_63
  let v178 : BitVec 1 := Scalar.andi v175 v177
  let v164 : BitVec 32 := Scalar.divsi v163 c27_i32_58
  let c1_i32_64 : BitVec 32 := 1#32
  let v179 : BitVec 32 := Scalar.subi v164 c1_i32_64
  let v180 : BitVec 32 := Scalar.select v178 v179 v164
  let c27_i32_65 : BitVec 32 := 27#32
  let v181 : BitVec 32 := Scalar.muli v180 c27_i32_65
  let v182 : BitVec 32 := Scalar.subi v163 v181
  let c64_i32_66 : BitVec 32 := 64#32
  let v183 : BitVec 32 := Scalar.muli v182 c64_i32_66
  v183
def k0_cond2 (i : grid0.Coords) : BitVec 1 :=
  let arg0 : BitVec 32 := BitVec.ofNat 32 (i 0).val
  let c26_i32 : BitVec 32 := 26#32
  let v363 : BitVec 1 := Scalar.cmpi .eq arg0 c26_i32
  let v364 : BitVec 32 := Scalar.extui v363
  let c0_i32_166 : BitVec 32 := 0#32
  let v365 : BitVec 1 := Scalar.cmpi .ne v364 c0_i32_166
  v365

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2560 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1728x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1728x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateUpRefIdeal.lean ====
abbrev S2048x2560 : Shape := ⟨2, ![2048, 2560]⟩
abbrev S1x2048 : Shape := ⟨2, ![1, 2048]⟩
abbrev S1728x2560 : Shape := ⟨2, ![1728, 2560]⟩
abbrev S6912 : Shape := ⟨1, ![6912]⟩
abbrev S2048x1 : Shape := ⟨2, ![2048, 1]⟩
abbrev S1x6912 : Shape := ⟨2, ![1, 6912]⟩
abbrev S2048x6912 : Shape := ⟨2, ![2048, 6912]⟩
abbrev S6912x2560 : Shape := ⟨2, ![6912, 2560]⟩
abbrev S2048 : Shape := ⟨1, ![2048]⟩

abbrev nBuf : Space → Nat
  | .hbm => 12
  | .vmem => 9
  | .smem => 0
  | _ => 0

abbrev bufTy : (tb : Table) → Fin (tcTables nBuf tb) → BufTy
  | .hbm, ⟨0, _⟩ => ⟨S2048x2560, .i8⟩
  | .hbm, ⟨1, _⟩ => ⟨S1x2048, .f32⟩
  | .hbm, ⟨2, _⟩ => ⟨S1728x2560, .i8⟩
  | .hbm, ⟨3, _⟩ => ⟨S1728x2560, .i8⟩
  | .hbm, ⟨4, _⟩ => ⟨S6912, .f32⟩
  | .hbm, ⟨5, _⟩ => ⟨S6912, .f32⟩
  | .hbm, ⟨6, _⟩ => ⟨S2048x1, .f32⟩
  | .hbm, ⟨7, _⟩ => ⟨S1x6912, .f32⟩
  | .hbm, ⟨8, _⟩ => ⟨S1x6912, .f32⟩
  | .hbm, ⟨9, _⟩ => ⟨S2048x6912, .f32⟩
  | .hbm, ⟨10, _⟩ => ⟨S2048x6912, .bf16⟩
  | .hbm, ⟨11, _⟩ => ⟨S2048x1, .f32⟩
  | .local _ .vmem, ⟨0, _⟩ => ⟨S2048x2560, .i8⟩
  | .local _ .vmem, ⟨1, _⟩ => ⟨S2048x1, .f32⟩
  | .local _ .vmem, ⟨2, _⟩ => ⟨S1728x2560, .i8⟩
  | .local _ .vmem, ⟨3, _⟩ => ⟨S1728x2560, .i8⟩
  | .local _ .vmem, ⟨4, _⟩ => ⟨S1x6912, .f32⟩
  | .local _ .vmem, ⟨5, _⟩ => ⟨S1x6912, .f32⟩
  | .local _ .vmem, ⟨6, _⟩ => ⟨S2048x6912, .f32⟩
  | .local _ .vmem, ⟨7, _⟩ => ⟨S2048x6912, .bf16⟩
  | .local _ .vmem, ⟨8, _⟩ => ⟨S2048x1, .f32⟩
  | _, _ => ⟨S2048x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x2560 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1728x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1728x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x6912 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Down.lean ====
abbrev S2048x6912 : Shape := ⟨2, ![2048, 6912]⟩
abbrev S2048x1 : Shape := ⟨2, ![2048, 1]⟩
abbrev S2048x2560 : Shape := ⟨2, ![2048, 2560]⟩
abbrev S6912 : Shape := ⟨1, ![6912]⟩
abbrev S640x6912 : Shape := ⟨2, ![640, 6912]⟩
abbrev S2560 : Shape := ⟨1, ![2560]⟩
abbrev S1x6912 : Shape := ⟨2, ![1, 6912]⟩
abbrev S1x2560 : Shape := ⟨2, ![1, 2560]⟩
abbrev S16x1x128 : Shape := ⟨3, ![16, 1, 128]⟩
abbrev S128x6912 : Shape := ⟨2, ![128, 6912]⟩
abbrev S128x1 : Shape := ⟨2, ![128, 1]⟩
abbrev S128x2560 : Shape := ⟨2, ![128, 2560]⟩
abbrev S1x1x128 : Shape := ⟨3, ![1, 1, 128]⟩
abbrev S2560x6912 : Shape := ⟨2, ![2560, 6912]⟩
abbrev S64x6912 : Shape := ⟨2, ![64, 6912]⟩
abbrev S16x6912 : Shape := ⟨2, ![16, 6912]⟩
abbrev S128 : Shape := ⟨1, ![128]⟩
abbrev S1x128 : Shape := ⟨2, ![1, 128]⟩
abbrev S256x6912 : Shape := ⟨2, ![256, 6912]⟩
abbrev S128x256 : Shape := ⟨2, ![128, 256]⟩
abbrev S1x256 : Shape := ⟨2, ![1, 256]⟩

abbrev nBuf : Space → Nat
  | .hbm => 11
  | .vmem => 16
  | .smem => 0
  | _ => 0

abbrev bufTy : (tb : Table) → Fin (tcTables nBuf tb) → BufTy
  | .hbm, ⟨0, _⟩ => ⟨S2048x6912, .f32⟩
  | .hbm, ⟨1, _⟩ => ⟨S2048x1, .f32⟩
  | .hbm, ⟨2, _⟩ => ⟨S2048x2560, .f32⟩
  | .hbm, ⟨3, _⟩ => ⟨S6912, .f32⟩
  | .hbm, ⟨4, _⟩ => ⟨S640x6912, .i8⟩
  | .hbm, ⟨5, _⟩ => ⟨S2560, .f32⟩
  | .hbm, ⟨6, _⟩ => ⟨S1x6912, .f32⟩
  | .hbm, ⟨7, _⟩ => ⟨S1x2560, .f32⟩
  | .hbm, ⟨8, _⟩ => ⟨S2048x6912, .i8⟩
  | .hbm, ⟨9, _⟩ => ⟨S16x1x128, .f32⟩
  | .hbm, ⟨10, _⟩ => ⟨S2048x2560, .bf16⟩
  | .local _ .vmem, ⟨0, _⟩ => ⟨S128x6912, .f32⟩
  | .local _ .vmem, ⟨1, _⟩ => ⟨S128x6912, .f32⟩
  | .local _ .vmem, ⟨2, _⟩ => ⟨S128x1, .f32⟩
  | .local _ .vmem, ⟨3, _⟩ => ⟨S128x1, .f32⟩
  | .local _ .vmem, ⟨4, _⟩ => ⟨S128x2560, .f32⟩
  | .local _ .vmem, ⟨5, _⟩ => ⟨S128x2560, .f32⟩
  | .local _ .vmem, ⟨6, _⟩ => ⟨S1x6912, .f32⟩
  | .local _ .vmem, ⟨7, _⟩ => ⟨S640x6912, .i8⟩
  | .local _ .vmem, ⟨8, _⟩ => ⟨S1x2560, .f32⟩
  | .local _ .vmem, ⟨9, _⟩ => ⟨S128x6912, .i8⟩
  | .local _ .vmem, ⟨10, _⟩ => ⟨S128x6912, .i8⟩
  | .local _ .vmem, ⟨11, _⟩ => ⟨S1x1x128, .f32⟩
  | .local _ .vmem, ⟨12, _⟩ => ⟨S1x1x128, .f32⟩
  | .local _ .vmem, ⟨13, _⟩ => ⟨S128x2560, .bf16⟩
  | .local _ .vmem, ⟨14, _⟩ => ⟨S128x2560, .bf16⟩
  | .local _ .vmem, ⟨15, _⟩ => ⟨S2560x6912, .bf16⟩
  | _, _ => ⟨S2048x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6912 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x6912 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6912 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownRefIdeal.lean ====
abbrev S2048x6912 : Shape := ⟨2, ![2048, 6912]⟩
abbrev S2048x1 : Shape := ⟨2, ![2048, 1]⟩
abbrev S2048x2560 : Shape := ⟨2, ![2048, 2560]⟩
abbrev S6912 : Shape := ⟨1, ![6912]⟩
abbrev S640x6912 : Shape := ⟨2, ![640, 6912]⟩
abbrev S2560 : Shape := ⟨1, ![2560]⟩
abbrev S1x6912 : Shape := ⟨2, ![1, 6912]⟩
abbrev S1x2560 : Shape := ⟨2, ![1, 2560]⟩
abbrev S16x1x128 : Shape := ⟨3, ![16, 1, 128]⟩
abbrev S2048 : Shape := ⟨1, ![2048]⟩
abbrev S2560x6912 : Shape := ⟨2, ![2560, 6912]⟩

abbrev nBuf : Space → Nat
  | .hbm => 11
  | .vmem => 9
  | .smem => 0
  | _ => 0

abbrev bufTy : (tb : Table) → Fin (tcTables nBuf tb) → BufTy
  | .hbm, ⟨0, _⟩ => ⟨S2048x6912, .f32⟩
  | .hbm, ⟨1, _⟩ => ⟨S2048x1, .f32⟩
  | .hbm, ⟨2, _⟩ => ⟨S2048x2560, .f32⟩
  | .hbm, ⟨3, _⟩ => ⟨S6912, .f32⟩
  | .hbm, ⟨4, _⟩ => ⟨S640x6912, .i8⟩
  | .hbm, ⟨5, _⟩ => ⟨S2560, .f32⟩
  | .hbm, ⟨6, _⟩ => ⟨S1x6912, .f32⟩
  | .hbm, ⟨7, _⟩ => ⟨S1x2560, .f32⟩
  | .hbm, ⟨8, _⟩ => ⟨S2048x6912, .i8⟩
  | .hbm, ⟨9, _⟩ => ⟨S16x1x128, .f32⟩
  | .hbm, ⟨10, _⟩ => ⟨S2048x2560, .bf16⟩
  | .local _ .vmem, ⟨0, _⟩ => ⟨S2048x6912, .f32⟩
  | .local _ .vmem, ⟨1, _⟩ => ⟨S2048x1, .f32⟩
  | .local _ .vmem, ⟨2, _⟩ => ⟨S2048x2560, .f32⟩
  | .local _ .vmem, ⟨3, _⟩ => ⟨S1x6912, .f32⟩
  | .local _ .vmem, ⟨4, _⟩ => ⟨S640x6912, .i8⟩
  | .local _ .vmem, ⟨5, _⟩ => ⟨S1x2560, .f32⟩
  | .local _ .vmem, ⟨6, _⟩ => ⟨S2048x6912, .i8⟩
  | .local _ .vmem, ⟨7, _⟩ => ⟨S16x1x128, .f32⟩
  | .local _ .vmem, ⟨8, _⟩ => ⟨S2048x2560, .bf16⟩
  | _, _ => ⟨S2048x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x6912 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x6912 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x6912 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== OProj.lean ====
abbrev S2048x2560 : Shape := ⟨2, ![2048, 2560]⟩
abbrev S2560 : Shape := ⟨1, ![2560]⟩
abbrev S640x2560 : Shape := ⟨2, ![640, 2560]⟩
abbrev S1x2560 : Shape := ⟨2, ![1, 2560]⟩
abbrev S8x1x256 : Shape := ⟨3, ![8, 1, 256]⟩
abbrev S256x2560 : Shape := ⟨2, ![256, 2560]⟩
abbrev S1x1x256 : Shape := ⟨3, ![1, 1, 256]⟩
abbrev S2560x2560 : Shape := ⟨2, ![2560, 2560]⟩
abbrev S64x2560 : Shape := ⟨2, ![64, 2560]⟩
abbrev S16x2560 : Shape := ⟨2, ![16, 2560]⟩
abbrev S256 : Shape := ⟨1, ![256]⟩
abbrev S256x1 : Shape := ⟨2, ![256, 1]⟩
abbrev S1x256 : Shape := ⟨2, ![1, 256]⟩
abbrev S256x256 : Shape := ⟨2, ![256, 256]⟩

abbrev nBuf : Space → Nat
  | .hbm => 14
  | .vmem => 19
  | .smem => 0
  | _ => 0

abbrev bufTy : (tb : Table) → Fin (tcTables nBuf tb) → BufTy
  | .hbm, ⟨0, _⟩ => ⟨S2048x2560, .f32⟩
  | .hbm, ⟨1, _⟩ => ⟨S2048x2560, .bf16⟩
  | .hbm, ⟨2, _⟩ => ⟨S2560, .f32⟩
  | .hbm, ⟨3, _⟩ => ⟨S2560, .f32⟩
  | .hbm, ⟨4, _⟩ => ⟨S640x2560, .i8⟩
  | .hbm, ⟨5, _⟩ => ⟨S2560, .f32⟩
  | .hbm, ⟨6, _⟩ => ⟨S1x2560, .f32⟩
  | .hbm, ⟨7, _⟩ => ⟨S1x2560, .f32⟩
  | .hbm, ⟨8, _⟩ => ⟨S1x2560, .f32⟩
  | .hbm, ⟨9, _⟩ => ⟨S2048x2560, .i8⟩
  | .hbm, ⟨10, _⟩ => ⟨S8x1x256, .f32⟩
  | .hbm, ⟨11, _⟩ => ⟨S2048x2560, .f32⟩
  | .hbm, ⟨12, _⟩ => ⟨S2048x2560, .i8⟩
  | .hbm, ⟨13, _⟩ => ⟨S8x1x256, .f32⟩
  | .local _ .vmem, ⟨0, _⟩ => ⟨S256x2560, .f32⟩
  | .local _ .vmem, ⟨1, _⟩ => ⟨S256x2560, .f32⟩
  | .local _ .vmem, ⟨2, _⟩ => ⟨S256x2560, .bf16⟩
  | .local _ .vmem, ⟨3, _⟩ => ⟨S256x2560, .bf16⟩
  | .local _ .vmem, ⟨4, _⟩ => ⟨S1x2560, .f32⟩
  | .local _ .vmem, ⟨5, _⟩ => ⟨S1x2560, .f32⟩
  | .local _ .vmem, ⟨6, _⟩ => ⟨S640x2560, .i8⟩
  | .local _ .vmem, ⟨7, _⟩ => ⟨S1x2560, .f32⟩
  | .local _ .vmem, ⟨8, _⟩ => ⟨S256x2560, .i8⟩
  | .local _ .vmem, ⟨9, _⟩ => ⟨S256x2560, .i8⟩
  | .local _ .vmem, ⟨10, _⟩ => ⟨S1x1x256, .f32⟩
  | .local _ .vmem, ⟨11, _⟩ => ⟨S1x1x256, .f32⟩
  | .local _ .vmem, ⟨12, _⟩ => ⟨S256x2560, .f32⟩
  | .local _ .vmem, ⟨13, _⟩ => ⟨S256x2560, .f32⟩
  | .local _ .vmem, ⟨14, _⟩ => ⟨S256x2560, .i8⟩
  | .local _ .vmem, ⟨15, _⟩ => ⟨S256x2560, .i8⟩
  | .local _ .vmem, ⟨16, _⟩ => ⟨S1x1x256, .f32⟩
  | .local _ .vmem, ⟨17, _⟩ => ⟨S1x1x256, .f32⟩
  | .local _ .vmem, ⟨18, _⟩ => ⟨S2560x2560, .bf16⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2560 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OProjRefIdeal.lean ====
abbrev S2048x2560 : Shape := ⟨2, ![2048, 2560]⟩
abbrev S2560 : Shape := ⟨1, ![2560]⟩
abbrev S640x2560 : Shape := ⟨2, ![640, 2560]⟩
abbrev S1x2560 : Shape := ⟨2, ![1, 2560]⟩
abbrev S8x1x256 : Shape := ⟨3, ![8, 1, 256]⟩
abbrev S2048 : Shape := ⟨1, ![2048]⟩
abbrev S2048x1 : Shape := ⟨2, ![2048, 1]⟩
abbrev S2560x2560 : Shape := ⟨2, ![2560, 2560]⟩

abbrev nBuf : Space → Nat
  | .hbm => 14
  | .vmem => 11
  | .smem => 0
  | _ => 0

abbrev bufTy : (tb : Table) → Fin (tcTables nBuf tb) → BufTy
  | .hbm, ⟨0, _⟩ => ⟨S2048x2560, .f32⟩
  | .hbm, ⟨1, _⟩ => ⟨S2048x2560, .bf16⟩
  | .hbm, ⟨2, _⟩ => ⟨S2560, .f32⟩
  | .hbm, ⟨3, _⟩ => ⟨S2560, .f32⟩
  | .hbm, ⟨4, _⟩ => ⟨S640x2560, .i8⟩
  | .hbm, ⟨5, _⟩ => ⟨S2560, .f32⟩
  | .hbm, ⟨6, _⟩ => ⟨S1x2560, .f32⟩
  | .hbm, ⟨7, _⟩ => ⟨S1x2560, .f32⟩
  | .hbm, ⟨8, _⟩ => ⟨S1x2560, .f32⟩
  | .hbm, ⟨9, _⟩ => ⟨S2048x2560, .i8⟩
  | .hbm, ⟨10, _⟩ => ⟨S8x1x256, .f32⟩
  | .hbm, ⟨11, _⟩ => ⟨S2048x2560, .f32⟩
  | .hbm, ⟨12, _⟩ => ⟨S2048x2560, .i8⟩
  | .hbm, ⟨13, _⟩ => ⟨S8x1x256, .f32⟩
  | .local _ .vmem, ⟨0, _⟩ => ⟨S2048x2560, .f32⟩
  | .local _ .vmem, ⟨1, _⟩ => ⟨S2048x2560, .bf16⟩
  | .local _ .vmem, ⟨2, _⟩ => ⟨S1x2560, .f32⟩
  | .local _ .vmem, ⟨3, _⟩ => ⟨S1x2560, .f32⟩
  | .local _ .vmem, ⟨4, _⟩ => ⟨S640x2560, .i8⟩
  | .local _ .vmem, ⟨5, _⟩ => ⟨S1x2560, .f32⟩
  | .local _ .vmem, ⟨6, _⟩ => ⟨S2048x2560, .i8⟩
  | .local _ .vmem, ⟨7, _⟩ => ⟨S8x1x256, .f32⟩
  | .local _ .vmem, ⟨8, _⟩ => ⟨S2048x2560, .f32⟩
  | .local _ .vmem, ⟨9, _⟩ => ⟨S2048x2560, .i8⟩
  | .local _ .vmem, ⟨10, _⟩ => ⟨S8x1x256, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x2560 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== InNorm.lean ====
abbrev S2048x2560 : Shape := ⟨2, ![2048, 2560]⟩
abbrev S2560 : Shape := ⟨1, ![2560]⟩
abbrev S1x2560 : Shape := ⟨2, ![1, 2560]⟩
abbrev S8x1x256 : Shape := ⟨3, ![8, 1, 256]⟩
abbrev S256x2560 : Shape := ⟨2, ![256, 2560]⟩
abbrev S1x1x256 : Shape := ⟨3, ![1, 1, 256]⟩
abbrev S256 : Shape := ⟨1, ![256]⟩
abbrev S256x1 : Shape := ⟨2, ![256, 1]⟩
abbrev S1x256 : Shape := ⟨2, ![1, 256]⟩

abbrev nBuf : Space → Nat
  | .hbm => 5
  | .vmem => 7
  | .smem => 0
  | _ => 0

abbrev bufTy : (tb : Table) → Fin (tcTables nBuf tb) → BufTy
  | .hbm, ⟨0, _⟩ => ⟨S2048x2560, .bf16⟩
  | .hbm, ⟨1, _⟩ => ⟨S2560, .f32⟩
  | .hbm, ⟨2, _⟩ => ⟨S1x2560, .f32⟩
  | .hbm, ⟨3, _⟩ => ⟨S2048x2560, .i8⟩
  | .hbm, ⟨4, _⟩ => ⟨S8x1x256, .f32⟩
  | .local _ .vmem, ⟨0, _⟩ => ⟨S256x2560, .bf16⟩
  | .local _ .vmem, ⟨1, _⟩ => ⟨S256x2560, .bf16⟩
  | .local _ .vmem, ⟨2, _⟩ => ⟨S1x2560, .f32⟩
  | .local _ .vmem, ⟨3, _⟩ => ⟨S256x2560, .i8⟩
  | .local _ .vmem, ⟨4, _⟩ => ⟨S256x2560, .i8⟩
  | .local _ .vmem, ⟨5, _⟩ => ⟨S1x1x256, .f32⟩
  | .local _ .vmem, ⟨6, _⟩ => ⟨S1x1x256, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InNormRefIdeal.lean ====
abbrev S2048x2560 : Shape := ⟨2, ![2048, 2560]⟩
abbrev S2560 : Shape := ⟨1, ![2560]⟩
abbrev S1x2560 : Shape := ⟨2, ![1, 2560]⟩
abbrev S8x1x256 : Shape := ⟨3, ![8, 1, 256]⟩
abbrev S2048 : Shape := ⟨1, ![2048]⟩
abbrev S2048x1 : Shape := ⟨2, ![2048, 1]⟩

abbrev nBuf : Space → Nat
  | .hbm => 5
  | .vmem => 4
  | .smem => 0
  | _ => 0

abbrev bufTy : (tb : Table) → Fin (tcTables nBuf tb) → BufTy
  | .hbm, ⟨0, _⟩ => ⟨S2048x2560, .bf16⟩
  | .hbm, ⟨1, _⟩ => ⟨S2560, .f32⟩
  | .hbm, ⟨2, _⟩ => ⟨S1x2560, .f32⟩
  | .hbm, ⟨3, _⟩ => ⟨S2048x2560, .i8⟩
  | .hbm, ⟨4, _⟩ => ⟨S8x1x256, .f32⟩
  | .local _ .vmem, ⟨0, _⟩ => ⟨S2048x2560, .bf16⟩
  | .local _ .vmem, ⟨1, _⟩ => ⟨S1x2560, .f32⟩
  | .local _ .vmem, ⟨2, _⟩ => ⟨S2048x2560, .i8⟩
  | .local _ .vmem, ⟨3, _⟩ => ⟨S8x1x256, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Qkv.lean ====
abbrev S2048x2560 : Shape := ⟨2, ![2048, 2560]⟩
abbrev S8x1x256 : Shape := ⟨3, ![8, 1, 256]⟩
abbrev S2048x64 : Shape := ⟨2, ![2048, 64]⟩
abbrev S640x2560 : Shape := ⟨2, ![640, 2560]⟩
abbrev S160x2560 : Shape := ⟨2, ![160, 2560]⟩
abbrev S2560 : Shape := ⟨1, ![2560]⟩
abbrev S640 : Shape := ⟨1, ![640]⟩
abbrev S1x2560 : Shape := ⟨2, ![1, 2560]⟩
abbrev S1x640 : Shape := ⟨2, ![1, 640]⟩
abbrev S2048x640 : Shape := ⟨2, ![2048, 640]⟩
abbrev S2048x5 : Shape := ⟨2, ![2048, 5]⟩
abbrev S256x2560 : Shape := ⟨2, ![256, 2560]⟩
abbrev S1x1x256 : Shape := ⟨3, ![1, 1, 256]⟩
abbrev S256x64 : Shape := ⟨2, ![256, 64]⟩
abbrev S256x640 : Shape := ⟨2, ![256, 640]⟩
abbrev S256x5 : Shape := ⟨2, ![256, 5]⟩
abbrev S3840x2560 : Shape := ⟨2, ![3840, 2560]⟩
abbrev S32x2560 : Shape := ⟨2, ![32, 2560]⟩
abbrev S8x2560 : Shape := ⟨2, ![8, 2560]⟩
abbrev S1x256 : Shape := ⟨2, ![1, 256]⟩
abbrev S256x1 : Shape := ⟨2, ![256, 1]⟩
abbrev S256x128 : Shape := ⟨2, ![256, 128]⟩
abbrev S256x256 : Shape := ⟨2, ![256, 256]⟩
abbrev S1x128 : Shape := ⟨2, ![1, 128]⟩
abbrev S256 : Shape := ⟨1, ![256]⟩

abbrev nBuf : Space → Nat
  | .hbm => 20
  | .vmem => 29
  | .smem => 0
  | _ => 0

abbrev bufTy : (tb : Table) → Fin (tcTables nBuf tb) → BufTy
  | .hbm, ⟨0, _⟩ => ⟨S2048x2560, .i8⟩
  | .hbm, ⟨1, _⟩ => ⟨S8x1x256, .f32⟩
  | .hbm, ⟨2, _⟩ => ⟨S2048x64, .f32⟩
  | .hbm, ⟨3, _⟩ => ⟨S2048x64, .f32⟩
  | .hbm, ⟨4, _⟩ => ⟨S640x2560, .i8⟩
  | .hbm, ⟨5, _⟩ => ⟨S160x2560, .i8⟩
  | .hbm, ⟨6, _⟩ => ⟨S160x2560, .i8⟩
  | .hbm, ⟨7, _⟩ => ⟨S2560, .f32⟩
  | .hbm, ⟨8, _⟩ => ⟨S640, .f32⟩
  | .hbm, ⟨9, _⟩ => ⟨S640, .f32⟩
  | .hbm, ⟨10, _⟩ => ⟨S1x2560, .f32⟩
  | .hbm, ⟨11, _⟩ => ⟨S1x640, .f32⟩
  | .hbm, ⟨12, _⟩ => ⟨S1x640, .f32⟩
  | .hbm, ⟨13, _⟩ => ⟨S2048x2560, .bf16⟩
  | .hbm, ⟨14, _⟩ => ⟨S2048x640, .bf16⟩
  | .hbm, ⟨15, _⟩ => ⟨S2048x640, .bf16⟩
  | .hbm, ⟨16, _⟩ => ⟨S2048x640, .i8⟩
  | .hbm, ⟨17, _⟩ => ⟨S2048x5, .f32⟩
  | .hbm, ⟨18, _⟩ => ⟨S2048x640, .i8⟩
  | .hbm, ⟨19, _⟩ => ⟨S2048x5, .f32⟩
  | .local _ .vmem, ⟨0, _⟩ => ⟨S256x2560, .i8⟩
  | .local _ .vmem, ⟨1, _⟩ => ⟨S256x2560, .i8⟩
  | .local _ .vmem, ⟨2, _⟩ => ⟨S1x1x256, .f32⟩
  | .local _ .vmem, ⟨3, _⟩ => ⟨S1x1x256, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S640x2560, .i8⟩
  | .local _ .vmem, ⟨9, _⟩ => ⟨S160x2560, .i8⟩
  | .local _ .vmem, ⟨10, _⟩ => ⟨S160x2560, .i8⟩
  | .local _ .vmem, ⟨11, _⟩ => ⟨S1x2560, .f32⟩
  | .local _ .vmem, ⟨12, _⟩ => ⟨S1x640, .f32⟩
  | .local _ .vmem, ⟨13, _⟩ => ⟨S1x640, .f32⟩
  | .local _ .vmem, ⟨14, _⟩ => ⟨S256x2560, .bf16⟩
  | .local _ .vmem, ⟨15, _⟩ => ⟨S256x2560, .bf16⟩
  | .local _ .vmem, ⟨16, _⟩ => ⟨S256x640, .bf16⟩
  | .local _ .vmem, ⟨17, _⟩ => ⟨S256x640, .bf16⟩
  | .local _ .vmem, ⟨18, _⟩ => ⟨S256x640, .bf16⟩
  | .local _ .vmem, ⟨19, _⟩ => ⟨S256x640, .bf16⟩
  | .local _ .vmem, ⟨20, _⟩ => ⟨S256x640, .i8⟩
  | .local _ .vmem, ⟨21, _⟩ => ⟨S256x640, .i8⟩
  | .local _ .vmem, ⟨22, _⟩ => ⟨S256x5, .f32⟩
  | .local _ .vmem, ⟨23, _⟩ => ⟨S256x5, .f32⟩
  | .local _ .vmem, ⟨24, _⟩ => ⟨S256x640, .i8⟩
  | .local _ .vmem, ⟨25, _⟩ => ⟨S256x640, .i8⟩
  | .local _ .vmem, ⟨26, _⟩ => ⟨S256x5, .f32⟩
  | .local _ .vmem, ⟨27, _⟩ => ⟨S256x5, .f32⟩
  | .local _ .vmem, ⟨28, _⟩ => ⟨S3840x2560, .bf16⟩
  | _, _ => ⟨S2048x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S640x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x2560 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S160x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x640 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x5 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x640 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x5 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== QkvRefIdeal.lean ====
abbrev S2048x2560 : Shape := ⟨2, ![2048, 2560]⟩
abbrev S8x1x256 : Shape := ⟨3, ![8, 1, 256]⟩
abbrev S2048x64 : Shape := ⟨2, ![2048, 64]⟩
abbrev S640x2560 : Shape := ⟨2, ![640, 2560]⟩
abbrev S160x2560 : Shape := ⟨2, ![160, 2560]⟩
abbrev S2560 : Shape := ⟨1, ![2560]⟩
abbrev S640 : Shape := ⟨1, ![640]⟩
abbrev S2048x1 : Shape := ⟨2, ![2048, 1]⟩
abbrev S1x2560 : Shape := ⟨2, ![1, 2560]⟩
abbrev S1x640 : Shape := ⟨2, ![1, 640]⟩
abbrev S2048x640 : Shape := ⟨2, ![2048, 640]⟩
abbrev S2048x5 : Shape := ⟨2, ![2048, 5]⟩
abbrev S2560x2560 : Shape := ⟨2, ![2560, 2560]⟩
abbrev S2048x20x128 : Shape := ⟨3, ![2048, 20, 128]⟩
abbrev S2048x20x64 : Shape := ⟨3, ![2048, 20, 64]⟩
abbrev S2048x1x64 : Shape := ⟨3, ![2048, 1, 64]⟩
abbrev S2048x5x128 : Shape := ⟨3, ![2048, 5, 128]⟩
abbrev S2048x5x64 : Shape := ⟨3, ![2048, 5, 64]⟩
abbrev S2048x5x1 : Shape := ⟨3, ![2048, 5, 1]⟩

abbrev nBuf : Space → Nat
  | .hbm => 21
  | .vmem => 17
  | .smem => 0
  | _ => 0

abbrev bufTy : (tb : Table) → Fin (tcTables nBuf tb) → BufTy
  | .hbm, ⟨0, _⟩ => ⟨S2048x2560, .i8⟩
  | .hbm, ⟨1, _⟩ => ⟨S8x1x256, .f32⟩
  | .hbm, ⟨2, _⟩ => ⟨S2048x64, .f32⟩
  | .hbm, ⟨3, _⟩ => ⟨S2048x64, .f32⟩
  | .hbm, ⟨4, _⟩ => ⟨S640x2560, .i8⟩
  | .hbm, ⟨5, _⟩ => ⟨S160x2560, .i8⟩
  | .hbm, ⟨6, _⟩ => ⟨S160x2560, .i8⟩
  | .hbm, ⟨7, _⟩ => ⟨S2560, .f32⟩
  | .hbm, ⟨8, _⟩ => ⟨S640, .f32⟩
  | .hbm, ⟨9, _⟩ => ⟨S640, .f32⟩
  | .hbm, ⟨10, _⟩ => ⟨S2048x1, .f32⟩
  | .hbm, ⟨11, _⟩ => ⟨S1x2560, .f32⟩
  | .hbm, ⟨12, _⟩ => ⟨S1x640, .f32⟩
  | .hbm, ⟨13, _⟩ => ⟨S1x640, .f32⟩
  | .hbm, ⟨14, _⟩ => ⟨S2048x2560, .bf16⟩
  | .hbm, ⟨15, _⟩ => ⟨S2048x640, .bf16⟩
  | .hbm, ⟨16, _⟩ => ⟨S2048x640, .bf16⟩
  | .hbm, ⟨17, _⟩ => ⟨S2048x640, .i8⟩
  | .hbm, ⟨18, _⟩ => ⟨S2048x5, .f32⟩
  | .hbm, ⟨19, _⟩ => ⟨S2048x640, .i8⟩
  | .hbm, ⟨20, _⟩ => ⟨S2048x5, .f32⟩
  | .local _ .vmem, ⟨0, _⟩ => ⟨S2048x2560, .i8⟩
  | .local _ .vmem, ⟨1, _⟩ => ⟨S2048x1, .f32⟩
  | .local _ .vmem, ⟨2, _⟩ => ⟨S2048x64, .f32⟩
  | .local _ .vmem, ⟨3, _⟩ => ⟨S2048x64, .f32⟩
  | .local _ .vmem, ⟨4, _⟩ => ⟨S640x2560, .i8⟩
  | .local _ .vmem, ⟨5, _⟩ => ⟨S160x2560, .i8⟩
  | .local _ .vmem, ⟨6, _⟩ => ⟨S160x2560, .i8⟩
  | .local _ .vmem, ⟨7, _⟩ => ⟨S1x2560, .f32⟩
  | .local _ .vmem, ⟨8, _⟩ => ⟨S1x640, .f32⟩
  | .local _ .vmem, ⟨9, _⟩ => ⟨S1x640, .f32⟩
  | .local _ .vmem, ⟨10, _⟩ => ⟨S2048x2560, .bf16⟩
  | .local _ .vmem, ⟨11, _⟩ => ⟨S2048x640, .bf16⟩
  | .local _ .vmem, ⟨12, _⟩ => ⟨S2048x640, .bf16⟩
  | .local _ .vmem, ⟨13, _⟩ => ⟨S2048x640, .i8⟩
  | .local _ .vmem, ⟨14, _⟩ => ⟨S2048x5, .f32⟩
  | .local _ .vmem, ⟨15, _⟩ => ⟨S2048x640, .i8⟩
  | .local _ .vmem, ⟨16, _⟩ => ⟨S2048x5, .f32⟩
  | _, _ => ⟨S2048x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S2048x2560 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x2560 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x640 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x640 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x640 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x5 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2048x640 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2048x5 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Ternary.lean ====
/- The ternary weights, shared by every call. A weight matrix is stored four rows to a byte: row `n` of `4 * R` is the two-bit
   field `n / R` of byte row `n % R`, less one. The kernels read the bytes of a block as 32-bit words, shift and mask the words
   and read the bytes back; the references widen each byte, shift it and mask it. Here both are shown to give the same
   numbers. -/
module

public import Idealize.ShloMosaic.Lib.BitcastFour
public import Idealize.ShloMosaic.Lib.Pointwise

@[expose] public section

set_option maxRecDepth 16384

noncomputable section

namespace Cert.Ternary

open Idealize.ShloMosaic

/-- Words read back as bytes: bit `q` of byte row `p` is bit `8 * (p % 4) + q` of word row `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 x h (ix2 p l)).getLsbD q = (x (ix2 a l)).getLsbD (8 * (p.val % 4) + q) := by
  rw [bitcast_getLsbD x h _ q hq (by decide)]
  have hrow : Shape.row (s := (⟨2, ![R, n]⟩ : Shape)) (ix2 p l) = p.val := rfl
  rw [show (Shape.row (s := (⟨2, ![R, n]⟩ : Shape)) (ix2 p l) * 8 + q) % 32 = 8 * (p.val % 4) + q by rw [hrow]; omega]
  congr 2
  funext c
  match c with
  | ⟨0, _⟩ => exact Fin.ext ((h.srcIdx_row _ _ _ ⟨0, Nat.zero_lt_two⟩ rfl).trans (by rw [hrow]; show _ = a.val; omega))
  | ⟨1, _⟩ => exact Fin.ext (h.srcIdx_other _ _ _ ⟨1, Nat.one_lt_two⟩ (by show ¬ 1 + 2 = 2; omega))

/-- The mask of the low two bits of each byte of a word. -/
theorem mask_getLsbD (b q : Nat) (hb : b < 4) (hq : q < 8) : (50529027#32).getLsbD (8 * b + q) = decide (q < 2) := by
  have : ∀ b : Fin 4, ∀ q : Fin 8, (50529027#32).getLsbD (8 * b.val + q.val) = decide (q.val < 2) := by decide +kernel
  exact this ⟨b, hb⟩ ⟨q, hq⟩

/-- The mask of the low two bits of one byte. -/
theorem three_getLsbD (q : Nat) (hq : q < 8) : (3#8).getLsbD q = decide (q < 2) := by
  have : ∀ q : Fin 8, (3#8).getLsbD q.val = decide (q.val < 2) := by decide +kernel
  exact this ⟨q, hq⟩

/-- Bytes read as words, the words shifted by a field's position and masked, read back as bytes: each byte shifted and masked. -/
theorem field_ix2 {R r n : Nat} (x : (⟨2, ![R, n]⟩ : Shape).Idx → BitVec 8)
    (h₁ : (⟨2, ![R, n]⟩ : Shape).Bitcasts 8 ⟨2, ![r, n]⟩ 32) (h₂ : (⟨2, ![r, n]⟩ : Shape).Bitcasts 32 ⟨2, ![R, n]⟩ 8)
    (hr : R = 4 * r) (s : BitVec 32) (j : Nat) (hj : j < 4) (hs : s = BitVec.ofNat 32 (2 * j)) (p : Fin R) (l : Fin n) :
    bitcast ⟨2, ![R, n]⟩ 8 (andi (shrui (bitcast ⟨2, ![r, n]⟩ 32 x h₁) (broadcast ⟨2, ![r, n]⟩ s))
      (broadcast ⟨2, ![r, n]⟩ 50529027#32)) h₂ (ix2 p l) = (x (ix2 p l) >>> (2 * j)) &&& 3#8 := by
  subst hs
  apply BitVec.eq_of_getLsbD_eq
  intro q hq
  have hp := p.isLt
  have hlt : (BitVec.ofNat 32 (2 * j)).toNat = 2 * j := by rw [BitVec.toNat_ofNat]; omega
  rw [bitcast_32_8_getLsbD_ix2 _ h₂ p l q hq ⟨p.val / 4, by omega⟩ rfl]
  show (IntOp.andi (IntOp.shrui .vector _ (BitVec.ofNat 32 (2 * j))) (50529027#32)).getLsbD _ = _
  unfold IntOp.andi IntOp.shrui
  rw [if_pos (by rw [hlt]; omega), BitVec.getLsbD_and, BitVec.getLsbD_and, mask_getLsbD _ _ (by omega) hq, three_getLsbD q hq,
    BitVec.getLsbD_ushiftRight, BitVec.ushiftRight_eq', BitVec.getLsbD_ushiftRight, hlt]
  by_cases h : q < 2
  · have e := bitcast_8_32_getLsbD_ix2 x h₁ ⟨p.val / 4, by omega⟩ l (2 * j + (8 * (p.val % 4) + q)) (by omega) p
      (by show p.val = 4 * (p.val / 4) + _; omega)
    rw [show (2 * j + (8 * (p.val % 4) + q)) % 8 = 2 * j + q by omega] at e
    exact congrArg (· && decide (q < 2)) e
  · simp [h]

/-- The weight of a byte's field `j`, as a number: what the reference computes. -/
def weight (j : Nat) (b : BitVec 8) : EReal := ((((IntOp.andi (IntOp.shrsi .vector (b.setWidth 32) (BitVec.ofNat 32 (2 * j))) 3#32) - 1#32).toInt : ℝ) : EReal)

/-- The field read as a byte less one is the same number. -/
theorem field_sub_one (j : Nat) (hj : j < 4) (b : BitVec 8) :
    ((((b >>> (2 * j)) &&& 3#8).toInt : ℝ) : EReal) - 1 = weight j b := by
  have key : ∀ j : Fin 4, ∀ b : BitVec 8, ((IntOp.andi (IntOp.shrsi .vector (b.setWidth 32) (BitVec.ofNat 32 (2 * j.val))) 3#32) - 1#32).toInt
      = ((b >>> (2 * j.val)) &&& 3#8).toInt - 1 := by decide +kernel
  unfold weight
  rw [key ⟨j, hj⟩ b]
  push_cast
  rfl

/-- Entry `(n, k)` of the matrix packed four rows to a byte, `R` bytes to a column: row `n` lies in field `n / R` of
    the bytes of packed row `n % R`. -/
def entry {R K : ℕ} [NeZero R] (W : (⟨2, ![R, K]⟩ : Shape).Idx → BitVec 8) (n : ℕ) (k : Fin K) : EReal :=
  weight (n / R) (W (ix2 (Fin.ofNat R n) k))

/-- Row `r` of the codes against row `n` of the packed matrix. -/
def dot {T R K : ℕ} [NeZero R] (C : (⟨2, ![T, K]⟩ : Shape).Idx → BitVec 8) (W : (⟨2, ![R, K]⟩ : Shape).Idx → BitVec 8)
    (r : Fin T) (n : ℕ) : EReal := ∑ k : Fin K, (((C (ix2 r k)).toInt : ℝ) : EReal) * entry W n k

/-- The four fields one after another, as the reference stacks them, less one: the packed matrix. -/
theorem entry_of_fields {R K : ℕ} [NeZero R] (W : (⟨2, ![R, K]⟩ : Shape).Idx → BitVec 8) (n : ℕ) (hn : n < 4 * R) (k : Fin K) :
    FloatOps.sitofp (F := Ideal) FTy.bf16 (IntOp.subi
      (if h : n < R then IntOp.andi (IntOp.shrsi ArithUnit.vector (BitVec.setWidth 32 (W (ix2 ⟨n, h⟩ k))) 0#32) 3#32
       else if h : n - R < R then IntOp.andi (IntOp.shrsi ArithUnit.vector (BitVec.setWidth 32 (W (ix2 ⟨n - R, h⟩ k))) 2#32) 3#32
       else if h : n - R - R < R then IntOp.andi (IntOp.shrsi ArithUnit.vector (BitVec.setWidth 32 (W (ix2 ⟨n - R - R, h⟩ k))) 4#32) 3#32
       else IntOp.andi (IntOp.shrsi ArithUnit.vector (BitVec.setWidth 32 (W (ix2 ⟨n - R - R - R, by omega⟩ k))) 6#32) 3#32) 1#32)
      = entry W n k := by
  have hR : 0 < R := Nat.pos_of_ne_zero (NeZero.ne R)
  have key : ∀ (j : ℕ) (q : ℕ) (hq : q < R), n = q + j * R → ∀ w : BitVec 32, w = BitVec.ofNat 32 (2 * j) →
      FloatOps.sitofp (F := Ideal) FTy.bf16 (IntOp.subi (IntOp.andi (IntOp.shrsi ArithUnit.vector (BitVec.setWidth 32 (W (ix2 ⟨q, hq⟩ k))) w) 3#32) 1#32)
        = entry W n k := by
    rintro j q hq rfl w rfl
    have e1 : (q + j * R) / R = j := by rw [Nat.add_mul_div_right _ _ hR, Nat.div_eq_of_lt hq, Nat.zero_add]
    have e2 : Fin.ofNat R (q + j * R) = ⟨q, hq⟩ := Fin.ext (by
      show (q + j * R) % R = q
      rw [Nat.add_mul_mod_self_right, Nat.mod_eq_of_lt hq])
    unfold entry
    rw [e1, e2]
    rfl
  split_ifs with h0 h1 h2
  · exact key 0 _ h0 (by omega) _ rfl
  · exact key 1 _ h1 (by omega) _ rfl
  · exact key 2 _ h2 (by omega) _ rfl
  · exact key 3 _ (by omega) (by omega) _ rfl

/-- The gated product at row `r` and column `n`: the gate clipped at zero, squared, times the up part, each a scaled
    product of codes and packed weights. -/
def gatedEntry {T R K N : ℕ} [NeZero R] (C : (⟨2, ![T, K]⟩ : Shape).Idx → BitVec 8) (s : (⟨2, ![1, T]⟩ : Shape).Idx → EReal)
    (Wg Wu : (⟨2, ![R, K]⟩ : Shape).Idx → BitVec 8) (g u : (⟨1, ![N]⟩ : Shape).Idx → EReal) (r : Fin T) (n : Fin N) : EReal :=
  max (dot C Wg r n * s (ix2 0 r) * g (ix1 n)) 0 * max (dot C Wg r n * s (ix2 0 r) * g (ix1 n)) 0
    * (dot C Wu r n * s (ix2 0 r) * u (ix1 n))

end Cert.Ternary
-- ==== Proof.GateUpWeights.lean ====
module

public import proofs.«01_k».proof.Proof.Gen.GateUpIdeal.Value
public import proofs.«01_k».proof.Proof.Ternary
public import Idealize.ShloMosaic.Lib.Pipeline.ValueKit
public import Idealize.ShloMosaic.Lib.Pointwise

@[expose] public section

set_option maxRecDepth 16384

noncomputable section

namespace Cert.GateUpIdeal.Value

open Cert.GateUpIdeal Cert.GateUpIdeal.Gen Idealize.ShloMosaic Idealize.ShloMosaic.TcCoe Idealize.SL.Sem
open Idealize.ShloMosaic.Pipeline (Dat)
open Cert.Ternary (weight)

variable (m : (ℓ : Loc nD τ sig) → Buf (Elt Ideal) ℓ)

/-- The field of the packed rows that piece `κ` of a grid point's weight tile comes from, as the kernel computes it. -/
def field (i : grid0.Coords) (κ : BitVec 32) : BitVec 32 :=
  Scalar.select
    (Scalar.andi
      (Scalar.cmpi .ne
        (Scalar.subi (Scalar.extui (Scalar.cmpi .sgt (Scalar.addi (Scalar.muli (BitVec.ofNat 32 (i 0).val) 4#32) κ) 0#32))
          (Scalar.extui (Scalar.cmpi .slt (Scalar.addi (Scalar.muli (BitVec.ofNat 32 (i 0).val) 4#32) κ) 0#32))) 1#32)
      (Scalar.cmpi .ne (Scalar.remsi (Scalar.addi (Scalar.muli (BitVec.ofNat 32 (i 0).val) 4#32) κ) 27#32) 0#32))
    (Scalar.subi (Scalar.divsi (Scalar.addi (Scalar.muli (BitVec.ofNat 32 (i 0).val) 4#32) κ) 27#32) 1#32)
    (Scalar.divsi (Scalar.addi (Scalar.muli (BitVec.ofNat 32 (i 0).val) 4#32) κ) 27#32)

/-- Piece `κ` of point `t` is the field `(4 t + κ) / 27` of the 64 byte rows from `(4 t + κ) % 27 * 64`. -/
theorem field_val : ∀ t : Fin cfg0.N, ∀ κ : Fin 4,
    Scalar.muli 2#32 (field (grid0.coords t) (BitVec.ofNat 32 κ.val)) = BitVec.ofNat 32 (2 * ((4 * t.val + κ.val) / 27))
    ∧ k0_off1 (grid0.coords t) (BitVec.ofNat 32 κ.val) = ![(4 * t.val + κ.val) % 27 * 64, 0] ∧ t.val < 27 :=
  (by decide +kernel : ∀ t : Fin grid0.N, ∀ κ : Fin 4, _)

/-- A decoded piece, read at an index. -/
theorem decode_at (s : BitVec 32) (j : ℕ) (hj : j < 4) (hs : Scalar.muli 2#32 s = BitVec.ofNat 32 (2 * j))
    (x : Vec Ideal S64x2560 .i8) (a : Fin 64) (k : Fin 2560) :
    k0_pay9 (F := Ideal) s x (ix2 a k) = weight j (x (ix2 a k)) := by
  unfold k0_pay9
  pointwise
  rw [hs, Ternary.field_ix2 x _ _ rfl _ j hj rfl a k]
  exact Ternary.field_sub_one j hj _

theorem pay8_eq (i : grid0.Coords) (x : Vec Ideal S64x2560 .i8) : k0_pay8 (F := Ideal) (k0_pay7 i x) = k0_pay9 (field i 0#32) x := rfl

/-- The weight tile a point builds: eight pieces of 64 rows, the gate's four first. -/
def tile (p0 p1 p2 p3 q0 q1 q2 q3 : FVec Ideal S64x2560 .bf16) : FVec Ideal S512x2560 .bf16 :=
  (View.whole cc0_scratch0).readCov (Val := Elt Ideal)
    [⟨Rect.unit ![448, 0] ![64, 2560] inb_S512x2560_S64x2560_448_0, q3⟩,
      ⟨Rect.unit ![192, 0] ![64, 2560] inb_S512x2560_S64x2560_192_0, p3⟩,
      ⟨Rect.unit ![384, 0] ![64, 2560] inb_S512x2560_S64x2560_384_0, q2⟩,
      ⟨Rect.unit ![128, 0] ![64, 2560] inb_S512x2560_S64x2560_128_0, p2⟩,
      ⟨Rect.unit ![320, 0] ![64, 2560] inb_S512x2560_S64x2560_320_0, q1⟩,
      ⟨Rect.unit ![64, 0] ![64, 2560] inb_S512x2560_S64x2560_64_0, p1⟩,
      ⟨Rect.unit ![256, 0] ![64, 2560] inb_S512x2560_S64x2560_256_0, q0⟩,
      ⟨Rect.unit ![0, 0] ![64, 2560] inb_S512x2560_S64x2560_0_0, p0⟩]
    (Rect.unit (s := S512x2560) ![0, 0] ![512, 2560] inb_S512x2560_S512x2560_0_0).toLoadRect

/-- A tile built of pieces that each hold the rows of one function holds the rows of that function. -/
theorem tile_at (p0 p1 p2 p3 q0 q1 q2 q3 : FVec Ideal S64x2560 .bf16) (f : Fin 512 → Fin 2560 → EReal)
    (hp0 : ∀ (a : Fin 64) k, p0 (ix2 a k) = f ⟨a.val, by omega⟩ k) (hp1 : ∀ (a : Fin 64) k, p1 (ix2 a k) = f ⟨64 + a.val, by omega⟩ k)
    (hp2 : ∀ (a : Fin 64) k, p2 (ix2 a k) = f ⟨128 + a.val, by omega⟩ k) (hp3 : ∀ (a : Fin 64) k, p3 (ix2 a k) = f ⟨192 + a.val, by omega⟩ k)
    (hq0 : ∀ (a : Fin 64) k, q0 (ix2 a k) = f ⟨256 + a.val, by omega⟩ k) (hq1 : ∀ (a : Fin 64) k, q1 (ix2 a k) = f ⟨320 + a.val, by omega⟩ k)
    (hq2 : ∀ (a : Fin 64) k, q2 (ix2 a k) = f ⟨384 + a.val, by omega⟩ k) (hq3 : ∀ (a : Fin 64) k, q3 (ix2 a k) = f ⟨448 + a.val, by omega⟩ k)
    (r : Fin 512) (k : Fin 2560) : tile p0 p1 p2 p3 q0 q1 q2 q3 (ix2 r k) = f r k := by
  unfold tile
  rw [View.readCov_eq_canon']
  have e : (Rect.unit (s := S512x2560) ![0, 0] ![512, 2560] inb_S512x2560_S512x2560_0_0).idx (ix2 r k) = ix2 r k := by
    funext a
    match a with
    | ⟨0, _⟩ => exact Fin.ext (by show 0 + 1 * r.val = r.val; omega)
    | ⟨1, _⟩ => exact Fin.ext (by show 0 + 1 * k.val = k.val; omega)
  dsimp only
  rw [e]
  canon_tiles x h
  all_goals
    idx_vars x
    first
      | exact (hp0 _ _).trans (congrArg₂ f (Fin.ext h0.symm) (Fin.ext h1.symm))
      | exact (hp1 _ _).trans (congrArg₂ f (Fin.ext h0.symm) (Fin.ext h1.symm))
      | exact (hp2 _ _).trans (congrArg₂ f (Fin.ext h0.symm) (Fin.ext h1.symm))
      | exact (hp3 _ _).trans (congrArg₂ f (Fin.ext h0.symm) (Fin.ext h1.symm))
      | exact (hq0 _ _).trans (congrArg₂ f (Fin.ext h0.symm) (Fin.ext h1.symm))
      | exact (hq1 _ _).trans (congrArg₂ f (Fin.ext h0.symm) (Fin.ext h1.symm))
      | exact (hq2 _ _).trans (congrArg₂ f (Fin.ext h0.symm) (Fin.ext h1.symm))
      | exact (hq3 _ _).trans (congrArg₂ f (Fin.ext h0.symm) (Fin.ext h1.symm))

/-- A decoded piece of a matrix `X` of packed rows. -/
def piece (i : grid0.Coords) (κ : BitVec 32) (h : ∀ a, k0_off1 i κ a + S64x2560.size a ≤ S1728x2560.size a)
    (X : Vec Ideal S1728x2560 .i8) : FVec Ideal S64x2560 .bf16 :=
  k0_pay9 (F := Ideal) (field i κ) (View.ld (Val := Elt Ideal) (S := S1728x2560) (e' := .i8) X (Rect.unit (s := S1728x2560) (k0_off1 i κ) S64x2560.size h))

/-- A piece, read at an index: the weight of row `n % 1728`, field `n / 1728`, where `n` is the row of the unpacked matrix. -/
theorem piece_at (t : Fin cfg0.N) (κ : Fin 4) (h) (X : Vec Ideal S1728x2560 .i8) (a : Fin 64) (k : Fin 2560) (j : ℕ) (r : Fin 1728)
    (hj : j = (256 * t.val + 64 * κ.val + a.val) / 1728) (hr : r.val = (256 * t.val + 64 * κ.val + a.val) % 1728) :
    piece (grid0.coords t) (BitVec.ofNat 32 κ.val) h X (ix2 a k) = weight j (X (ix2 r k)) := by
  obtain ⟨hs, ho, ht⟩ := field_val t κ
  have hκ := κ.isLt
  have ha := a.isLt
  unfold piece
  rw [decode_at _ ((4 * t.val + κ.val) / 27) (by omega) hs]
  refine congrArg₂ weight (by omega) ?_
  generalize k0_off1 (grid0.coords t) (BitVec.ofNat 32 κ.val) = off at h ho
  subst ho
  pointwise
  refine congrArg X ?_
  exact (ix2_inj ..).2 ⟨Fin.ext (by show (4 * t.val + κ.val) % 27 * 64 + a.val = r.val; omega), rfl⟩
-- ==== Proof.GateUpBlocks.lean ====
module

public import proofs.«01_k».proof.Proof.Gen.GateUpIdeal.Value
public import proofs.«01_k».proof.Proof.GateUpWeights
public import Idealize.ShloMosaic.Lib.Pipeline.ValueKit
public import Idealize.ShloMosaic.Lib.Pointwise

@[expose] public section

set_option maxRecDepth 16384

noncomputable section

namespace Cert.GateUpIdeal.Value

open Cert.GateUpIdeal Cert.GateUpIdeal.Gen Idealize.ShloMosaic Idealize.ShloMosaic.TcCoe Idealize.SL.Sem
open Idealize.ShloMosaic.Pipeline (Dat)
open Cert.Ternary (weight)

variable (m : (ℓ : Loc nD τ sig) → Buf (Elt Ideal) ℓ)

/-- One entry of the gated product: the row of codes `f` against rows `y` (gate) and `256 + y` (up)
    of the weight tile, each product scaled; the gate clipped at zero, squared, times the up part. -/
def gated (f : Fin 2560 → EReal) (w : FVec Ideal S512x2560 .bf16) (σ : EReal)
    (sg su : FVec Ideal S1x1x256 .f32) (y : Fin 256) : EReal :=
  max ((∑ k, f k * w (ix2 ⟨y.val, by omega⟩ k)) * σ * sg (ix3 0 0 y)) 0
    * max ((∑ k, f k * w (ix2 ⟨y.val, by omega⟩ k)) * σ * sg (ix3 0 0 y)) 0
    * ((∑ k, f k * w (ix2 ⟨256 + y.val, by omega⟩ k)) * σ * su (ix3 0 0 y))

/-- Rows 0 to 511 of a block of the result. -/
theorem f0_at (X w : FVec Ideal S512x2560 .bf16) (s : FVec Ideal S1x1x2048 .f32)
    (sg su : FVec Ideal S1x1x256 .f32) (a : Fin 512) (y : Fin 256) (r : Fin 2048) (hr : r.val = a.val) :
    k0_pay16 (F := Ideal) X w s sg su (ix2 a y)
      = gated (fun k => X (ix2 a k)) w (s (ix3 0 0 r)) sg su y := by
  obtain rfl : r = ⟨a.val, by clear hr; omega⟩ := Fin.ext hr
  pointwise [k0_pay16, gated]

/-- Rows 512 to 1023 of a block of the result. -/
theorem f1_at (X w : FVec Ideal S512x2560 .bf16) (s : FVec Ideal S1x1x2048 .f32)
    (sg su : FVec Ideal S1x1x256 .f32) (a : Fin 512) (y : Fin 256) (r : Fin 2048) (hr : r.val = 512 + a.val) :
    k0_pay23 (F := Ideal) (k0_pay21 X w s su) (k0_pay22 X w s sg) (ix2 a y)
      = gated (fun k => X (ix2 a k)) w (s (ix3 0 0 r)) sg su y := by
  obtain rfl : r = ⟨512 + a.val, by clear hr; omega⟩ := Fin.ext hr
  pointwise [k0_pay23, k0_pay21, k0_pay22, k0_pay19, k0_pay20, gated]

/-- Rows 1024 to 1535 of a block of the result. -/
theorem f2_at (X w : FVec Ideal S512x2560 .bf16) (s : FVec Ideal S1x1x2048 .f32)
    (sg su : FVec Ideal S1x1x256 .f32) (a : Fin 512) (y : Fin 256) (r : Fin 2048) (hr : r.val = 1024 + a.val) :
    k0_pay30 (F := Ideal) (k0_pay28 X w s sg) (k0_pay29 X w s su) (ix2 a y)
      = gated (fun k => X (ix2 a k)) w (s (ix3 0 0 r)) sg su y := by
  obtain rfl : r = ⟨1024 + a.val, by clear hr; omega⟩ := Fin.ext hr
  pointwise [k0_pay30, k0_pay28, k0_pay29, k0_pay26, k0_pay27, gated]

/-- Rows 1536 to 2047 of a block of the result. -/
theorem f3_at (X w : FVec Ideal S512x2560 .bf16) (s : FVec Ideal S1x1x2048 .f32)
    (sg su : FVec Ideal S1x1x256 .f32) (a : Fin 512) (y : Fin 256) (r : Fin 2048) (hr : r.val = 1536 + a.val) :
    k0_pay1 (F := Ideal) (k0_pay35 X w s sg) (k0_pay36 X w s) su (ix2 a y)
      = gated (fun k => X (ix2 a k)) w (s (ix3 0 0 r)) sg su y := by
  obtain rfl : r = ⟨1536 + a.val, by clear hr; omega⟩ := Fin.ext hr
  pointwise [k0_pay1, k0_pay35, k0_pay36, k0_pay33, k0_pay34, gated]

/-- The running sums of squares, 128 lanes to a row, take on the squares of a block. -/
theorem ss_at (f : FVec Ideal S512x256 .f32) (S : FVec Ideal S512x128 .f32) (a : Fin 512) (l : Fin 128) :
    k0_pay18 (F := Ideal) f S (ix2 a l) = S (ix2 a l) + (f (ix2 a ⟨l.val, by omega⟩) * f (ix2 a ⟨l.val, by omega⟩)
      + f (ix2 a ⟨128 + l.val, by omega⟩) * f (ix2 a ⟨128 + l.val, by omega⟩)) := by
  pointwise [k0_pay18]

theorem cb_step (c : Dev nD) (t : Fin cfg0.N) (h0 : ¬t.val % 27 = 0) :
    (outsAt0 m c t.val t.isLt).2.2.2.1 = (outsAt0 m c (t.val - 1) (by omega)).2.2.2.1 := by
  by_cases h1 : t.val % 27 = 26
  · rw [outsAt0_C m c t h0 h1]
    rfl
  · rw [outsAt0_B m c t h0 h1]
    rfl

/-- The arguments. -/
def codesArg (c : Dev nD) : Vec Ideal S2048x2560 .i8 := m (c, Proc.tc.devRef main_arg0)
def scaleArg (c : Dev nD) : Vec Ideal S1x2048 .f32 := m (c, Proc.tc.devRef main_arg1)
def gateArg (c : Dev nD) : Vec Ideal S1728x2560 .i8 := m (c, Proc.tc.devRef main_arg2)
def upArg (c : Dev nD) : Vec Ideal S1728x2560 .i8 := m (c, Proc.tc.devRef main_arg3)
def gateScaleArg (c : Dev nD) : Vec Ideal S6912 .f32 := m (c, Proc.tc.devRef main_arg4)
def upScaleArg (c : Dev nD) : Vec Ideal S6912 .f32 := m (c, Proc.tc.devRef main_arg5)

theorem idx0 : ∀ t : Fin cfg0.N, win0_0.index t = ![0, 0] ∧ win0_1.index t = ![0, 0, 0] ∧ win0_2.index t = ![0, 0] ∧ win0_3.index t = ![0, 0]
   ∧ win0_4.index t = ![t.val, 0, 0] ∧ win0_5.index t = ![t.val, 0, 0] ∧ win0_6.index t = ![0, t.val] ∧ win0_7.index t = ![0, t.val] := by
  decide +kernel

theorem codes_blk (c) (t: Fin cfg0.N) (r k) : iblk m c 0 t (ix2 r k) = codesArg m c (ix2 r k) := by
  unfold codesArg
  blk_point [iblk, V, idx0 t]
theorem scale_blk (c) (t: Fin cfg0.N) (r ) : iblk m c 1 t (ix3 0 0 r) = scaleArg m c (ix2 0 r) := by
  unfold scaleArg
  blk_point [iblk, V, idx0 t]
theorem gate_blk (c) (t: Fin cfg0.N) (r k) : iblk m c 2 t (ix2 r k) = gateArg m c (ix2 r k) := by
  unfold gateArg
  blk_point [iblk, V, idx0 t]
theorem up_blk (c) (t: Fin cfg0.N) (r k) : iblk m c 3 t (ix2 r k) = upArg m c (ix2 r k) := by
  unfold upArg
  blk_point [iblk, V, idx0 t]
theorem gateScale_blk (c) (t: Fin cfg0.N) (r : Fin 256) (q : Fin 6912) (hq : q.val = 256 * t.val + r.val) :
    iblk m c 4 t (ix3 0 0 r) = gateScaleArg m c (ix1 q) := by
  unfold gateScaleArg
  blk_point [iblk, V, idx0 t]
theorem upScale_blk (c) (t: Fin cfg0.N) (r : Fin 256) (q : Fin 6912) (hq : q.val = 256 * t.val + r.val) :
    iblk m c 5 t (ix3 0 0 r) = upScaleArg m c (ix1 q) := by
  unfold upScaleArg
  blk_point [iblk, V, idx0 t]

/-- After every point the scratch holds the codes. -/
theorem cb_at (c : Dev nD) (n : ℕ) (h : n < cfg0.N) (r : Fin 2048) (k : Fin 2560) :
    (outsAt0 m c n h).2.2.2.1 (ix2 r k) = (((codesArg m c (ix2 r k)).toInt : ℝ) : EReal) := by
  induction n with
  | zero =>
    rw [outsAt0_A m c ⟨0, h⟩ (by rfl) (by show ¬ 0 % 27 = 26; omega)]
    frame_out
    rw [← codes_blk m c ⟨0, h⟩ r k]
    pointwise [k0_pay5]
    rfl
  | succ n ih =>
    have hN := lt_of_lt_of_eq h (show cfg0.N = 27 from N_0)
    exact (congrFun (cb_step m c ⟨n + 1, h⟩ (by show ¬ (n + 1) % 27 = 0; omega)) (ix2 r k)).trans (ih _)

theorem off_ok (t : Fin cfg0.N) (κ : Fin 4) : ∀ a, k0_off1 (grid0.coords t) (BitVec.ofNat 32 κ.val) a + S64x2560.size a ≤ S1728x2560.size a := by
  obtain ⟨-, e, -⟩ := field_val t κ
  rw [e]
  intro a
  match a with
  | ⟨0, _⟩ => show (4 * t.val + κ.val) % 27 * 64 + 64 ≤ 1728; omega
  | ⟨1, _⟩ => show 0 + 2560 ≤ 2560; omega

/-- The weight tile of grid point `t`. -/
def wt (c : Dev nD) (t : Fin cfg0.N) : FVec Ideal S512x2560 .bf16 :=
  tile (piece (grid0.coords t) 0#32 (off_ok t 0) (iblk m c 2 t)) (piece (grid0.coords t) 1#32 (off_ok t 1) (iblk m c 2 t))
    (piece (grid0.coords t) 2#32 (off_ok t 2) (iblk m c 2 t)) (piece (grid0.coords t) 3#32 (off_ok t 3) (iblk m c 2 t))
    (piece (grid0.coords t) 0#32 (off_ok t 0) (iblk m c 3 t)) (piece (grid0.coords t) 1#32 (off_ok t 1) (iblk m c 3 t))
    (piece (grid0.coords t) 2#32 (off_ok t 2) (iblk m c 3 t)) (piece (grid0.coords t) 3#32 (off_ok t 3) (iblk m c 3 t))

/-- The codes of row `r`, as numbers. -/
def codes (c : Dev nD) (r : Fin 2048) (k : Fin 2560) : EReal := (((codesArg m c (ix2 r k)).toInt : ℝ) : EReal)

/-- The block of results of grid point `t`. -/
def F (c : Dev nD) (t : Fin cfg0.N) (r : Fin 2048) (y : Fin 256) : EReal :=
  gated (codes m c r) (wt m c t) (scaleArg m c (ix2 0 r)) (iblk m c 4 t) (iblk m c 5 t) y

theorem gated_congr {f g : Fin 2560 → EReal} {σ τ : EReal} (w sg su y) (hf : f = g) (hσ : σ = τ) :
    gated f w σ sg su y = gated g w τ sg su y := by rw [hf, hσ]

theorem cbv (c : Dev nD) (t : Fin cfg0.N) (r : Fin 2048) (k : Fin 2560) :
    k0_pay5 (F := Ideal) (iblk m c 0 t) (ix2 r k) = codes m c r k := by
  unfold codes
  rw [← codes_blk m c t r k]
  pointwise [k0_pay5]
  rfl

theorem row_idx (off : ℕ) (h : ∀ a, (![off, 0] : Fin 2 → ℕ) a + S512x2560.size a ≤ S2048x2560.size a)
    (a : Fin 512) (r : Fin 2048) (hr : r.val = off + a.val) (k : Fin 2560) :
    (Rect.unit (s := S2048x2560) ![off, 0] ![512, 2560] h).idx (ix2 a k) = (ix2 r k : S2048x2560.Idx) := by
  funext b
  match b with
  | ⟨0, _⟩ => exact Fin.ext (by show off + 1 * a.val = r.val; omega)
  | ⟨1, _⟩ => exact Fin.ext (by show 0 + 1 * k.val = k.val; omega)

theorem row_A (c : Dev nD) (t : Fin cfg0.N) (off : ℕ) (h : ∀ a, (![off, 0] : Fin 2 → ℕ) a + S512x2560.size a ≤ S2048x2560.size a)
    (a : Fin 512) (r : Fin 2048) (hr : r.val = off + a.val) (k : Fin 2560) :
    (View.whole cc0_scratch1).readCov (Val := Elt Ideal) [⟨Rect.unit ![0, 0] ![2048, 2560] inb_S2048x2560_S2048x2560_0_0, k0_pay5 (F := Ideal) (iblk m c 0 t)⟩]
      (Rect.unit (s := S2048x2560) ![off, 0] ![512, 2560] h).toLoadRect (ix2 a k) = codes m c r k := by
  rw [View.readCov_eq_canon']
  dsimp only
  rw [row_idx off h a r hr k]
  canon_tiles x h
  idx_vars x
  rw [cbv]
  exact congrArg₂ (codes m c) (Fin.ext (by omega)) (Fin.ext (by omega))

theorem row_B (X : Vec Ideal S2048x2560 .bf16) (off : ℕ) (h : ∀ a, (![off, 0] : Fin 2 → ℕ) a + S512x2560.size a ≤ S2048x2560.size a)
    (a : Fin 512) (r : Fin 2048) (hr : r.val = off + a.val) (k : Fin 2560) :
    View.ld (Val := Elt Ideal) (S := S2048x2560) (e' := .bf16) (View.read (Elt Ideal) (View.whole cc0_scratch1) ((Memref.isWhole_whole cc0_scratch1).unread X))
      (Rect.unit (s := S2048x2560) ![off, 0] ![512, 2560] h) (ix2 a k) = X (ix2 r k) := by
  rw [(Memref.isWhole_whole cc0_scratch1).read_unread]
  exact congrArg X (row_idx off h a r hr k)

theorem F_of (c : Dev nD) (t : Fin cfg0.N) (r : Fin 2048) (y y' : Fin 256) (f : Fin 2560 → EReal) (hf : ∀ k, f k = codes m c r k)
    (hy : y = y') : gated f (wt m c t) (iblk m c 1 t (ix3 0 0 r)) (iblk m c 4 t) (iblk m c 5 t) y' = F m c t r y := by
  subst hy
  exact gated_congr _ _ _ _ (funext hf) (scale_blk m c t r)

variable {m} in
/-- The four row tiles of a block, each an entry of `F`, from the row tiles of the codes. -/
theorem tiles {c : Dev nD} {t : Fin cfg0.N} {X0 X1 X2 X3 : FVec Ideal S512x2560 .bf16}
    (e0 : ∀ (a : Fin 512) k, X0 (ix2 a k) = codes m c ⟨a.val, by omega⟩ k) (e1 : ∀ (a : Fin 512) k, X1 (ix2 a k) = codes m c ⟨512 + a.val, by omega⟩ k)
    (e2 : ∀ (a : Fin 512) k, X2 (ix2 a k) = codes m c ⟨1024 + a.val, by omega⟩ k) (e3 : ∀ (a : Fin 512) k, X3 (ix2 a k) = codes m c ⟨1536 + a.val, by omega⟩ k) (a : Fin 512) (y : Fin 256) :
    k0_pay16 (F := Ideal) X0 (wt m c t) (iblk m c 1 t) (iblk m c 4 t) (iblk m c 5 t) (ix2 a y) = F m c t ⟨0 + a.val, by omega⟩ y ∧
    k0_pay23 (F := Ideal) (k0_pay21 X1 (wt m c t) (iblk m c 1 t) (iblk m c 5 t)) (k0_pay22 X1 (wt m c t) (iblk m c 1 t) (iblk m c 4 t)) (ix2 a y) = F m c t ⟨512 + a.val, by omega⟩ y ∧
    k0_pay30 (F := Ideal) (k0_pay28 X2 (wt m c t) (iblk m c 1 t) (iblk m c 4 t)) (k0_pay29 X2 (wt m c t) (iblk m c 1 t) (iblk m c 5 t)) (ix2 a y) = F m c t ⟨1024 + a.val, by omega⟩ y ∧
    k0_pay1 (F := Ideal) (k0_pay35 X3 (wt m c t) (iblk m c 1 t) (iblk m c 4 t)) (k0_pay36 X3 (wt m c t) (iblk m c 1 t)) (iblk m c 5 t) (ix2 a y) = F m c t ⟨1536 + a.val, by omega⟩ y := by
  have key : ∀ (X : FVec Ideal S512x2560 .bf16) (r : Fin 2048), (∀ k, X (ix2 a k) = codes m c r k) →
      gated (fun k => X (ix2 a k)) (wt m c t) (iblk m c 1 t (ix3 0 0 r)) (iblk m c 4 t) (iblk m c 5 t) y = F m c t r y := fun X r hX =>
    gated_congr _ _ _ _ (funext hX) (scale_blk m c t r)
  exact ⟨(f0_at _ _ _ _ _ _ _ _ (by show 0 + a.val = _; omega)).trans (key _ _ fun k => (e0 a k).trans (congrArg (codes m c · k) (Fin.ext (by show a.val = 0 + a.val; omega)))),
    (f1_at _ _ _ _ _ _ _ _ rfl).trans (key _ _ (e1 a)), (f2_at _ _ _ _ _ _ _ _ rfl).trans (key _ _ (e2 a)), (f3_at _ _ _ _ _ _ _ _ rfl).trans (key _ _ (e3 a))⟩

theorem block_f (c : Dev nD) (t : Fin cfg0.N) (X0 X1 X2 X3 : FVec Ideal S512x2560 .bf16)
    (e0 : ∀ (a : Fin 512) k, X0 (ix2 a k) = codes m c ⟨a.val, by omega⟩ k) (e1 : ∀ (a : Fin 512) k, X1 (ix2 a k) = codes m c ⟨512 + a.val, by omega⟩ k)
    (e2 : ∀ (a : Fin 512) k, X2 (ix2 a k) = codes m c ⟨1024 + a.val, by omega⟩ k) (e3 : ∀ (a : Fin 512) k, X3 (ix2 a k) = codes m c ⟨1536 + a.val, by omega⟩ k)
    (r : Fin 2048) (y : Fin 256) :
  View.canon (Val := Elt Ideal) (e := .f32) [⟨Rect.unit (s := S2048x256) ![1536, 0] ![512, 256] inb_S2048x256_S512x256_1536_0, k0_pay1 (F := Ideal) (k0_pay35 X3 (wt m c t) (iblk m c 1 t) (iblk m c 4 t)) (k0_pay36 X3 (wt m c t) (iblk m c 1 t)) (iblk m c 5 t)⟩,
    ⟨Rect.unit ![1024, 0] ![512, 256] inb_S2048x256_S512x256_1024_0, k0_pay30 (F := Ideal) (k0_pay28 X2 (wt m c t) (iblk m c 1 t) (iblk m c 4 t)) (k0_pay29 X2 (wt m c t) (iblk m c 1 t) (iblk m c 5 t))⟩,
    ⟨Rect.unit ![512, 0] ![512, 256] inb_S2048x256_S512x256_512_0, k0_pay23 (F := Ideal) (k0_pay21 X1 (wt m c t) (iblk m c 1 t) (iblk m c 5 t)) (k0_pay22 X1 (wt m c t) (iblk m c 1 t) (iblk m c 4 t))⟩,
    ⟨Rect.unit ![0, 0] ![512, 256] inb_S2048x256_S512x256_0_0, k0_pay16 (F := Ideal) X0 (wt m c t) (iblk m c 1 t) (iblk m c 4 t) (iblk m c 5 t)⟩] (ix2 r y) = F m c t r y := by
  canon_tiles x h
  all_goals idx_vars x
  · exact (tiles e0 e1 e2 e3 _ _).2.2.2.trans (congrArg₂ (F m c t) (Fin.ext h0.symm) (Fin.ext (by omega)))
  · exact (tiles e0 e1 e2 e3 _ _).2.2.1.trans (congrArg₂ (F m c t) (Fin.ext h0.symm) (Fin.ext (by omega)))
  · exact (tiles e0 e1 e2 e3 _ _).2.1.trans (congrArg₂ (F m c t) (Fin.ext h0.symm) (Fin.ext (by omega)))
  · exact (tiles e0 e1 e2 e3 _ _).1.trans (congrArg₂ (F m c t) (Fin.ext (by show 0 + x0.val = r.val; omega)) (Fin.ext (by omega)))

theorem block_b (c : Dev nD) (t : Fin cfg0.N) (X0 X1 X2 X3 : FVec Ideal S512x2560 .bf16)
    (e0 : ∀ (a : Fin 512) k, X0 (ix2 a k) = codes m c ⟨a.val, by omega⟩ k) (e1 : ∀ (a : Fin 512) k, X1 (ix2 a k) = codes m c ⟨512 + a.val, by omega⟩ k)
    (e2 : ∀ (a : Fin 512) k, X2 (ix2 a k) = codes m c ⟨1024 + a.val, by omega⟩ k) (e3 : ∀ (a : Fin 512) k, X3 (ix2 a k) = codes m c ⟨1536 + a.val, by omega⟩ k)
    (r : Fin 2048) (y : Fin 256) :
  View.canon (Val := Elt Ideal) (e := .bf16) [⟨Rect.unit (s := S2048x256) ![1536, 0] ![512, 256] inb_S2048x256_S512x256_1536_0, k0_pay2 (F := Ideal) (k0_pay35 X3 (wt m c t) (iblk m c 1 t) (iblk m c 4 t)) (k0_pay36 X3 (wt m c t) (iblk m c 1 t)) (iblk m c 5 t)⟩,
    ⟨Rect.unit ![1024, 0] ![512, 256] inb_S2048x256_S512x256_1024_0, k0_pay31 (F := Ideal) (k0_pay28 X2 (wt m c t) (iblk m c 1 t) (iblk m c 4 t)) (k0_pay29 X2 (wt m c t) (iblk m c 1 t) (iblk m c 5 t))⟩,
    ⟨Rect.unit ![512, 0] ![512, 256] inb_S2048x256_S512x256_512_0, k0_pay24 (F := Ideal) (k0_pay21 X1 (wt m c t) (iblk m c 1 t) (iblk m c 5 t)) (k0_pay22 X1 (wt m c t) (iblk m c 1 t) (iblk m c 4 t))⟩,
    ⟨Rect.unit ![0, 0] ![512, 256] inb_S2048x256_S512x256_0_0, k0_pay17 (k0_pay16 (F := Ideal) X0 (wt m c t) (iblk m c 1 t) (iblk m c 4 t) (iblk m c 5 t))⟩] (ix2 r y) = F m c t r y := by
  canon_tiles x h
  all_goals idx_vars x
  · exact (tiles e0 e1 e2 e3 _ _).2.2.2.trans (congrArg₂ (F m c t) (Fin.ext h0.symm) (Fin.ext (by omega)))
  · exact (tiles e0 e1 e2 e3 _ _).2.2.1.trans (congrArg₂ (F m c t) (Fin.ext h0.symm) (Fin.ext (by omega)))
  · exact (tiles e0 e1 e2 e3 _ _).2.1.trans (congrArg₂ (F m c t) (Fin.ext h0.symm) (Fin.ext (by omega)))
  · exact (tiles e0 e1 e2 e3 _ _).1.trans (congrArg₂ (F m c t) (Fin.ext (by show 0 + x0.val = r.val; omega)) (Fin.ext (by omega)))

/-- What a block adds to lane `l` of the sums of squares of row `r`. -/
def sq (c : Dev nD) (t : Fin cfg0.N) (r : Fin 2048) (l : Fin 128) : EReal :=
  F m c t r ⟨l.val, by omega⟩ * F m c t r ⟨l.val, by omega⟩ + F m c t r ⟨128 + l.val, by omega⟩ * F m c t r ⟨128 + l.val, by omega⟩

variable {m} in
theorem ss_tile {c : Dev nD} {t : Fin cfg0.N} {f : FVec Ideal S512x256 .f32} {S : FVec Ideal S512x128 .f32} {P : Fin 2048 → Fin 128 → EReal}
    {a : Fin 512} {l : Fin 128} {r r' : Fin 2048} {l' : Fin 128} (hf : ∀ y, f (ix2 a y) = F m c t r y) (hS : S (ix2 a l) = P r l)
    (hr : r'.val = r.val) (hl : l'.val = l.val) :
    k0_pay18 (F := Ideal) f S (ix2 a l) = P r' l' + sq m c t r' l' := by
  obtain rfl : r' = r := Fin.ext hr
  obtain rfl : l' = l := Fin.ext hl
  rw [ss_at, hf, hf, hS]
  rfl

theorem block_s (c : Dev nD) (t : Fin cfg0.N) (X0 X1 X2 X3 : FVec Ideal S512x2560 .bf16) (S0 S1 S2 S3 : FVec Ideal S512x128 .f32)
    (e0 : ∀ (a : Fin 512) k, X0 (ix2 a k) = codes m c ⟨a.val, by omega⟩ k) (e1 : ∀ (a : Fin 512) k, X1 (ix2 a k) = codes m c ⟨512 + a.val, by omega⟩ k)
    (e2 : ∀ (a : Fin 512) k, X2 (ix2 a k) = codes m c ⟨1024 + a.val, by omega⟩ k) (e3 : ∀ (a : Fin 512) k, X3 (ix2 a k) = codes m c ⟨1536 + a.val, by omega⟩ k)
    (P : Fin 2048 → Fin 128 → EReal)
    (p0 : ∀ (a : Fin 512) l, S0 (ix2 a l) = P ⟨0 + a.val, by omega⟩ l) (p1 : ∀ (a : Fin 512) l, S1 (ix2 a l) = P ⟨512 + a.val, by omega⟩ l)
    (p2 : ∀ (a : Fin 512) l, S2 (ix2 a l) = P ⟨1024 + a.val, by omega⟩ l) (p3 : ∀ (a : Fin 512) l, S3 (ix2 a l) = P ⟨1536 + a.val, by omega⟩ l)
    (r : Fin 2048) (l : Fin 128) :
  View.canon (Val := Elt Ideal) (e := .f32) [⟨Rect.unit (s := S2048x128) ![1536, 0] ![512, 128] inb_S2048x128_S512x128_1536_0, k0_pay3 (F := Ideal) (k0_pay35 X3 (wt m c t) (iblk m c 1 t) (iblk m c 4 t)) (k0_pay36 X3 (wt m c t) (iblk m c 1 t)) (iblk m c 5 t) S3⟩,
    ⟨Rect.unit ![1024, 0] ![512, 128] inb_S2048x128_S512x128_1024_0, k0_pay32 (F := Ideal) (k0_pay28 X2 (wt m c t) (iblk m c 1 t) (iblk m c 4 t)) (k0_pay29 X2 (wt m c t) (iblk m c 1 t) (iblk m c 5 t)) S2⟩,
    ⟨Rect.unit ![512, 0] ![512, 128] inb_S2048x128_S512x128_512_0, k0_pay25 (F := Ideal) (k0_pay21 X1 (wt m c t) (iblk m c 1 t) (iblk m c 5 t)) (k0_pay22 X1 (wt m c t) (iblk m c 1 t) (iblk m c 4 t)) S1⟩,
    ⟨Rect.unit ![0, 0] ![512, 128] inb_S2048x128_S512x128_0_0, k0_pay18 (k0_pay16 (F := Ideal) X0 (wt m c t) (iblk m c 1 t) (iblk m c 4 t) (iblk m c 5 t)) S0⟩] (ix2 r l) = P r l + sq m c t r l := by
  canon_tiles x h
  all_goals idx_vars x
  · exact ss_tile (fun y => (tiles e0 e1 e2 e3 _ y).2.2.2) (p3 _ _) h0 h1
  · exact ss_tile (fun y => (tiles e0 e1 e2 e3 _ y).2.2.1) (p2 _ _) h0 h1
  · exact ss_tile (fun y => (tiles e0 e1 e2 e3 _ y).2.1) (p1 _ _) h0 h1
  · exact ss_tile (fun y => (tiles e0 e1 e2 e3 _ y).1) (p0 _ _) (by show r.val = 0 + x0.val; omega) h1

theorem cover_cons {Val : EltTy → Type} {S : Shape} {e : EltTy} (p : View.Piece Val S e) {L : List (View.Piece Val S e)} {y : S.Idx}
    (h : ∃ q ∈ L, y ∈ q.1.set) : ∃ q ∈ p :: L, y ∈ q.1.set := by
  obtain ⟨q, hq, hy⟩ := h
  exact ⟨q, List.mem_cons_of_mem _ hq, hy⟩

/-- Stores behind stores that hold an index do not show there. -/
theorem canon_append_of_cover {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append_of_cover L' y L ?_
      obtain ⟨q, hq, hyq⟩ := hc
      rcases List.mem_cons.mp hq with rfl | hq'
      · exact absurd hyq hm
      · exact ⟨q, hq', hyq⟩

theorem f_at (c : Dev nD) (t : Fin cfg0.N) (r : Fin 2048) (y : Fin 256) :
    (outsAt0 m c t.val t.isLt).1 (ix2 r y) = F m c t r y ∧ (outsAt0 m c t.val t.isLt).2.1 (ix2 r y) = F m c t r y := by
  by_cases h0 : t.val % 27 = 0
  · have h1 : ¬t.val % 27 = 26 := by omega
    rw [outsAt0_A m c t h0 h1]
    frame_out
    constructor
    · exact block_f m c t _ _ _ _ (fun a k => row_A m c t 0 _ a _ (by show a.val = 0 + a.val; omega) k) (fun a k => row_A m c t 512 _ a _ rfl k)
        (fun a k => row_A m c t 1024 _ a _ rfl k) (fun a k => row_A m c t 1536 _ a _ rfl k) r y
    · exact block_b m c t _ _ _ _ (fun a k => row_A m c t 0 _ a _ (by show a.val = 0 + a.val; omega) k) (fun a k => row_A m c t 512 _ a _ rfl k)
        (fun a k => row_A m c t 1024 _ a _ rfl k) (fun a k => row_A m c t 1536 _ a _ rfl k) r y
  have cb := fun off h a r hr k => (row_B (outsAt0 m c (t.val - 1) (by omega)).2.2.2.1 off h a r hr k).trans (cb_at m c _ _ r k)
  by_cases h1 : t.val % 27 = 26
  · rw [outsAt0_C m c t h0 h1]
    frame_out
    exact ⟨block_f m c t _ _ _ _ (fun a k => cb 0 _ a _ (by show a.val = 0 + a.val; omega) k) (fun a k => cb 512 _ a _ rfl k)
        (fun a k => cb 1024 _ a _ rfl k) (fun a k => cb 1536 _ a _ rfl k) r y,
      block_b m c t _ _ _ _ (fun a k => cb 0 _ a _ (by show a.val = 0 + a.val; omega) k) (fun a k => cb 512 _ a _ rfl k)
        (fun a k => cb 1024 _ a _ rfl k) (fun a k => cb 1536 _ a _ rfl k) r y⟩
  · rw [outsAt0_B m c t h0 h1]
    frame_out
    exact ⟨block_f m c t _ _ _ _ (fun a k => cb 0 _ a _ (by show a.val = 0 + a.val; omega) k) (fun a k => cb 512 _ a _ rfl k)
        (fun a k => cb 1024 _ a _ rfl k) (fun a k => cb 1536 _ a _ rfl k) r y,
      block_b m c t _ _ _ _ (fun a k => cb 0 _ a _ (by show a.val = 0 + a.val; omega) k) (fun a k => cb 512 _ a _ rfl k)
        (fun a k => cb 1024 _ a _ rfl k) (fun a k => cb 1536 _ a _ rfl k) r y⟩

theorem sq_idx (off : ℕ) (h : ∀ a, (![off, 0] : Fin 2 → ℕ) a + S512x128.size a ≤ S2048x128.size a)
    (a : Fin 512) (r : Fin 2048) (hr : r.val = off + a.val) (k : Fin 128) :
    (Rect.unit (s := S2048x128) ![off, 0] ![512, 128] h).idx (ix2 a k) = (ix2 r k : S2048x128.Idx) := by
  funext b
  match b with
  | ⟨0, _⟩ => exact Fin.ext (by show off + 1 * a.val = r.val; omega)
  | ⟨1, _⟩ => exact Fin.ext (by show 0 + 1 * k.val = k.val; omega)

theorem sq_B (X : Vec Ideal S2048x128 .f32) (off : ℕ) (h : ∀ a, (![off, 0] : Fin 2 → ℕ) a + S512x128.size a ≤ S2048x128.size a)
    (a : Fin 512) (r : Fin 2048) (hr : r.val = off + a.val) (k : Fin 128) :
    View.ld (Val := Elt Ideal) (S := S2048x128) (e' := .f32) (View.read (Elt Ideal) (View.whole cc0_scratch2) ((Memref.isWhole_whole cc0_scratch2).unread X))
      (Rect.unit (s := S2048x128) ![off, 0] ![512, 128] h) (ix2 a k) = X (ix2 r k) := by
  rw [(Memref.isWhole_whole cc0_scratch2).read_unread]
  exact congrArg X (sq_idx off h a r hr k)

theorem ss_next (c : Dev nD) (t : Fin cfg0.N) (h0 : ¬t.val % 27 = 0) (r : Fin 2048) (l : Fin 128) :
    (outsAt0 m c t.val t.isLt).2.2.2.2 (ix2 r l) = (outsAt0 m c (t.val - 1) (by omega)).2.2.2.2 (ix2 r l) + sq m c t r l := by
  have cb := fun off h a r hr k => (row_B (outsAt0 m c (t.val - 1) (by omega)).2.2.2.1 off h a r hr k).trans (cb_at m c _ _ r k)
  by_cases h1 : t.val % 27 = 26
  · rw [outsAt0_C m c t h0 h1]
    frame_out
    exact block_s m c t _ _ _ _ _ _ _ _ (fun a k => cb 0 _ a _ (by show a.val = 0 + a.val; omega) k) (fun a k => cb 512 _ a _ rfl k)
        (fun a k => cb 1024 _ a _ rfl k) (fun a k => cb 1536 _ a _ rfl k) (fun r l => (outsAt0 m c (t.val - 1) (by omega)).2.2.2.2 (ix2 r l))
        (fun a k => sq_B _ 0 _ a _ rfl k) (fun a k => sq_B _ 512 _ a _ rfl k) (fun a k => sq_B _ 1024 _ a _ rfl k) (fun a k => sq_B _ 1536 _ a _ rfl k) r l
  · rw [outsAt0_B m c t h0 h1]
    frame_out
    exact block_s m c t _ _ _ _ _ _ _ _ (fun a k => cb 0 _ a _ (by show a.val = 0 + a.val; omega) k) (fun a k => cb 512 _ a _ rfl k)
        (fun a k => cb 1024 _ a _ rfl k) (fun a k => cb 1536 _ a _ rfl k) (fun r l => (outsAt0 m c (t.val - 1) (by omega)).2.2.2.2 (ix2 r l))
        (fun a k => sq_B _ 0 _ a _ rfl k) (fun a k => sq_B _ 512 _ a _ rfl k) (fun a k => sq_B _ 1024 _ a _ rfl k) (fun a k => sq_B _ 1536 _ a _ rfl k) r l

theorem ss_first (c : Dev nD) (t : Fin cfg0.N) (h0 : t.val % 27 = 0) (r : Fin 2048) (l : Fin 128) :
    (outsAt0 m c t.val t.isLt).2.2.2.2 (ix2 r l) = 0 + sq m c t r l := by
  have h1 : ¬t.val % 27 = 26 := by omega
  rw [outsAt0_A m c t h0 h1]
  frame_out
  refine (canon_append_of_cover [_] _ [_, _, _, _] (View.cover_of_tiled_head _ _ _ rfl _)).trans ?_
  refine block_s m c t _ _ _ _ _ _ _ _ (fun a k => row_A m c t 0 _ a _ (by show a.val = 0 + a.val; omega) k) (fun a k => row_A m c t 512 _ a _ rfl k)
    (fun a k => row_A m c t 1024 _ a _ rfl k) (fun a k => row_A m c t 1536 _ a _ rfl k) (fun _ _ => 0)
    (fun a k => ?_) (fun a k => ?_) (fun a k => ?_) (fun a k => ?_) r l
  · rw [View.readCov_eq_canon']
    dsimp only
    rw [sq_idx 0 _ a ⟨0 + a.val, by omega⟩ rfl k]
    canon_tiles x h using (View.cover_of_tiled_head _ _ _ rfl _)
    all_goals idx_vars x
    all_goals first | (exfalso; omega) | pointwise [k0_pay6]
  · rw [View.readCov_eq_canon']
    dsimp only
    rw [sq_idx 512 _ a ⟨512 + a.val, by omega⟩ rfl k]
    canon_tiles x h using (cover_cons _ (View.cover_of_tiled_head _ _ _ rfl _))
    all_goals idx_vars x
    all_goals first | (exfalso; omega) | pointwise [k0_pay6]
  · rw [View.readCov_eq_canon']
    dsimp only
    rw [sq_idx 1024 _ a ⟨1024 + a.val, by omega⟩ rfl k]
    canon_tiles x h using (cover_cons _ (cover_cons _ (View.cover_of_tiled_head _ _ _ rfl _)))
    all_goals idx_vars x
    all_goals first | (exfalso; omega) | pointwise [k0_pay6]
  · rw [View.readCov_eq_canon']
    dsimp only
    rw [sq_idx 1536 _ a ⟨1536 + a.val, by omega⟩ rfl k]
    canon_tiles x h using (cover_cons _ (cover_cons _ (cover_cons _ (View.cover_of_tiled_head _ _ _ rfl _))))
    all_goals idx_vars x
    all_goals first | (exfalso; omega) | pointwise [k0_pay6]

end Cert.GateUpIdeal.Value
-- ==== Proof.GateUpValue.lean ====
module

public import proofs.«01_k».proof.Proof.Gen.GateUpIdeal.Value
public import proofs.«01_k».proof.Proof.GateUpBlocks
public import Idealize.ShloMosaic.Lib.Pipeline.ValueKit
public import Idealize.ShloMosaic.Lib.Pointwise

@[expose] public section

set_option maxRecDepth 16384

noncomputable section

namespace Cert.GateUpIdeal.Value

open Cert.GateUpIdeal Cert.GateUpIdeal.Gen Idealize.ShloMosaic Idealize.ShloMosaic.TcCoe Idealize.SL.Sem
open Idealize.ShloMosaic.Pipeline (Dat)
open Cert.Ternary (weight)

variable (m : (ℓ : Loc nD τ sig) → Buf (Elt Ideal) ℓ)

theorem wt_at (c : Dev nD) (t : Fin cfg0.N) (ρ : Fin 512) (k : Fin 2560) :
    wt m c t (ix2 ρ k) = if ρ.val < 256 then Ternary.entry (gateArg m c) (256 * t.val + ρ.val) k
      else Ternary.entry (upArg m c) (256 * t.val + (ρ.val - 256)) k := by
  have hg : ∀ (κ : Fin 4) (a : Fin 64) (k : Fin 2560), piece (grid0.coords t) (BitVec.ofNat 32 κ.val) (off_ok t κ) (iblk m c 2 t) (ix2 a k)
      = Ternary.entry (gateArg m c) (256 * t.val + (64 * κ.val + a.val)) k := fun κ a k => by
    rw [piece_at t κ _ (iblk m c 2 t) a k _ (Fin.ofNat 1728 (256 * t.val + (64 * κ.val + a.val))) rfl (by show (_ % _) = _; omega), gate_blk, Nat.add_assoc]
    rfl
  have hu : ∀ (κ : Fin 4) (a : Fin 64) (k : Fin 2560), piece (grid0.coords t) (BitVec.ofNat 32 κ.val) (off_ok t κ) (iblk m c 3 t) (ix2 a k)
      = Ternary.entry (upArg m c) (256 * t.val + (64 * κ.val + a.val)) k := fun κ a k => by
    rw [piece_at t κ _ (iblk m c 3 t) a k _ (Fin.ofNat 1728 (256 * t.val + (64 * κ.val + a.val))) rfl (by show (_ % _) = _; omega), up_blk, Nat.add_assoc]
    rfl
  have pg : ∀ (κ : Fin 4) (ρ : Fin 512) (a : Fin 64) (k : Fin 2560), ρ.val = 64 * κ.val + a.val →
      piece (grid0.coords t) (BitVec.ofNat 32 κ.val) (off_ok t κ) (iblk m c 2 t) (ix2 a k)
      = if ρ.val < 256 then Ternary.entry (gateArg m c) (256 * t.val + ρ.val) k
      else Ternary.entry (upArg m c) (256 * t.val + (ρ.val - 256)) k := fun κ ρ a k e => by
    rw [hg, if_pos (by omega), e]
  have pu : ∀ (κ : Fin 4) (ρ : Fin 512) (a : Fin 64) (k : Fin 2560), ρ.val = 256 + (64 * κ.val + a.val) →
      piece (grid0.coords t) (BitVec.ofNat 32 κ.val) (off_ok t κ) (iblk m c 3 t) (ix2 a k)
      = if ρ.val < 256 then Ternary.entry (gateArg m c) (256 * t.val + ρ.val) k
      else Ternary.entry (upArg m c) (256 * t.val + (ρ.val - 256)) k := fun κ ρ a k e => by
    rw [hu, if_neg (by omega), e, Nat.add_sub_cancel_left]
  exact tile_at _ _ _ _ _ _ _ _ (fun (ρ : Fin 512) k => if ρ.val < 256 then Ternary.entry (gateArg m c) (256 * t.val + ρ.val) k
      else Ternary.entry (upArg m c) (256 * t.val + (ρ.val - 256)) k)
    (fun a k => pg 0 _ a k (by show a.val = 64 * 0 + a.val; omega)) (fun a k => pg 1 _ a k (by show 64 + a.val = 64 * 1 + a.val; omega))
    (fun a k => pg 2 _ a k (by show 128 + a.val = 64 * 2 + a.val; omega)) (fun a k => pg 3 _ a k (by show 192 + a.val = 64 * 3 + a.val; omega))
    (fun a k => pu 0 _ a k (by show 256 + a.val = 256 + (64 * 0 + a.val); omega)) (fun a k => pu 1 _ a k (by show 320 + a.val = 256 + (64 * 1 + a.val); omega))
    (fun a k => pu 2 _ a k (by show 384 + a.val = 256 + (64 * 2 + a.val); omega)) (fun a k => pu 3 _ a k (by show 448 + a.val = 256 + (64 * 3 + a.val); omega)) ρ k

/-- The result at row `r` and column `n`, of the kernel's arguments. -/
def res (c : Dev nD) : Fin 2048 → Fin 6912 → EReal :=
  Ternary.gatedEntry (codesArg m c) (scaleArg m c) (gateArg m c) (upArg m c) (gateScaleArg m c) (upScaleArg m c)

theorem F_eq (c : Dev nD) (t : Fin cfg0.N) (r : Fin 2048) (y : Fin 256) (n : Fin 6912) (hn : n.val = 256 * t.val + y.val) :
    F m c t r y = res m c r n := by
  have hg : ∑ k, codes m c r k * wt m c t (ix2 ⟨y.val, by omega⟩ k) = Ternary.dot (codesArg m c) (gateArg m c) r n :=
    Finset.sum_congr rfl fun k _ => by rw [wt_at, if_pos y.isLt, ← hn]; rfl
  have hu : ∑ k, codes m c r k * wt m c t (ix2 ⟨256 + y.val, by omega⟩ k) = Ternary.dot (codesArg m c) (upArg m c) r n :=
    Finset.sum_congr rfl fun k _ => by
      rw [wt_at, if_neg (by show ¬ 256 + y.val < 256; omega), show 256 * t.val + (256 + y.val - 256) = n.val by omega]; rfl
  unfold F gated res Ternary.gatedEntry
  rw [hg, hu, gateScale_blk m c t y n hn, upScale_blk m c t y n hn]

theorem ss_sum (c : Dev nD) (r : Fin 2048) (l : Fin 128) (n : ℕ) (h : n < cfg0.N) :
    (outsAt0 m c n h).2.2.2.2 (ix2 r l) = ∑ t : Fin (n + 1), sq m c ⟨t.val, by omega⟩ r l := by
  induction n with
  | zero =>
    have e := ss_first m c ⟨0, h⟩ (by show 0 % 27 = 0; omega) r l
    rw [zero_add] at e
    refine e.trans ?_
    rw [Fin.sum_univ_one]
    generalize hq : sq m c = q
    rfl
  | succ n ih =>
    have hN := lt_of_lt_of_eq h (show cfg0.N = 27 from N_0)
    rw [Fin.sum_univ_castSucc]
    have e := ss_next m c ⟨n + 1, h⟩ (by show ¬ (n + 1) % 27 = 0; omega) r l
    have i : (outsAt0 m c n (by omega)).2.2.2.2 (ix2 r l) = _ := ih (by omega)
    rw [show (outsAt0 m c ((⟨n + 1, h⟩ : Fin cfg0.N).val - 1) (by omega)).2.2.2.2 (ix2 r l) = _ from i] at e
    exact e

theorem out8 (c : Dev nD) (t : Fin cfg0.N) (h1 : t.val % 27 = 26) (r : Fin 2048) :
    (outsAt0 m c t.val t.isLt).2.2.1 (ix2 r 0) = ∑ l : Fin 128, (outsAt0 m c t.val t.isLt).2.2.2.2 (ix2 r l) := by
  have h0 : ¬ t.val % 27 = 0 := by omega
  rw [outsAt0_C m c t h0 h1]
  frame_out
  rw [View.readCov_eq_canon']
  pointwise [k0_pay4]

theorem lanes (f : Fin 256 → EReal) :
    ∑ l : Fin 128, (f ⟨l.val, by omega⟩ + f ⟨128 + l.val, by omega⟩) = ∑ y : Fin 256, f y := by
  rw [Finset.sum_add_distrib]
  exact (Fin.sum_univ_add (a := 128) (b := 128) f).symm

theorem last8 (c : Dev nD) (t : Fin cfg0.N) (h1 : t.val % 27 = 26) (r : Fin 2048) :
    (outsAt0 m c t.val t.isLt).2.2.1 (ix2 r 0) = ∑ n : Fin 6912, res m c r n * res m c r n := by
  have hN := lt_of_lt_of_eq t.isLt (show cfg0.N = 27 from N_0)
  rw [out8 m c t h1 r, Finset.sum_congr rfl fun l _ => ss_sum m c r l t.val t.isLt, Finset.sum_comm]
  rw [Finset.sum_congr rfl fun s _ => lanes fun y => F m c ⟨s.val, by omega⟩ r y * F m c ⟨s.val, by omega⟩ r y]
  have e : t.val + 1 = 27 := by omega
  refine Fin.sum_mul_add_congr (L := 6912) (fun s y hl => ?_) (by omega)
  rw [F_eq m c ⟨s.val, by omega⟩ r y ⟨s.val * 256 + y.val, hl⟩ (by show s.val * 256 + y.val = 256 * s.val + y.val; omega)]

theorem idx8 : ∀ t : Fin cfg0.N, win0_8.index t = ![0, 0] := by decide +kernel

theorem arr6 (c : Dev nD) (W) (hW : ∀ r n, W (ix2 r n) = res m c r n) : (dats m 0 c).arrAt 6 cfg0.N = W := by
  refine (dats m 0 c).arrAt_eq_of_covers 6 _ (by decide +kernel) fun t hf y => ?_
  blk_simp
  rw [after0_6]
  obtain ⟨r, l, rfl⟩ : ∃ (r : Fin 2048) (l : Fin 256), y = ix2 r l := ⟨y 0, y 1, by funext a; match a with | ⟨0, _⟩ => rfl | ⟨1, _⟩ => rfl⟩
  rw [(f_at m c t r l).1, F_eq m c t r l ⟨256 * t.val + l.val, by have := lt_of_lt_of_eq t.isLt (show cfg0.N = 27 from N_0); omega⟩ rfl, ← hW]
  blk_point [idx0 t]
theorem arr7 (c : Dev nD) (W) (hW : ∀ r n, W (ix2 r n) = res m c r n) : (dats m 0 c).arrAt 7 cfg0.N = W := by
  refine (dats m 0 c).arrAt_eq_of_covers 7 _ (by decide +kernel) fun t hf y => ?_
  blk_simp
  rw [after0_7]
  obtain ⟨r, l, rfl⟩ : ∃ (r : Fin 2048) (l : Fin 256), y = ix2 r l := ⟨y 0, y 1, by funext a; match a with | ⟨0, _⟩ => rfl | ⟨1, _⟩ => rfl⟩
  rw [(f_at m c t r l).2, F_eq m c t r l ⟨256 * t.val + l.val, by have := lt_of_lt_of_eq t.isLt (show cfg0.N = 27 from N_0); omega⟩ rfl, ← hW]
  blk_point [idx0 t]

theorem arr8 (c : Dev nD) (W) (hW : ∀ r, W (ix2 r 0) = ∑ n : Fin 6912, res m c r n * res m c r n) : (dats m 0 c).arrAt 8 cfg0.N = W := by
  refine (dats m 0 c).arrAt_eq_of_covers 8 _ (by decide +kernel) fun t hf y => ?_
  blk_simp
  rw [after0_8]
  obtain ⟨r, rfl⟩ : ∃ (r : Fin 2048), y = ix2 r 0 := ⟨y 0, by funext a; match a with | ⟨0, _⟩ => rfl | ⟨1, _⟩ => exact Subsingleton.elim (α := Fin 1) _ _⟩
  rw [last8 m c t ((flush0_8 t).mp hf) r, ← hW]
  blk_point [idx8 t]

end Cert.GateUpIdeal.Value
-- ==== Proof.GateUpRef.lean ====
module

public import proofs.«01_k».proof.Proof.Gen.GateUpRefIdeal.Value
public import proofs.«01_k».proof.Proof.Ternary
public import Idealize.ShloMosaic.Lib.Pipeline.ValueKit
public import Idealize.ShloMosaic.Lib.Pointwise

@[expose] public section

set_option maxRecDepth 16384

noncomputable section

namespace Cert.GateUpRefIdeal.Value

open Cert.GateUpRefIdeal Cert.GateUpRefIdeal.Gen Idealize.ShloMosaic Idealize.ShloMosaic.TcCoe Idealize.SL.Sem
open Idealize.ShloMosaic.Pipeline (Dat)
open Cert.Ternary (weight)

variable (m : (ℓ : Loc nD τ sig) → Buf (Elt Ideal) ℓ)

theorem pay1_at (C : Vec Ideal S2048x2560 .i8) (s : FVec Ideal S2048x1 .f32) (W : Vec Ideal S1728x2560 .i8) (g : FVec Ideal S1x6912 .f32)
    (r : Fin 2048) (n : Fin 6912) : k0_pay1 (F := Ideal) C s W g (ix2 r n) = Ternary.dot C W r n * s (ix2 r 0) * g (ix2 0 n) := by
  pointwise [k0_pay1]
  refine congrArg (fun z : EReal => z * s (ix2 r 0) * g (ix2 0 n)) ?_
  unfold Ternary.dot
  refine Finset.sum_congr rfl fun k _ => ?_
  rw [Ternary.entry_of_fields (R := 1728) W n.val (by omega) k]
  rfl

theorem pay3_at (G : FVec Ideal S2048x6912 .f32) (C : Vec Ideal S2048x2560 .i8) (s : FVec Ideal S2048x1 .f32) (W : Vec Ideal S1728x2560 .i8) (g : FVec Ideal S1x6912 .f32)
    (r : Fin 2048) (n : Fin 6912) : k0_pay3 (F := Ideal) G C s W g (ix2 r n)
      = max (G (ix2 r n)) 0 * max (G (ix2 r n)) 0 * (Ternary.dot C W r n * s (ix2 r 0) * g (ix2 0 n)) := by
  pointwise [k0_pay3]
  refine congrArg (fun z : EReal => max (G (ix2 r n)) 0 * max (G (ix2 r n)) 0 * (z * s (ix2 r 0) * g (ix2 0 n))) ?_
  unfold Ternary.dot
  refine Finset.sum_congr rfl fun k _ => ?_
  rw [Ternary.entry_of_fields (R := 1728) W n.val (by omega) k]
  rfl

def codesArg (c : Dev nD) : Vec Ideal S2048x2560 .i8 := m (c, Proc.tc.devRef main_arg0)
def scaleArg (c : Dev nD) : Vec Ideal S1x2048 .f32 := m (c, Proc.tc.devRef main_arg1)
def gateArg (c : Dev nD) : Vec Ideal S1728x2560 .i8 := m (c, Proc.tc.devRef main_arg2)
def upArg (c : Dev nD) : Vec Ideal S1728x2560 .i8 := m (c, Proc.tc.devRef main_arg3)
def gateScaleArg (c : Dev nD) : Vec Ideal S6912 .f32 := m (c, Proc.tc.devRef main_arg4)
def upScaleArg (c : Dev nD) : Vec Ideal S6912 .f32 := m (c, Proc.tc.devRef main_arg5)

def res (c : Dev nD) : Fin 2048 → Fin 6912 → EReal :=
  Ternary.gatedEntry (codesArg m c) (scaleArg m c) (gateArg m c) (upArg m c) (gateScaleArg m c) (upScaleArg m c)

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := by
  decide +kernel

theorem blk0 (c : Dev nD) : iblk m c 0 t0_0 = codesArg m c := by
  unfold codesArg
  funext i
  obtain ⟨r, k, rfl⟩ : ∃ (r : Fin 2048) (k : Fin 2560), i = ix2 r k := ⟨i 0, i 1, eq_ix2 i⟩
  blk_point [iblk, V, idx0 t0_0]
theorem blk2 (c : Dev nD) : iblk m c 2 t0_0 = gateArg m c := by
  unfold gateArg
  funext i
  obtain ⟨r, k, rfl⟩ : ∃ (r : Fin 1728) (k : Fin 2560), i = ix2 r k := ⟨i 0, i 1, eq_ix2 i⟩
  blk_point [iblk, V, idx0 t0_0]
theorem blk3 (c : Dev nD) : iblk m c 3 t0_0 = upArg m c := by
  unfold upArg
  funext i
  obtain ⟨r, k, rfl⟩ : ∃ (r : Fin 1728) (k : Fin 2560), i = ix2 r k := ⟨i 0, i 1, eq_ix2 i⟩
  blk_point [iblk, V, idx0 t0_0]
theorem blk1 (c : Dev nD) (r : Fin 2048) : iblk m c 1 t0_0 (ix2 r 0) = scaleArg m c (ix2 0 r) := by
  unfold scaleArg
  blk_point [iblk, V, idx0 t0_0]
theorem blk4 (c : Dev nD) (n : Fin 6912) : iblk m c 4 t0_0 (ix2 0 n) = gateScaleArg m c (ix1 n) := by
  unfold gateScaleArg
  blk_point [iblk, V, idx0 t0_0]
theorem blk5 (c : Dev nD) (n : Fin 6912) : iblk m c 5 t0_0 (ix2 0 n) = upScaleArg m c (ix1 n) := by
  unfold upScaleArg
  blk_point [iblk, V, idx0 t0_0]

/-- The result of the one point, at an entry. -/
theorem f_at (c : Dev nD) (r : Fin 2048) (n : Fin 6912) :
    k0_pay3 (F := Ideal) (k0_pay1 (iblk m c 0 t0_0) (iblk m c 1 t0_0) (iblk m c 2 t0_0) (iblk m c 4 t0_0)) (iblk m c 0 t0_0)
      (k0_pay2 (iblk m c 1 t0_0)) (iblk m c 3 t0_0) (iblk m c 5 t0_0) (ix2 r n) = res m c r n := by
  have e : k0_pay2 (F := Ideal) (iblk m c 1 t0_0) (ix2 r 0) = iblk m c 1 t0_0 (ix2 r 0) := by pointwise [k0_pay2]
  rw [pay3_at, pay1_at, e, blk0, blk2, blk3, blk1, blk4, blk5]
  rfl

theorem arr6 (c : Dev nD) (r : Fin 2048) (n : Fin 6912) : (dats m 0 c).arrAt 6 cfg0.N (ix2 r n) = res m c r n := by
  refine congrFun ((dats m 0 c).arrAt_eq_of_after_last 6 t0_0 (by decide +kernel) (fun i => res m c (i 0) (i 1)) fun j => ?_) (ix2 r n)
  blk_simp
  rw [after0_6]
  frame_out
  unfold k0_pay6 k0_pay7
  frame_out
  obtain ⟨r, l, rfl⟩ : ∃ (r : Fin 2048) (l : Fin 6912), j = ix2 r l := ⟨j 0, j 1, eq_ix2 j⟩
  exact f_at m c r l

theorem arr7 (c : Dev nD) (r : Fin 2048) (n : Fin 6912) : (dats m 0 c).arrAt 7 cfg0.N (ix2 r n) = res m c r n := by
  refine congrFun ((dats m 0 c).arrAt_eq_of_after_last 7 t0_0 (by decide +kernel) (fun i => res m c (i 0) (i 1)) fun j => ?_) (ix2 r n)
  blk_simp
  rw [after0_7]
  frame_out
  unfold k0_pay6 k0_pay7
  frame_out
  obtain ⟨r, l, rfl⟩ : ∃ (r : Fin 2048) (l : Fin 6912), j = ix2 r l := ⟨j 0, j 1, eq_ix2 j⟩
  exact f_at m c r l

theorem pay5_at (G : FVec Ideal S2048x6912 .f32) (C : Vec Ideal S2048x2560 .i8) (s : FVec Ideal S2048x1 .f32) (W : Vec Ideal S1728x2560 .i8) (g : FVec Ideal S1x6912 .f32)
    (f : FVec Ideal S2048x6912 .f32) (hf : k0_pay3 G C s W g = f) (r : Fin 2048) : k0_pay5 (F := Ideal) G C s W g (ix2 r 0) = ∑ n : Fin 6912, f (ix2 r n) * f (ix2 r n) := by
  unfold k0_pay5
  rw [hf]
  pointwise

theorem arr8 (c : Dev nD) (r : Fin 2048) : (dats m 0 c).arrAt 8 cfg0.N (ix2 r 0) = (∑ n : Fin 6912, res m c r n * res m c r n : EReal) := by
  refine congrFun ((dats m 0 c).arrAt_eq_of_after_last 8 t0_0 (by decide +kernel) (fun i => (∑ n : Fin 6912, res m c (i 0) n * res m c (i 0) n : EReal)) fun j => ?_) (ix2 r 0)
  blk_simp
  rw [after0_8]
  frame_out
  unfold k0_pay6 k0_pay7
  frame_out
  obtain ⟨r, rfl⟩ : ∃ (r : Fin 2048), j = ix2 r 0 := ⟨j 0, by funext a; match a with | ⟨0, _⟩ => rfl | ⟨1, _⟩ => exact Subsingleton.elim (α := Fin 1) _ _⟩
  refine (pay5_at _ _ _ _ _ _ rfl r).trans (Finset.sum_congr rfl fun n _ => ?_)
  exact congrArg₂ (· * ·) (f_at m c r n) (f_at m c r n)

end Cert.GateUpRefIdeal.Value
-- ==== Proof.GateUpClaim.lean ====
/- The value claim of the gate and up projections: on equal arguments the kernel's call and the reference leave
   the same three arrays, because both leave `gatedEntry` of the arguments at every entry. -/
module

public import proofs.«01_k».proof.Defs
public import proofs.«01_k».proof.Proof.GateUpValue
public import proofs.«01_k».proof.Proof.GateUpRef
public import Idealize.ShloMosaic.Adequacy
public import Idealize.ShloMosaic.Init

@[expose] public section

set_option maxRecDepth 16384

noncomputable section

namespace Cert.GateUpClaim

open Idealize.ShloMosaic Idealize.SL.Sem

theorem algebraic : Cert.algebraic_GateUpIdeal_GateUpRefIdeal := by
  pair_intro
  · run_from Cert.GateUpIdeal.Gen.run_main m g
  · have hres : ∀ c, Cert.GateUpRefIdeal.Value.res m' c = Cert.GateUpIdeal.Value.res m c := by
      intro c
      obtain ⟨a0, a1, a2, a3, a4, a5⟩ := hagree c
      unfold Cert.GateUpRefIdeal.Value.res Cert.GateUpIdeal.Value.res
      rw [show Cert.GateUpRefIdeal.Value.codesArg m' c = Cert.GateUpIdeal.Value.codesArg m c from a0,
        show Cert.GateUpRefIdeal.Value.scaleArg m' c = Cert.GateUpIdeal.Value.scaleArg m c from a1,
        show Cert.GateUpRefIdeal.Value.gateArg m' c = Cert.GateUpIdeal.Value.gateArg m c from a2,
        show Cert.GateUpRefIdeal.Value.upArg m' c = Cert.GateUpIdeal.Value.upArg m c from a3,
        show Cert.GateUpRefIdeal.Value.gateScaleArg m' c = Cert.GateUpIdeal.Value.gateScaleArg m c from a4,
        show Cert.GateUpRefIdeal.Value.upScaleArg m' c = Cert.GateUpIdeal.Value.upScaleArg m c from a5]
    run_from Cert.GateUpRefIdeal.Gen.run_main m' g'
    · exact (Cert.GateUpIdeal.Value.arr6 m c _ fun r n => (Cert.GateUpRefIdeal.Value.arr6 m' c r n).trans (by rw [hres c])).symm
    · exact (Cert.GateUpIdeal.Value.arr7 m c _ fun r n => (Cert.GateUpRefIdeal.Value.arr7 m' c r n).trans (by rw [hres c])).symm
    · exact (Cert.GateUpIdeal.Value.arr8 m c _ fun r => (Cert.GateUpRefIdeal.Value.arr8 m' c r).trans (by rw [hres c])).symm

end Cert.GateUpClaim
-- ==== Proof.Quant.lean ====
/- What the calls of the layer compute, entry by entry, apart from any tiling: the quantiser of a row, the norm,
   the product of a quantised row with a packed ternary matrix; and the decoding of a stack of packed rows into
   a scratch piece by piece. -/
module

public import proofs.«01_k».proof.Proof.Ternary
public import Idealize.ShloMosaic.Lib.Pipeline.ValueKit
public import Idealize.ShloMosaic.Lib.Pointwise

@[expose] public section

set_option maxRecDepth 16384

noncomputable section

namespace Cert.Quant

open Idealize.ShloMosaic
open Cert.Ternary (weight entry)

/-- The largest magnitude of a row, from minus infinity up. -/
def rowMax {K : ℕ} (v : Fin K → EReal) : EReal :=
  Finset.fold max (Ideal.ofBits FTy.f32 4286578688#32) (fun k => FloatOps.absf (F := Ideal) (φ := FTy.f32) (v k)) Finset.univ

/-- The scale of a row: its largest magnitude over 127, or one for a row of zeros. -/
def rowScale {K : ℕ} (v : Fin K → EReal) : EReal :=
  if rowMax v = 0 then 1 else Ideal.div (rowMax v) (Ideal.ofBits FTy.f32 1123942400#32)

/-- The code of a number at a scale: the quotient rounded to even, clipped to ±127, as a byte. -/
def codeOf (x s : EReal) : BitVec 8 :=
  FloatOps.fptosi (F := Ideal) (φ := FTy.f32) 8
    (min (Ideal.ofBits FTy.f32 1123942400#32)
      (max (Ideal.ofBits FTy.f32 3271426048#32) (Ideal.liftRound Ideal.roundHalfEven (Ideal.div x s))))

/-- The codes of a row. -/
def rowCode {K : ℕ} (v : Fin K → EReal) (k : Fin K) : BitVec 8 := codeOf (v k) (rowScale v)

/-- An entry normalised by the sum of squares `q` of its row of length `d`, times its gain. -/
def normed (x q d g : EReal) : EReal := x * Ideal.rsqrt (Ideal.div q d + Ideal.ofBits FTy.f32 925353388#32) * g

/-- A quantised row against row `n` of a packed matrix, scaled back. -/
def product {K R : ℕ} [NeZero R] (v : Fin K → EReal) (W : (⟨2, ![R, K]⟩ : Shape).Idx → BitVec 8) (n : ℕ) : EReal :=
  (∑ k : Fin K, (((rowCode v k).toInt : ℝ) : EReal) * entry W n k) * rowScale v

/-- A column of numbers as a matrix of one column keeps its entries. -/
theorem column_index {T : ℕ} (hc : (⟨1, ![T]⟩ : Shape).ShapeCasts ⟨2, ![T, 1]⟩) (r : Fin T) :
    Shape.reshapeEquiv hc (ix2 r 0) = ix1 r := Shape.reshapeEquiv_eq_of_rowMajor hc (by
  rw [Shape.rowMajor_val_two, Shape.rowMajor_val_one]
  show r.val = r.val * 1 + 0
  omega)

/-- A column spread over the columns of a matrix. -/
theorem spread_column {T K : ℕ} {α : Type} (hb : (⟨2, ![T, 1]⟩ : Shape).Broadcasts ⟨2, ![T, K]⟩) (Z : (⟨2, ![T, 1]⟩ : Shape).Idx → α)
    (r : Fin T) (k : Fin K) : broadcastTo ⟨2, ![T, K]⟩ Z hb (ix2 r k) = Z (ix2 r 0) := by
  have hr := r.isLt
  pointwise
  refine congrArg Z ?_
  rw [Shape.Idx.norm2]
  refine congrArg₂ ix2 ?_ (Subsingleton.elim _ _)
  by_cases h : T = 1
  · subst h; exact Subsingleton.elim _ _
  · exact dif_neg h

/-- A row spread over the rows of a matrix. -/
theorem spread_row {T K : ℕ} {α : Type} (hb : (⟨2, ![1, K]⟩ : Shape).Broadcasts ⟨2, ![T, K]⟩) (Z : (⟨2, ![1, K]⟩ : Shape).Idx → α)
    (r : Fin T) (k : Fin K) : broadcastTo ⟨2, ![T, K]⟩ Z hb (ix2 r k) = Z (ix2 0 k) := by
  have hk := k.isLt
  pointwise
  refine congrArg Z ?_
  rw [Shape.Idx.norm2]
  refine congrArg₂ ix2 (Subsingleton.elim _ _) ?_
  by_cases h : K = 1
  · subst h; exact Subsingleton.elim _ _
  · exact dif_neg h

/-- The rows of a block, each divided by the root of the mean of its squares plus a small constant, times a gain, as the layer
    computes them: `d` is the length of a row. -/
def normVec {T K : ℕ} (hr : (⟨2, ![T, K]⟩ : Shape).Reduces [1] ⟨1, ![T]⟩) (hc : (⟨1, ![T]⟩ : Shape).ShapeCasts ⟨2, ![T, 1]⟩)
    (hb : (⟨2, ![T, 1]⟩ : Shape).Broadcasts ⟨2, ![T, K]⟩) (hg : (⟨2, ![1, K]⟩ : Shape).Broadcasts ⟨2, ![T, K]⟩) (d : BitVec 32)
    (X : FVec Ideal ⟨2, ![T, K]⟩ .f32) (g : FVec Ideal ⟨2, ![1, K]⟩ .f32) : FVec Ideal ⟨2, ![T, K]⟩ .f32 :=
  mulf (F := Ideal) (mulf (F := Ideal) X (broadcastTo ⟨2, ![T, K]⟩ (rsqrt (F := Ideal) (addf (F := Ideal) (divf (F := Ideal)
      (shapeCast ⟨2, ![T, 1]⟩ (multiReduction (F := Ideal) .add [1] ⟨1, ![T]⟩ (mulf (F := Ideal) X X) 0x00000000#32 hr (.inl rfl) rfl) hc)
      (broadcast ⟨2, ![T, 1]⟩ (Scalar.ofBits (F := Ideal) .f32 d))) (broadcast ⟨2, ![T, 1]⟩ (Scalar.ofBits (F := Ideal) .f32 0x3727C5AC#32)))) hb))
    (broadcastTo ⟨2, ![T, K]⟩ g hg)

theorem normVec_at {T K : ℕ} (hr : (⟨2, ![T, K]⟩ : Shape).Reduces [1] ⟨1, ![T]⟩) (hc : (⟨1, ![T]⟩ : Shape).ShapeCasts ⟨2, ![T, 1]⟩)
    (hb : (⟨2, ![T, 1]⟩ : Shape).Broadcasts ⟨2, ![T, K]⟩) (hg : (⟨2, ![1, K]⟩ : Shape).Broadcasts ⟨2, ![T, K]⟩) (d : BitVec 32)
    (X : FVec Ideal ⟨2, ![T, K]⟩ .f32) (g : FVec Ideal ⟨2, ![1, K]⟩ .f32) (r : Fin T) (k : Fin K) :
    normVec hr hc hb hg d X g (ix2 r k)
      = normed (X (ix2 r k)) (∑ l : Fin K, X (ix2 r l) * X (ix2 r l)) (Ideal.ofBits FTy.f32 d) (g (ix2 0 k)) := by
  have hsum : shapeCast ⟨2, ![T, 1]⟩ (multiReduction (F := Ideal) .add [1] ⟨1, ![T]⟩ (mulf (F := Ideal) X X) 0x00000000#32 hr (.inl rfl) rfl) hc (ix2 r 0)
      = (∑ l : Fin K, X (ix2 r l) * X (ix2 r l) : EReal) := by
    pointwise
    rw [column_index]
    rfl
  unfold normVec normed
  refine congrArg₂ (fun a b : EReal => X (ix2 r k) * a * b) ((spread_column hb _ r k).trans ?_) (spread_row hg g r k)
  exact congrArg (fun a : EReal => Ideal.rsqrt (Ideal.div a (Ideal.ofBits FTy.f32 d) + Ideal.ofBits FTy.f32 925353388#32)) hsum

/-- The scales of the rows of a block, as the layer computes them. -/
def scaleVec {T K : ℕ} (hr : (⟨2, ![T, K]⟩ : Shape).Reduces [1] ⟨1, ![T]⟩) (hc : (⟨1, ![T]⟩ : Shape).ShapeCasts ⟨2, ![T, 1]⟩)
    (Y : FVec Ideal ⟨2, ![T, K]⟩ .f32) : FVec Ideal ⟨2, ![T, 1]⟩ .f32 :=
  have top : FVec Ideal ⟨2, ![T, 1]⟩ .f32 :=
    shapeCast ⟨2, ![T, 1]⟩ (multiReduction (F := Ideal) .maximumf [1] ⟨1, ![T]⟩ (absf (F := Ideal) Y) 0xFF800000#32 hr (.inl rfl) rfl) hc
  select (cmpf (F := Ideal) .oeq top (broadcast ⟨2, ![T, 1]⟩ (Scalar.ofBits (F := Ideal) .f32 0x00000000#32)))
    (broadcast ⟨2, ![T, 1]⟩ (Scalar.ofBits (F := Ideal) .f32 0x3F800000#32))
    (divf (F := Ideal) top (broadcast ⟨2, ![T, 1]⟩ (Scalar.ofBits (F := Ideal) .f32 0x42FE0000#32)))

theorem scaleVec_at {T K : ℕ} (hr : (⟨2, ![T, K]⟩ : Shape).Reduces [1] ⟨1, ![T]⟩) (hc : (⟨1, ![T]⟩ : Shape).ShapeCasts ⟨2, ![T, 1]⟩)
    (Y : FVec Ideal ⟨2, ![T, K]⟩ .f32) (r : Fin T) : scaleVec hr hc Y (ix2 r 0) = rowScale fun k => Y (ix2 r k) := by
  unfold scaleVec
  pointwise
  rw [column_index]
  unfold rowScale rowMax
  rfl

/-- The codes of the rows of a block at given scales, as the layer computes them. -/
def codeVec {T K : ℕ} (hb : (⟨2, ![T, 1]⟩ : Shape).Broadcasts ⟨2, ![T, K]⟩) (Y : FVec Ideal ⟨2, ![T, K]⟩ .f32)
    (Z : FVec Ideal ⟨2, ![T, 1]⟩ .f32) : IVec ⟨2, ![T, K]⟩ 8 :=
  fptosi (F := Ideal) 8 (minimumf (F := Ideal) (broadcast ⟨2, ![T, K]⟩ (Scalar.ofBits (F := Ideal) .f32 0x42FE0000#32))
    (maximumf (F := Ideal) (broadcast ⟨2, ![T, K]⟩ (Scalar.ofBits (F := Ideal) .f32 0xC2FE0000#32))
      (roundeven (F := Ideal) (divf (F := Ideal) Y (broadcastTo ⟨2, ![T, K]⟩ Z hb)))))

theorem codeVec_at {T K : ℕ} (hb : (⟨2, ![T, 1]⟩ : Shape).Broadcasts ⟨2, ![T, K]⟩) (Y : FVec Ideal ⟨2, ![T, K]⟩ .f32)
    (Z : FVec Ideal ⟨2, ![T, 1]⟩ .f32) (r : Fin T) (k : Fin K) : codeVec hb Y Z (ix2 r k) = codeOf (Y (ix2 r k)) (Z (ix2 r 0)) := by
  unfold codeVec codeOf
  exact congrArg (fun z => FloatOps.fptosi (F := Ideal) (φ := FTy.f32) 8 (min (Ideal.ofBits FTy.f32 1123942400#32)
    (max (Ideal.ofBits FTy.f32 3271426048#32) (Ideal.liftRound Ideal.roundHalfEven (Ideal.div (Y (ix2 r k)) z))))) (spread_column hb Z r k)

/-- Packed rows shifted to one of their fields, masked, and less one. -/
def decoded {R r n : ℕ} (h₁ : (⟨2, ![R, n]⟩ : Shape).Bitcasts 8 ⟨2, ![r, n]⟩ 32) (h₂ : (⟨2, ![r, n]⟩ : Shape).Bitcasts 32 ⟨2, ![R, n]⟩ 8)
    (s : BitVec 32) (x : (⟨2, ![R, n]⟩ : Shape).Idx → BitVec 8) : FVec Ideal ⟨2, ![R, n]⟩ .bf16 :=
  subf (F := Ideal) (sitofp (F := Ideal) .bf16 (bitcast ⟨2, ![R, n]⟩ 8 (andi (shrui (bitcast ⟨2, ![r, n]⟩ 32 x h₁) (broadcast ⟨2, ![r, n]⟩ s))
      (broadcast ⟨2, ![r, n]⟩ 50529027#32)) h₂)) (broadcast ⟨2, ![R, n]⟩ (Scalar.ofBits (F := Ideal) .bf16 0x3F80#16))

theorem decoded_at {R r n : ℕ} (h₁ : (⟨2, ![R, n]⟩ : Shape).Bitcasts 8 ⟨2, ![r, n]⟩ 32) (h₂ : (⟨2, ![r, n]⟩ : Shape).Bitcasts 32 ⟨2, ![R, n]⟩ 8)
    (hr : R = 4 * r) (s : BitVec 32) (j : ℕ) (hj : j < 4) (hs : s = BitVec.ofNat 32 (2 * j)) (x : (⟨2, ![R, n]⟩ : Shape).Idx → BitVec 8)
    (a : Fin R) (k : Fin n) : decoded h₁ h₂ s x (ix2 a k) = weight j (x (ix2 a k)) := by
  unfold decoded
  pointwise
  rw [Ternary.field_ix2 x h₁ h₂ hr s j hj hs a k]
  exact Ternary.field_sub_one j hj _

/-- A decoded piece as it is stored. -/
def stored {R r n : ℕ} (h₁ : (⟨2, ![R, n]⟩ : Shape).Bitcasts 8 ⟨2, ![r, n]⟩ 32) (h₂ : (⟨2, ![r, n]⟩ : Shape).Bitcasts 32 ⟨2, ![R, n]⟩ 8)
    (h₃ : (⟨2, ![R, n]⟩ : Shape).ShapeCasts ⟨2, ![R, n]⟩) (s : BitVec 32) (x : (⟨2, ![R, n]⟩ : Shape).Idx → BitVec 8) :
    FVec Ideal ⟨2, ![R, n]⟩ .bf16 := shapeCast ⟨2, ![R, n]⟩ (decoded h₁ h₂ s x) h₃

/-- The rows of the packed matrix `W` that a piece at row `off` of a scratch of unpacked rows is decoded from: the scratch
    holds the unpacked matrix from row `base` on. -/
theorem piece_tile {M P R r n : ℕ} [NeZero P] (W : Vec Ideal ⟨2, ![P, n]⟩ .i8) (base off src : ℕ) (s : BitVec 32)
    (h₁ : (⟨2, ![R, n]⟩ : Shape).Bitcasts 8 ⟨2, ![r, n]⟩ 32) (h₂ : (⟨2, ![r, n]⟩ : Shape).Bitcasts 32 ⟨2, ![R, n]⟩ 8)
    (h₃ : (⟨2, ![R, n]⟩ : Shape).ShapeCasts ⟨2, ![R, n]⟩)
    (hld : ∀ a, (![src, 0] : Fin 2 → ℕ) a + (![R, n] : Fin 2 → ℕ) a ≤ (⟨2, ![P, n]⟩ : Shape).size a)
    (ok : R = 4 * r ∧ s.toNat / 2 < 4 ∧ s = BitVec.ofNat 32 (2 * (s.toNat / 2)) ∧ off = base + s.toNat / 2 * P + src ∧ src + R ≤ P)
    (y : (⟨2, ![M, n]⟩ : Shape).Idx) (f : EReal) (hf : base ≤ (y 0).val → (y 0).val < base + 4 * P → entry W ((y 0).val - base) (y 1) = f) :
    View.TileAt (Val := Elt Ideal) (S := ⟨2, ![M, n]⟩) (e := .bf16) y ![off, 0] ![R, n]
      (stored h₁ h₂ h₃ s (View.ld (Val := Elt Ideal) (S := ⟨2, ![P, n]⟩) (e' := .i8) W (Rect.unit (s := ⟨2, ![P, n]⟩) ![src, 0] ![R, n] hld))) f := by
  intro x hx
  obtain ⟨hr, hj, hs, ho, hP⟩ := ok
  obtain ⟨a, k, rfl⟩ : ∃ (a : Fin R) (k : Fin n), x = ix2 a k := ⟨x 0, x 1, eq_ix2 x⟩
  have h0 : (y 0).val = off + a.val := hx 0
  have h1 : (y 1).val = 0 + k.val := hx 1
  have ha := a.isLt
  generalize hjj : s.toNat / 2 = j at *
  rw [← hf (by omega) (by rw [h0, ho]; nlinarith)]
  unfold stored
  pointwise
  rw [decoded_at h₁ h₂ hr s j hj hs]
  unfold entry
  have e : (y 0).val - base = src + a.val + j * P := by omega
  have hP0 : 0 < P := by omega
  rw [e, Nat.add_mul_div_right _ _ hP0, Nat.div_eq_of_lt (by omega), Nat.zero_add]
  refine congrArg (fun b => weight j (W b)) ?_
  funext b
  match b with
  | ⟨0, _⟩ => exact Fin.ext (by
      show src + 1 * a.val = (src + a.val + j * P) % P
      rw [Nat.add_mul_mod_self_right, Nat.mod_eq_of_lt (by omega)]; omega)
  | ⟨1, _⟩ => exact Fin.ext (by show 0 + 1 * k.val = (y 1).val; omega)

end Cert.Quant
-- ==== Proof.DownRows.lean ====
/- The blocks that the down projection reads, and the rows it makes of them: normalised, their scales and their codes. -/
module

public import proofs.«01_k».proof.Proof.Gen.DownIdeal.Frame
public import proofs.«01_k».proof.Proof.Quant
public import Idealize.ShloMosaic.Lib.Pipeline.ValueKit
public import Idealize.ShloMosaic.Lib.Pointwise

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

/-- The arguments. -/
def gatedArg (c : Dev nD) : Vec Ideal S2048x6912 .f32 := m (c, Proc.tc.devRef main_arg0)
def sumArg (c : Dev nD) : Vec Ideal S2048x1 .f32 := m (c, Proc.tc.devRef main_arg1)
def hiddenArg (c : Dev nD) : Vec Ideal S2048x2560 .f32 := m (c, Proc.tc.devRef main_arg2)
def gainArg (c : Dev nD) : Vec Ideal S6912 .f32 := m (c, Proc.tc.devRef main_arg3)
def weightArg (c : Dev nD) : Vec Ideal S640x6912 .i8 := m (c, Proc.tc.devRef main_arg4)
def outScaleArg (c : Dev nD) : Vec Ideal S2560 .f32 := m (c, Proc.tc.devRef main_arg5)

theorem idx0 : ∀ t : Fin cfg0.N, win0_0.index t = ![t.val, 0] ∧ win0_1.index t = ![t.val, 0] ∧ win0_2.index t = ![t.val, 0] ∧ win0_3.index t = ![0, 0]
   ∧ win0_4.index t = ![0, 0] ∧ win0_5.index t = ![0, 0] ∧ win0_6.index t = ![t.val, 0] ∧ win0_7.index t = ![t.val, 0, 0] ∧ win0_8.index t = ![t.val, 0] := by
  decide +kernel

theorem gated_blk (c) (t : Fin cfg0.N) (r : Fin 128) (k : Fin 6912) (q : Fin 2048) (hq : q.val = 128 * t.val + r.val) :
    iblk m c 0 t (ix2 r k) = gatedArg m c (ix2 q k) := by
  unfold gatedArg
  blk_point [iblk, V, idx0 t]
theorem sum_blk (c) (t : Fin cfg0.N) (r : Fin 128) (q : Fin 2048) (hq : q.val = 128 * t.val + r.val) :
    iblk m c 1 t (ix2 r 0) = sumArg m c (ix2 q 0) := by
  unfold sumArg
  blk_point [iblk, V, idx0 t]
theorem hidden_blk (c) (t : Fin cfg0.N) (r : Fin 128) (k : Fin 2560) (q : Fin 2048) (hq : q.val = 128 * t.val + r.val) :
    iblk m c 2 t (ix2 r k) = hiddenArg m c (ix2 q k) := by
  unfold hiddenArg
  blk_point [iblk, V, idx0 t]
theorem gain_blk (c) (t : Fin cfg0.N) (k : Fin 6912) : iblk m c 3 t (ix2 0 k) = gainArg m c (ix1 k) := by
  unfold gainArg
  blk_point [iblk, V, idx0 t]
theorem weight_blk (c) (t : Fin cfg0.N) : iblk m c 4 t = weightArg m c := by
  funext i
  obtain ⟨r, k, rfl⟩ : ∃ (r : Fin 640) (k : Fin 6912), i = ix2 r k := ⟨i 0, i 1, eq_ix2 i⟩
  unfold weightArg
  blk_point [iblk, V, idx0 t]
theorem outScale_blk (c) (t : Fin cfg0.N) (k : Fin 2560) : iblk m c 5 t (ix2 0 k) = outScaleArg m c (ix1 k) := by
  unfold outScaleArg
  blk_point [iblk, V, idx0 t]

/-- Row `q` of the normalised gated values. -/
def row (c : Dev nD) (q : Fin 2048) (k : Fin 6912) : EReal :=
  normed (gatedArg m c (ix2 q k)) (sumArg m c (ix2 q 0)) (Ideal.ofBits FTy.f32 1171783680#32) (gainArg m c (ix1 k))

theorem norm_at (c) (t : Fin cfg0.N) (r : Fin 128) (q : Fin 2048) (hq : q.val = 128 * t.val + r.val) (k : Fin 6912) :
    k0_pay57 (F := Ideal) (iblk m c 0 t) (iblk m c 1 t) (iblk m c 3 t) (ix2 r k) = row m c q k := by
  pointwise [k0_pay57]
  rw [gated_blk m c t r k q hq, sum_blk m c t r q hq, gain_blk]
  unfold row normed
  rfl

theorem scale_vec (X : FVec Ideal S128x6912 .f32) (s : FVec Ideal S128x1 .f32) (g : FVec Ideal S1x6912 .f32) :
    k0_pay58 (F := Ideal) X s g = scaleVec reduces_S128x6912_S128 shapeCasts_S128_S128x1 (k0_pay57 (F := Ideal) X s g) := rfl

theorem code_vec (X : FVec Ideal S128x6912 .f32) (s : FVec Ideal S128x1 .f32) (g : FVec Ideal S1x6912 .f32) :
    k0_pay59 (F := Ideal) X s g = codeVec broadcasts_S128x1_S128x6912 (k0_pay57 (F := Ideal) X s g) (k0_pay58 (F := Ideal) X s g) := rfl

theorem scale_at (c) (t : Fin cfg0.N) (r : Fin 128) (q : Fin 2048) (hq : q.val = 128 * t.val + r.val) :
    k0_pay58 (F := Ideal) (iblk m c 0 t) (iblk m c 1 t) (iblk m c 3 t) (ix2 r 0) = rowScale (row m c q) := by
  rw [scale_vec, scaleVec_at]
  exact congrArg rowScale (funext fun k => norm_at m c t r q hq k)

theorem code_at (c) (t : Fin cfg0.N) (r : Fin 128) (q : Fin 2048) (hq : q.val = 128 * t.val + r.val) (k : Fin 6912) :
    k0_pay59 (F := Ideal) (iblk m c 0 t) (iblk m c 1 t) (iblk m c 3 t) (ix2 r k) = rowCode (row m c q) k := by
  rw [code_vec, codeVec_at, norm_at m c t r q hq, scale_at m c t r q hq]
  rfl

end Cert.DownIdeal.Value
-- ==== Proof.DownWeights.lean ====
/- The scratch of unpacked weights after the first grid point. -/
module

public import proofs.«01_k».proof.Proof.Gen.DownIdeal.Frame
public import proofs.«01_k».proof.Proof.DownRows
public import Idealize.ShloMosaic.Lib.Pipeline.ValueKit
public import Idealize.ShloMosaic.Lib.Pointwise

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

/-- A piece of the scratch holds the weights of its rows. -/
theorem w_tile (W : Vec Ideal S640x6912 .i8) (n : Fin 2560) (k : Fin 6912) (off src : ℕ) (s : BitVec 32)
    (h : ∀ a, (![src, 0] : Fin 2 → ℕ) a + (![64, 6912] : Fin 2 → ℕ) a ≤ S640x6912.size a)
    (ok : 64 = 4 * 16 ∧ s.toNat / 2 < 4 ∧ s = BitVec.ofNat 32 (2 * (s.toNat / 2)) ∧ off = 0 + s.toNat / 2 * 640 + src ∧ src + 64 ≤ 640) :
    View.TileAt (Val := Elt Ideal) (S := S2560x6912) (e := .bf16) (ix2 n k) ![off, 0] ![64, 6912]
      (stored bitcasts_S64x6912_w8_S16x6912_w32 bitcasts_S16x6912_w32_S64x6912_w8 shapeCasts_S64x6912_S64x6912 s
        (View.ld (Val := Elt Ideal) (S := S640x6912) (e' := .i8) W (Rect.unit (s := S640x6912) ![src, 0] ![64, 6912] h)))
      (entry W n.val k) :=
  piece_tile W 0 off src s _ _ _ h ok _ _ fun _ _ => rfl

/-- After a point that fills it, the scratch holds the unpacked weights. -/
theorem w_first (c : Dev nD) (t : Fin cfg0.N) (h0 : t.val % 16 = 0) (n : Fin 2560) (k : Fin 6912) :
    (outsAt0 m c t.val t.isLt).2.2.2 (ix2 n k) = entry (weightArg m c) n.val k := by
  rw [outsAt0_A m c t h0]
  frame_out
  rw [weight_blk]
  refine View.canon_eq_of_allAt _ _ _ ?cov ?_
  case cov =>
    exact View.cover_of_tiledL (s := S2560x6912) _ S64x6912.size (by sl_kernel_rfl) _
  repeat refine View.allAt_cons_unit _ _ _ _ _ (w_tile (weightArg m c) n k _ _ _ _ (by decide)) ?_
  exact View.allAt_nil _ _

end Cert.DownIdeal.Value
-- ==== Proof.DownBlocks.lean ====
/- What a grid point of the down projection leaves in its blocks. -/
module

public import proofs.«01_k».proof.Proof.Gen.DownIdeal.Frame
public import proofs.«01_k».proof.Proof.DownWeights
public import Idealize.ShloMosaic.Lib.Pipeline.ValueKit
public import Idealize.ShloMosaic.Lib.Pointwise

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

/-- A tile of the result, read at an index. -/
theorem tile_at (S : FVec Ideal S128x1 .f32) (C : IVec S128x6912 8) (w : Vec Ideal S256x6912 .bf16) (h : Vec Ideal S128x256 .f32)
    (s : Vec Ideal S1x256 .f32) (a : Fin 128) (b : Fin 256) :
    k0_pay63 (F := Ideal) S C w h s (ix2 a b)
      = h (ix2 a b) + (∑ k : Fin 6912, (((C (ix2 a k)).toInt : ℝ) : EReal) * w (ix2 b k)) * S (ix2 a 0) * s (ix2 0 b) := by
  pointwise [k0_pay63, k0_pay62]
  rfl

/-- The result at row `q` and column `n`, of the kernel's arguments. -/
def res (c : Dev nD) (q : Fin 2048) (n : Fin 2560) : EReal :=
  hiddenArg m c (ix2 q n) + product (row m c q) (weightArg m c) n.val * outScaleArg m c (ix1 n)

/-- A tile of columns from `off` on holds the result, if the weights it is made of are the rows from `off` on. -/
theorem tile (c : Dev nD) (t : Fin cfg0.N) (r : Fin 128) (n : Fin 2560) (q : Fin 2048) (hq : q.val = 128 * t.val + r.val) (off : ℕ)
    (w : Vec Ideal S256x6912 .bf16) (hw : ∀ (a : Fin 256) (k : Fin 6912), w (ix2 a k) = entry (weightArg m c) (off + a.val) k)
    (h₁ : ∀ a, (![0, off] : Fin 2 → ℕ) a + (![128, 256] : Fin 2 → ℕ) a ≤ S128x2560.size a)
    (h₂ : ∀ a, (![0, off] : Fin 2 → ℕ) a + (![1, 256] : Fin 2 → ℕ) a ≤ S1x2560.size a) :
    View.TileAt (Val := Elt Ideal) (S := S128x2560) (e := .bf16) (ix2 r n) ![0, off] ![128, 256]
      (k0_pay63 (F := Ideal) (k0_pay58 (iblk m c 0 t) (iblk m c 1 t) (iblk m c 3 t)) (k0_pay59 (iblk m c 0 t) (iblk m c 1 t) (iblk m c 3 t)) w
        (View.ld (Val := Elt Ideal) (S := S128x2560) (e' := .f32) (iblk m c 2 t) (Rect.unit (s := S128x2560) ![0, off] ![128, 256] h₁))
        (View.ld (Val := Elt Ideal) (S := S1x2560) (e' := .f32) (iblk m c 5 t) (Rect.unit (s := S1x2560) ![0, off] ![1, 256] h₂)))
      (res m c q n) := by
  intro x hx
  obtain ⟨a, b, rfl⟩ : ∃ (a : Fin 128) (b : Fin 256), x = ix2 a b := ⟨x 0, x 1, eq_ix2 x⟩
  have h0 : r.val = 0 + a.val := hx 0
  have h1 : n.val = off + b.val := hx 1
  obtain rfl : r = a := Fin.ext (by omega)
  rw [tile_at, scale_at m c t r q hq]
  unfold res product
  have e₁ : View.ld (Val := Elt Ideal) (S := S128x2560) (e' := .f32) (iblk m c 2 t) (Rect.unit (s := S128x2560) ![0, off] ![128, 256] h₁) (ix2 r b)
      = hiddenArg m c (ix2 q n) := by
    refine Eq.trans (congrArg (iblk m c 2 t) ?_) (hidden_blk m c t r n q hq)
    funext d
    match d with
    | ⟨0, _⟩ => exact Fin.ext (by show 0 + 1 * r.val = r.val; omega)
    | ⟨1, _⟩ => exact Fin.ext (by show off + 1 * b.val = n.val; omega)
  have e₂ : View.ld (Val := Elt Ideal) (S := S1x2560) (e' := .f32) (iblk m c 5 t) (Rect.unit (s := S1x2560) ![0, off] ![1, 256] h₂) (ix2 0 b)
      = outScaleArg m c (ix1 n) := by
    refine Eq.trans (congrArg (iblk m c 5 t) ?_) (outScale_blk m c t n)
    funext d
    match d with
    | ⟨0, _⟩ => exact Fin.ext rfl
    | ⟨1, _⟩ => exact Fin.ext (by show off + 1 * b.val = n.val; omega)
  rw [e₁, e₂, Finset.sum_congr rfl fun k _ => by rw [code_at m c t r q hq k, hw b k, ← h1]]

/-- The rows of a scratch that are loaded for a tile, from the scratch's contents. -/
theorem load_at (W : Vec Ideal S640x6912 .i8) (X : Vec Ideal S2560x6912 .bf16) (hX : ∀ n k, X (ix2 n k) = entry W n.val k) (off : ℕ)
    (h : ∀ a, (![off, 0] : Fin 2 → ℕ) a + (![256, 6912] : Fin 2 → ℕ) a ≤ S2560x6912.size a) (a : Fin 256) (k : Fin 6912) :
    X ((Rect.unit (s := S2560x6912) ![off, 0] ![256, 6912] h).idx (ix2 a k)) = entry W (off + a.val) k := by
  have hb : off + a.val < 2560 := by have := h 0; have : off + 256 ≤ 2560 := this; omega
  have e : (Rect.unit (s := S2560x6912) ![off, 0] ![256, 6912] h).idx (ix2 a k) = ix2 ⟨off + a.val, hb⟩ k := by
    funext d
    match d with
    | ⟨0, _⟩ => exact Fin.ext (by show off + 1 * a.val = off + a.val; omega)
    | ⟨1, _⟩ => exact Fin.ext (by show 0 + 1 * k.val = k.val; omega)
  exact (congrArg X e).trans (hX _ _)

theorem load_pieces (W : Vec Ideal S640x6912 .i8) (L : List (View.Piece (Elt Ideal) S2560x6912 .bf16))
    (hL : ∀ n k, View.canon L (ix2 n k) = entry W n.val k) (off : ℕ)
    (h : ∀ a, (![off, 0] : Fin 2 → ℕ) a + (![256, 6912] : Fin 2 → ℕ) a ≤ S2560x6912.size a) (a : Fin 256) (k : Fin 6912) :
    (View.whole cc0_scratch0).readCov (Val := Elt Ideal) L (Rect.unit (s := S2560x6912) ![off, 0] ![256, 6912] h).toLoadRect (ix2 a k)
      = entry W (off + a.val) k := by
  rw [View.readCov_eq_canon']
  exact load_at W (View.canon L) hL off h a k

theorem load_kept (W : Vec Ideal S640x6912 .i8) (X : Vec Ideal S2560x6912 .bf16) (hX : ∀ n k, X (ix2 n k) = entry W n.val k) (off : ℕ)
    (h : ∀ a, (![off, 0] : Fin 2 → ℕ) a + (![256, 6912] : Fin 2 → ℕ) a ≤ S2560x6912.size a) (a : Fin 256) (k : Fin 6912) :
    View.ld (Val := Elt Ideal) (S := S2560x6912) (e' := .bf16)
      (View.read (Elt Ideal) (View.whole cc0_scratch0) ((Memref.isWhole_whole cc0_scratch0).unread X))
      (Rect.unit (s := S2560x6912) ![off, 0] ![256, 6912] h) (ix2 a k) = entry W (off + a.val) k := by
  rw [(Memref.isWhole_whole cc0_scratch0).read_unread]
  exact load_at W X hX off h a k

/-- The scratch holds the unpacked weights after every point. -/
theorem w_at (c : Dev nD) (n : ℕ) (h : n < cfg0.N) (i : Fin 2560) (k : Fin 6912) :
    (outsAt0 m c n h).2.2.2 (ix2 i k) = entry (weightArg m c) i.val k := by
  induction n with
  | zero => exact w_first m c ⟨0, h⟩ (by show 0 % 16 = 0; omega) i k
  | succ n ih =>
    have hN := lt_of_lt_of_eq h (show cfg0.N = 16 from N_0)
    have e := congrArg (fun p => p.2.2.2 (ix2 i k)) (outsAt0_B m c ⟨n + 1, h⟩ (by show ¬ (n + 1) % 16 = 0; omega))
    refine e.trans ?_
    frame_out
    exact ih (by omega)

end Cert.DownIdeal.Value
-- ==== Proof.DownValue.lean ====
/- The results of the down projection, as functions of its arguments. -/
module

public import proofs.«01_k».proof.Proof.Gen.DownIdeal.Frame
public import proofs.«01_k».proof.Proof.DownBlocks
public import Idealize.ShloMosaic.Lib.Pipeline.ValueKit
public import Idealize.ShloMosaic.Lib.Pointwise

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

theorem codes_out (c : Dev nD) (t : Fin cfg0.N) : (outsAt0 m c t.val t.isLt).1 = k0_pay59 (F := Ideal) (iblk m c 0 t) (iblk m c 1 t) (iblk m c 3 t) := by
  by_cases h0 : t.val % 16 = 0
  · rw [outsAt0_A m c t h0]
    frame_out
  · rw [outsAt0_B m c t h0]
    frame_out

theorem scales_out (c : Dev nD) (t : Fin cfg0.N) :
    (outsAt0 m c t.val t.isLt).2.1 = k0_pay61 (F := Ideal) (k0_pay60 (iblk m c 0 t) (iblk m c 1 t) (iblk m c 3 t)) := by
  by_cases h0 : t.val % 16 = 0
  · rw [outsAt0_A m c t h0]
    frame_out
  · rw [outsAt0_B m c t h0]
    frame_out

theorem out_first (c : Dev nD) (t : Fin cfg0.N) (h0 : t.val % 16 = 0) (r : Fin 128) (n : Fin 2560) (q : Fin 2048) (hq : q.val = 128 * t.val + r.val) :
    (outsAt0 m c t.val t.isLt).2.2.1 (ix2 r n) = res m c q n := by
  have hL := w_at m c t.val t.isLt
  rw [outsAt0_A m c t h0] at hL ⊢
  frame_out at hL ⊢
  refine View.canon_eq_of_allAt _ _ _ (View.cover_of_tiledL (s := S128x2560) _ S128x256.size (by sl_kernel_rfl) _) ?_
  repeat refine View.allAt_cons_unit _ _ _ _ _ (tile m c t r n q hq _ _ (load_pieces (weightArg m c) _ hL _ _) _ _) ?_
  exact View.allAt_nil _ _

theorem out_next (c : Dev nD) (t : Fin cfg0.N) (h0 : ¬ t.val % 16 = 0) (r : Fin 128) (n : Fin 2560) (q : Fin 2048) (hq : q.val = 128 * t.val + r.val) :
    (outsAt0 m c t.val t.isLt).2.2.1 (ix2 r n) = res m c q n := by
  rw [outsAt0_B m c t h0]
  frame_out
  refine View.canon_eq_of_allAt _ _ _ (View.cover_of_tiledL (s := S128x2560) _ S128x256.size (by sl_kernel_rfl) _) ?_
  repeat refine View.allAt_cons_unit _ _ _ _ _ (tile m c t r n q hq _ _ (load_kept (weightArg m c) _ (w_at m c (t.val - 1) _) _ _) _ _) ?_
  exact View.allAt_nil _ _

theorem out_at (c : Dev nD) (t : Fin cfg0.N) (r : Fin 128) (n : Fin 2560) (q : Fin 2048) (hq : q.val = 128 * t.val + r.val) :
    (outsAt0 m c t.val t.isLt).2.2.1 (ix2 r n) = res m c q n := by
  by_cases h0 : t.val % 16 = 0
  · exact out_first m c t h0 r n q hq
  · exact out_next m c t h0 r n q hq

/-- The row of the arrays that row `r` of block `t` is. -/
def rowOf (t : Fin cfg0.N) (r : Fin 128) : Fin 2048 :=
  ⟨128 * t.val + r.val, by have := lt_of_lt_of_eq t.isLt (show cfg0.N = 16 from N_0); omega⟩

theorem arr6 (c : Dev nD) (W) (hW : ∀ q k, W (ix2 q k) = rowCode (row m c q) k) : (dats m 0 c).arrAt 6 cfg0.N = W := by
  refine (dats m 0 c).arrAt_eq_of_covers 6 _ (by decide +kernel) fun t hf y => ?_
  blk_simp
  rw [after0_6]
  obtain ⟨r, k, rfl⟩ : ∃ (r : Fin 128) (k : Fin 6912), y = ix2 r k := ⟨y 0, y 1, eq_ix2 y⟩
  rw [codes_out, code_at m c t r (rowOf t r) rfl k, ← hW]
  unfold rowOf
  blk_point [idx0 t]

theorem scale_line (X : FVec Ideal S128x6912 .f32) (s : FVec Ideal S128x1 .f32) (g : FVec Ideal S1x6912 .f32) (l : Fin 128) :
    k0_pay61 (F := Ideal) (k0_pay60 X s g) (ix3 0 0 l) = k0_pay58 X s g (ix2 l 0) := by
  pointwise [k0_pay61, k0_pay60]

theorem arr7 (c : Dev nD) (W) (hW : ∀ (p : Fin 16) (l : Fin 128) (q : Fin 2048), q.val = 128 * p.val + l.val → W (ix3 p 0 l) = rowScale (row m c q)) :
    (dats m 0 c).arrAt 7 cfg0.N = W := by
  refine (dats m 0 c).arrAt_eq_of_covers 7 _ (by decide +kernel) fun t hf y => ?_
  blk_simp
  rw [after0_7]
  obtain ⟨l, rfl⟩ : ∃ (l : Fin 128), y = ix3 0 0 l :=
    ⟨y 2, by funext a; match a with | ⟨0, _⟩ => exact Subsingleton.elim (α := Fin 1) _ _ | ⟨1, _⟩ => exact Subsingleton.elim (α := Fin 1) _ _ | ⟨2, _⟩ => rfl⟩
  rw [scales_out, scale_line, scale_at m c t l (rowOf t l) rfl, ← hW ⟨t.val, lt_of_lt_of_eq t.isLt (show cfg0.N = 16 from N_0)⟩ l (rowOf t l) rfl]
  blk_point [idx0 t]

theorem arr8 (c : Dev nD) (W) (hW : ∀ q n, W (ix2 q n) = res m c q n) : (dats m 0 c).arrAt 8 cfg0.N = W := by
  refine (dats m 0 c).arrAt_eq_of_covers 8 _ (by decide +kernel) fun t hf y => ?_
  blk_simp
  rw [after0_8]
  obtain ⟨r, n, rfl⟩ : ∃ (r : Fin 128) (n : Fin 2560), y = ix2 r n := ⟨y 0, y 1, eq_ix2 y⟩
  rw [out_at m c t r n (rowOf t r) rfl, ← hW]
  unfold rowOf
  blk_point [idx0 t]

end Cert.DownIdeal.Value
-- ==== Proof.DownRef.lean ====
/- The results of the reference of the down projection, as functions of its arguments. -/
module

public import proofs.«01_k».proof.Proof.Gen.DownRefIdeal.Frame
public import proofs.«01_k».proof.Proof.Quant
public import Idealize.ShloMosaic.Lib.Pipeline.ValueKit
public import Idealize.ShloMosaic.Lib.Pointwise

@[expose] public section

set_option maxRecDepth 16384

noncomputable section

namespace Cert.DownRefIdeal.Value

open Cert.DownRefIdeal Cert.DownRefIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

/-- The arguments. -/
def gatedArg (c : Dev nD) : Vec Ideal S2048x6912 .f32 := m (c, Proc.tc.devRef main_arg0)
def sumArg (c : Dev nD) : Vec Ideal S2048x1 .f32 := m (c, Proc.tc.devRef main_arg1)
def hiddenArg (c : Dev nD) : Vec Ideal S2048x2560 .f32 := m (c, Proc.tc.devRef main_arg2)
def gainArg (c : Dev nD) : Vec Ideal S6912 .f32 := m (c, Proc.tc.devRef main_arg3)
def weightArg (c : Dev nD) : Vec Ideal S640x6912 .i8 := m (c, Proc.tc.devRef main_arg4)
def outScaleArg (c : Dev nD) : Vec Ideal S2560 .f32 := m (c, Proc.tc.devRef main_arg5)

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := by
  decide +kernel

theorem gated_blk (c : Dev nD) (q : Fin 2048) (k : Fin 6912) : iblk m c 0 t0_0 (ix2 q k) = gatedArg m c (ix2 q k) := by
  unfold gatedArg
  blk_point [iblk, V, idx0 t0_0]
theorem sum_blk (c : Dev nD) (q : Fin 2048) : iblk m c 1 t0_0 (ix2 q 0) = sumArg m c (ix2 q 0) := by
  unfold sumArg
  blk_point [iblk, V, idx0 t0_0]
theorem hidden_blk (c : Dev nD) (q : Fin 2048) (n : Fin 2560) : iblk m c 2 t0_0 (ix2 q n) = hiddenArg m c (ix2 q n) := by
  unfold hiddenArg
  blk_point [iblk, V, idx0 t0_0]
theorem gain_blk (c : Dev nD) (k : Fin 6912) : iblk m c 3 t0_0 (ix2 0 k) = gainArg m c (ix1 k) := by
  unfold gainArg
  blk_point [iblk, V, idx0 t0_0]
theorem weight_blk (c : Dev nD) : iblk m c 4 t0_0 = weightArg m c := by
  funext i
  obtain ⟨r, k, rfl⟩ : ∃ (r : Fin 640) (k : Fin 6912), i = ix2 r k := ⟨i 0, i 1, eq_ix2 i⟩
  unfold weightArg
  blk_point [iblk, V, idx0 t0_0]
theorem outScale_blk (c : Dev nD) (n : Fin 2560) : iblk m c 5 t0_0 (ix2 0 n) = outScaleArg m c (ix1 n) := by
  unfold outScaleArg
  blk_point [iblk, V, idx0 t0_0]

/-- Row `q` of the normalised gated values. -/
def row (c : Dev nD) (q : Fin 2048) (k : Fin 6912) : EReal :=
  normed (gatedArg m c (ix2 q k)) (sumArg m c (ix2 q 0)) (Ideal.ofBits FTy.f32 1171783680#32) (gainArg m c (ix1 k))

/-- The result at row `q` and column `n`, of the reference's arguments. -/
def res (c : Dev nD) (q : Fin 2048) (n : Fin 2560) : EReal :=
  hiddenArg m c (ix2 q n) + product (row m c q) (weightArg m c) n.val * outScaleArg m c (ix1 n)

theorem norm_at (c : Dev nD) (q : Fin 2048) (k : Fin 6912) :
    k0_pay2 (F := Ideal) (iblk m c 0 t0_0) (iblk m c 1 t0_0) (iblk m c 3 t0_0) (ix2 q k) = row m c q k := by
  pointwise [k0_pay2]
  rw [gated_blk m c q k, sum_blk m c q, gain_blk]
  unfold row normed
  rfl

theorem scale_vec (X : FVec Ideal S2048x6912 .f32) (s : FVec Ideal S2048x1 .f32) (g : FVec Ideal S1x6912 .f32) :
    k0_pay3 (F := Ideal) X s g = scaleVec reduces_S2048x6912_S2048 shapeCasts_S2048_S2048x1 (k0_pay2 (F := Ideal) X s g) := rfl

theorem code_vec (X : FVec Ideal S2048x6912 .f32) (s : FVec Ideal S2048x1 .f32) (g : FVec Ideal S1x6912 .f32) :
    k0_pay4 (F := Ideal) X s g = codeVec broadcasts_S2048x1_S2048x6912 (k0_pay2 (F := Ideal) X s g) (k0_pay3 (F := Ideal) X s g) := rfl

theorem scale_at (c : Dev nD) (q : Fin 2048) :
    k0_pay3 (F := Ideal) (iblk m c 0 t0_0) (iblk m c 1 t0_0) (iblk m c 3 t0_0) (ix2 q 0) = rowScale (row m c q) := by
  rw [scale_vec, scaleVec_at]
  exact congrArg rowScale (funext fun k => norm_at m c q k)

theorem code_at (c : Dev nD) (q : Fin 2048) (k : Fin 6912) :
    k0_pay4 (F := Ideal) (iblk m c 0 t0_0) (iblk m c 1 t0_0) (iblk m c 3 t0_0) (ix2 q k) = rowCode (row m c q) k := by
  rw [code_vec, codeVec_at, norm_at, scale_at]
  rfl

theorem out_at (s : FVec Ideal S2048x1 .f32) (C : IVec S2048x6912 8) (h : Vec Ideal S2048x2560 .f32) (W : Vec Ideal S640x6912 .i8)
    (g : Vec Ideal S1x2560 .f32) (q : Fin 2048) (n : Fin 2560) : k0_pay1 (F := Ideal) s C h W g (ix2 q n)
      = h (ix2 q n) + (∑ k : Fin 6912, (((C (ix2 q k)).toInt : ℝ) : EReal) * entry W n.val k) * s (ix2 q 0) * g (ix2 0 n) := by
  pointwise [k0_pay1]
  refine congrArg (fun z : EReal => h (ix2 q n) + z * s (ix2 q 0) * g (ix2 0 n)) ?_
  refine Finset.sum_congr rfl fun k _ => ?_
  rw [Ternary.entry_of_fields (R := 640) W n.val (by omega) k]
  rfl

theorem arr6 (c : Dev nD) (q : Fin 2048) (k : Fin 6912) : (dats m 0 c).arrAt 6 cfg0.N (ix2 q k) = rowCode (row m c q) k := by
  refine congrFun ((dats m 0 c).arrAt_eq_of_after_last 6 t0_0 (by decide +kernel) (fun i => rowCode (row m c (i 0)) (i 1)) fun j => ?_) (ix2 q k)
  blk_simp
  rw [after0_6]
  frame_out
  obtain ⟨q, k, rfl⟩ : ∃ (q : Fin 2048) (k : Fin 6912), j = ix2 q k := ⟨j 0, j 1, eq_ix2 j⟩
  exact code_at m c q k

theorem arr7 (c : Dev nD) (p : Fin 16) (l : Fin 128) (q : Fin 2048) (hq : q.val = 128 * p.val + l.val) :
    (dats m 0 c).arrAt 7 cfg0.N (ix3 p 0 l) = rowScale (row m c q) := by
  have e := congrFun ((dats m 0 c).arrAt_eq_of_after_last 7 t0_0 (by decide +kernel)
    (fun i => rowScale (row m c ⟨128 * (i 0).val + (i 2).val, by have h0 : (i 0).val < 16 := (i 0).isLt; have h2 : (i 2).val < 128 := (i 2).isLt; omega⟩)) fun j => ?_) (ix3 p 0 l)
  · exact e.trans (congrArg (fun q => rowScale (row m c q)) (Fin.ext hq.symm))
  blk_simp
  rw [after0_7]
  frame_out
  obtain ⟨p, l, rfl⟩ : ∃ (p : Fin 16) (l : Fin 128), j = ix3 p 0 l :=
    ⟨j 0, j 2, by funext a; match a with | ⟨0, _⟩ => rfl | ⟨1, _⟩ => exact Subsingleton.elim (α := Fin 1) _ _ | ⟨2, _⟩ => rfl⟩
  unfold k0_pay5
  refine (shapeCast_apply _ _ _ (ix2 ⟨128 * p.val + l.val, by omega⟩ 0) ?_).trans (scale_at m c _)
  rw [Shape.rowMajor_val_two, Shape.rowMajor_val_three]
  show (128 * p.val + l.val) * 1 + 0 = (p.val * 1 + 0) * 128 + l.val
  omega

theorem arr8 (c : Dev nD) (q : Fin 2048) (n : Fin 2560) : (dats m 0 c).arrAt 8 cfg0.N (ix2 q n) = res m c q n := by
  refine congrFun ((dats m 0 c).arrAt_eq_of_after_last 8 t0_0 (by decide +kernel) (fun i => res m c (i 0) (i 1)) fun j => ?_) (ix2 q n)
  blk_simp
  rw [after0_8]
  frame_out
  obtain ⟨q, n, rfl⟩ : ∃ (q : Fin 2048) (n : Fin 2560), j = ix2 q n := ⟨j 0, j 1, eq_ix2 j⟩
  refine (out_at _ _ _ _ _ q n).trans ?_
  rw [hidden_blk, weight_blk, outScale_blk, scale_at, Finset.sum_congr rfl fun k _ => by rw [code_at]]
  rfl

end Cert.DownRefIdeal.Value
-- ==== Proof.DownClaim.lean ====
/- The value claim of the down projection: on equal arguments the kernel's call and the reference leave the same codes,
   the same scales and the same result, because both leave the same functions of the arguments at every entry. -/
module

public import proofs.«01_k».proof.Defs
public import proofs.«01_k».proof.Proof.DownValue
public import proofs.«01_k».proof.Proof.DownRef
public import Idealize.ShloMosaic.Adequacy
public import Idealize.ShloMosaic.Init

@[expose] public section

set_option maxRecDepth 16384

noncomputable section

namespace Cert.DownClaim

open Idealize.ShloMosaic Idealize.SL.Sem

theorem algebraic : Cert.algebraic_DownIdeal_DownRefIdeal := by
  pair_intro
  · run_from Cert.DownIdeal.Gen.run_main m g
  · have hrow : ∀ c, Cert.DownRefIdeal.Value.row m' c = Cert.DownIdeal.Value.row m c := by
      intro c
      obtain ⟨a0, a1, a2, a3, a4, a5⟩ := hagree c
      unfold Cert.DownRefIdeal.Value.row Cert.DownIdeal.Value.row
      rw [show Cert.DownRefIdeal.Value.gatedArg m' c = Cert.DownIdeal.Value.gatedArg m c from a0,
        show Cert.DownRefIdeal.Value.sumArg m' c = Cert.DownIdeal.Value.sumArg m c from a1,
        show Cert.DownRefIdeal.Value.gainArg m' c = Cert.DownIdeal.Value.gainArg m c from a3]
    have hres : ∀ c, Cert.DownRefIdeal.Value.res m' c = Cert.DownIdeal.Value.res m c := by
      intro c
      obtain ⟨a0, a1, a2, a3, a4, a5⟩ := hagree c
      unfold Cert.DownRefIdeal.Value.res Cert.DownIdeal.Value.res
      rw [hrow c, show Cert.DownRefIdeal.Value.hiddenArg m' c = Cert.DownIdeal.Value.hiddenArg m c from a2,
        show Cert.DownRefIdeal.Value.weightArg m' c = Cert.DownIdeal.Value.weightArg m c from a4,
        show Cert.DownRefIdeal.Value.outScaleArg m' c = Cert.DownIdeal.Value.outScaleArg m c from a5]
    run_from Cert.DownRefIdeal.Gen.run_main m' g'
    · exact (Cert.DownIdeal.Value.arr6 m c _ fun q k => (Cert.DownRefIdeal.Value.arr6 m' c q k).trans (by rw [hrow c])).symm
    · exact (Cert.DownIdeal.Value.arr7 m c _ fun p l q hq => (Cert.DownRefIdeal.Value.arr7 m' c p l q hq).trans (by rw [hrow c])).symm
    · exact (Cert.DownIdeal.Value.arr8 m c _ fun q n => (Cert.DownRefIdeal.Value.arr8 m' c q n).trans (by rw [hres c])).symm

end Cert.DownClaim
-- ==== Proof.OProjRows.lean ====
/- The blocks that the output projection reads, and the rows it makes of them: normalised, their scales and their codes. -/
module

public import proofs.«01_k».proof.Proof.Gen.OProjIdeal.Frame
public import proofs.«01_k».proof.Proof.Quant
public import Idealize.ShloMosaic.Lib.Pipeline.ValueKit
public import Idealize.ShloMosaic.Lib.Pointwise

@[expose] public section

set_option maxRecDepth 16384

noncomputable section

namespace Cert.OProjIdeal.Value

open Cert.OProjIdeal Cert.OProjIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

/-- The arguments. -/
def attnArg (c : Dev nD) : Vec Ideal S2048x2560 .f32 := m (c, Proc.tc.devRef main_arg0)
def inputArg (c : Dev nD) : Vec Ideal S2048x2560 .bf16 := m (c, Proc.tc.devRef main_arg1)
def gainArg (c : Dev nD) : Vec Ideal S2560 .f32 := m (c, Proc.tc.devRef main_arg2)
def postGainArg (c : Dev nD) : Vec Ideal S2560 .f32 := m (c, Proc.tc.devRef main_arg3)
def weightArg (c : Dev nD) : Vec Ideal S640x2560 .i8 := m (c, Proc.tc.devRef main_arg4)
def outScaleArg (c : Dev nD) : Vec Ideal S2560 .f32 := m (c, Proc.tc.devRef main_arg5)

theorem idx0 : ∀ t : Fin cfg0.N, win0_0.index t = ![t.val, 0] ∧ win0_1.index t = ![t.val, 0] ∧ win0_2.index t = ![0, 0] ∧ win0_3.index t = ![0, 0]
   ∧ win0_4.index t = ![0, 0] ∧ win0_5.index t = ![0, 0] ∧ win0_6.index t = ![t.val, 0] ∧ win0_7.index t = ![t.val, 0, 0] ∧ win0_8.index t = ![t.val, 0]
   ∧ win0_9.index t = ![t.val, 0] ∧ win0_10.index t = ![t.val, 0, 0] := by
  decide +kernel

theorem attn_blk (c) (t : Fin cfg0.N) (r : Fin 256) (k : Fin 2560) (q : Fin 2048) (hq : q.val = 256 * t.val + r.val) :
    iblk m c 0 t (ix2 r k) = attnArg m c (ix2 q k) := by
  unfold attnArg
  blk_point [iblk, V, idx0 t]
theorem input_blk (c) (t : Fin cfg0.N) (r : Fin 256) (k : Fin 2560) (q : Fin 2048) (hq : q.val = 256 * t.val + r.val) :
    iblk m c 1 t (ix2 r k) = inputArg m c (ix2 q k) := by
  unfold inputArg
  blk_point [iblk, V, idx0 t]
theorem gain_blk (c) (t : Fin cfg0.N) (k : Fin 2560) : iblk m c 2 t (ix2 0 k) = gainArg m c (ix1 k) := by
  unfold gainArg
  blk_point [iblk, V, idx0 t]
theorem postGain_blk (c) (t : Fin cfg0.N) (k : Fin 2560) : iblk m c 3 t (ix2 0 k) = postGainArg m c (ix1 k) := by
  unfold postGainArg
  blk_point [iblk, V, idx0 t]
theorem weight_blk (c) (t : Fin cfg0.N) : iblk m c 4 t = weightArg m c := by
  funext i
  obtain ⟨r, k, rfl⟩ : ∃ (r : Fin 640) (k : Fin 2560), i = ix2 r k := ⟨i 0, i 1, eq_ix2 i⟩
  unfold weightArg
  blk_point [iblk, V, idx0 t]
theorem outScale_blk (c) (t : Fin cfg0.N) (k : Fin 2560) : iblk m c 5 t (ix2 0 k) = outScaleArg m c (ix1 k) := by
  unfold outScaleArg
  blk_point [iblk, V, idx0 t]

/-- Row `q` of the attention result, normalised. -/
def row (c : Dev nD) (q : Fin 2048) (k : Fin 2560) : EReal :=
  normed (attnArg m c (ix2 q k)) (∑ l : Fin 2560, attnArg m c (ix2 q l) * attnArg m c (ix2 q l)) (Ideal.ofBits FTy.f32 1159725056#32) (gainArg m c (ix1 k))

/-- The result at row `q` and column `n`, of the arguments. -/
def res (c : Dev nD) (q : Fin 2048) (n : Fin 2560) : EReal :=
  inputArg m c (ix2 q n) + product (row m c q) (weightArg m c) n.val * outScaleArg m c (ix1 n)

/-- Row `q` of the result, normalised. -/
def postRow (c : Dev nD) (q : Fin 2048) (k : Fin 2560) : EReal :=
  normed (res m c q k) (∑ l : Fin 2560, res m c q l * res m c q l) (Ideal.ofBits FTy.f32 1159725056#32) (postGainArg m c (ix1 k))

theorem norm_vec (X : FVec Ideal S256x2560 .f32) (g : FVec Ideal S1x2560 .f32) :
    k0_pay59 (F := Ideal) X g = normVec reduces_S256x2560_S256 shapeCasts_S256_S256x1 broadcasts_S256x1_S256x2560 broadcasts_S1x2560_S256x2560 0x45200000#32
      X (shapeCast S1x2560 g shapeCasts_S1x2560_S1x2560) := rfl

theorem scale_vec (X : FVec Ideal S256x2560 .f32) (g : FVec Ideal S1x2560 .f32) :
    k0_pay60 (F := Ideal) X g = scaleVec reduces_S256x2560_S256 shapeCasts_S256_S256x1 (k0_pay59 (F := Ideal) X g) := rfl

theorem code_vec (X : FVec Ideal S256x2560 .f32) (g : FVec Ideal S1x2560 .f32) :
    k0_pay61 (F := Ideal) X g = codeVec broadcasts_S256x1_S256x2560 (k0_pay59 (F := Ideal) X g) (k0_pay60 (F := Ideal) X g) := rfl

/-- A block cast to its own shape. -/
theorem same_at (g : FVec Ideal S1x2560 .f32) (k : Fin 2560) : shapeCast S1x2560 g shapeCasts_S1x2560_S1x2560 (ix2 0 k) = g (ix2 0 k) :=
  shapeCast_apply _ _ _ _ rfl

theorem norm_at (c) (t : Fin cfg0.N) (r : Fin 256) (q : Fin 2048) (hq : q.val = 256 * t.val + r.val) (k : Fin 2560) :
    k0_pay59 (F := Ideal) (iblk m c 0 t) (iblk m c 2 t) (ix2 r k) = row m c q k := by
  rw [norm_vec, normVec_at, same_at, gain_blk, attn_blk m c t r k q hq, Finset.sum_congr rfl fun l _ => by rw [attn_blk m c t r l q hq]]
  rfl

theorem scale_at (c) (t : Fin cfg0.N) (r : Fin 256) (q : Fin 2048) (hq : q.val = 256 * t.val + r.val) :
    k0_pay60 (F := Ideal) (iblk m c 0 t) (iblk m c 2 t) (ix2 r 0) = rowScale (row m c q) := by
  rw [scale_vec, scaleVec_at]
  exact congrArg rowScale (funext fun k => norm_at m c t r q hq k)

theorem code_at (c) (t : Fin cfg0.N) (r : Fin 256) (q : Fin 2048) (hq : q.val = 256 * t.val + r.val) (k : Fin 2560) :
    k0_pay61 (F := Ideal) (iblk m c 0 t) (iblk m c 2 t) (ix2 r k) = rowCode (row m c q) k := by
  rw [code_vec, codeVec_at, norm_at m c t r q hq, scale_at m c t r q hq]
  rfl

theorem post_norm_vec (H : FVec Ideal S256x2560 .f32) (g : FVec Ideal S1x2560 .f32) :
    k0_pay1 (F := Ideal) (k0_pay78 H) (k0_pay79 g) (k0_pay80 H) = normVec reduces_S256x2560_S256 shapeCasts_S256_S256x1 broadcasts_S256x1_S256x2560
      broadcasts_S1x2560_S256x2560 0x45200000#32 (shapeCast S256x2560 H shapeCasts_S256x2560_S256x2560) (shapeCast S1x2560 g shapeCasts_S1x2560_S1x2560) := rfl

theorem post_scale_vec (H : FVec Ideal S256x2560 .f32) (g : FVec Ideal S1x2560 .f32) (d : FVec Ideal S256x1 .f32) :
    k0_pay2 (F := Ideal) H g d = scaleVec reduces_S256x2560_S256 shapeCasts_S256_S256x1 (k0_pay1 (F := Ideal) H g d) := rfl

theorem post_code_vec (H : FVec Ideal S256x2560 .f32) (g : FVec Ideal S1x2560 .f32) (d : FVec Ideal S256x1 .f32) :
    k0_pay3 (F := Ideal) H g d = codeVec broadcasts_S256x1_S256x2560 (k0_pay1 (F := Ideal) H g d) (k0_pay2 (F := Ideal) H g d) := rfl

theorem post_norm_at (c) (t : Fin cfg0.N) (r : Fin 256) (q : Fin 2048) (H : FVec Ideal S256x2560 .f32) (hH : ∀ k, H (ix2 r k) = res m c q k) (k : Fin 2560) :
    k0_pay1 (F := Ideal) (k0_pay78 H) (k0_pay79 (iblk m c 3 t)) (k0_pay80 H) (ix2 r k) = postRow m c q k := by
  have e : ∀ l, shapeCast S256x2560 H shapeCasts_S256x2560_S256x2560 (ix2 r l) = res m c q l := fun l => (shapeCast_apply _ _ _ _ rfl).trans (hH l)
  rw [post_norm_vec, normVec_at, same_at, postGain_blk, e, Finset.sum_congr rfl fun l _ => by rw [e]]
  rfl

theorem post_scale_at (c) (t : Fin cfg0.N) (r : Fin 256) (q : Fin 2048) (H : FVec Ideal S256x2560 .f32) (hH : ∀ k, H (ix2 r k) = res m c q k) :
    k0_pay2 (F := Ideal) (k0_pay78 H) (k0_pay79 (iblk m c 3 t)) (k0_pay80 H) (ix2 r 0) = rowScale (postRow m c q) := by
  rw [post_scale_vec, scaleVec_at]
  exact congrArg rowScale (funext fun k => post_norm_at m c t r q H hH k)

theorem post_code_at (c) (t : Fin cfg0.N) (r : Fin 256) (q : Fin 2048) (H : FVec Ideal S256x2560 .f32) (hH : ∀ k, H (ix2 r k) = res m c q k) (k : Fin 2560) :
    k0_pay3 (F := Ideal) (k0_pay78 H) (k0_pay79 (iblk m c 3 t)) (k0_pay80 H) (ix2 r k) = rowCode (postRow m c q) k := by
  rw [post_code_vec, codeVec_at, post_norm_at m c t r q H hH, post_scale_at m c t r q H hH]
  rfl

end Cert.OProjIdeal.Value
-- ==== Proof.OProjWeights.lean ====
/- The scratch of unpacked weights after the first grid point. -/
module

public import proofs.«01_k».proof.Proof.Gen.OProjIdeal.Frame
public import proofs.«01_k».proof.Proof.OProjRows
public import Idealize.ShloMosaic.Lib.Pipeline.ValueKit
public import Idealize.ShloMosaic.Lib.Pointwise

@[expose] public section

set_option maxRecDepth 16384

noncomputable section

namespace Cert.OProjIdeal.Value

open Cert.OProjIdeal Cert.OProjIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

/-- A piece of the scratch holds the weights of its rows. -/
theorem w_tile (W : Vec Ideal S640x2560 .i8) (n : Fin 2560) (k : Fin 2560) (off src : ℕ) (s : BitVec 32)
    (h : ∀ a, (![src, 0] : Fin 2 → ℕ) a + (![64, 2560] : Fin 2 → ℕ) a ≤ S640x2560.size a)
    (ok : 64 = 4 * 16 ∧ s.toNat / 2 < 4 ∧ s = BitVec.ofNat 32 (2 * (s.toNat / 2)) ∧ off = 0 + s.toNat / 2 * 640 + src ∧ src + 64 ≤ 640) :
    View.TileAt (Val := Elt Ideal) (S := S2560x2560) (e := .bf16) (ix2 n k) ![off, 0] ![64, 2560]
      (stored bitcasts_S64x2560_w8_S16x2560_w32 bitcasts_S16x2560_w32_S64x2560_w8 shapeCasts_S64x2560_S64x2560 s
        (View.ld (Val := Elt Ideal) (S := S640x2560) (e' := .i8) W (Rect.unit (s := S640x2560) ![src, 0] ![64, 2560] h)))
      (entry W n.val k) :=
  piece_tile W 0 off src s _ _ _ h ok _ _ fun _ _ => rfl

/-- After a point that fills it, the scratch holds the unpacked weights. -/
theorem w_first (c : Dev nD) (t : Fin cfg0.N) (h0 : t.val % 8 = 0) (n : Fin 2560) (k : Fin 2560) :
    (outsAt0 m c t.val t.isLt).2.2.2.2.2 (ix2 n k) = entry (weightArg m c) n.val k := by
  rw [outsAt0_A m c t h0]
  frame_out
  rw [weight_blk]
  refine View.canon_eq_of_allAt _ _ _ ?cov ?_
  case cov =>
    exact View.cover_of_tiledL (s := S2560x2560) _ S64x2560.size (by sl_kernel_rfl) _
  repeat refine View.allAt_cons_unit _ _ _ _ _ (w_tile (weightArg m c) n k _ _ _ _ (by decide)) ?_
  exact View.allAt_nil _ _

end Cert.OProjIdeal.Value
-- ==== Proof.OProjBlocks.lean ====
/- What a grid point of the output projection leaves in its blocks. -/
module

public import proofs.«01_k».proof.Proof.Gen.OProjIdeal.Frame
public import proofs.«01_k».proof.Proof.OProjWeights
public import Idealize.ShloMosaic.Lib.Pipeline.ValueKit
public import Idealize.ShloMosaic.Lib.Pointwise

@[expose] public section

set_option maxRecDepth 16384

noncomputable section

namespace Cert.OProjIdeal.Value

open Cert.OProjIdeal Cert.OProjIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

/-- A tile of the result, read at an index. -/
theorem tile_at (S : FVec Ideal S256x1 .f32) (C : IVec S256x2560 8) (w : Vec Ideal S256x2560 .bf16) (h : Vec Ideal S256x256 .bf16)
    (s : Vec Ideal S1x256 .f32) (a : Fin 256) (b : Fin 256) :
    k0_pay65 (F := Ideal) S C w h s (ix2 a b)
      = h (ix2 a b) + (∑ k : Fin 2560, (((C (ix2 a k)).toInt : ℝ) : EReal) * w (ix2 b k)) * S (ix2 a 0) * s (ix2 0 b) := by
  pointwise [k0_pay65, k0_pay64]
  rfl

/-- A tile of columns from `off` on holds the result, if the weights it is made of are the rows from `off` on. -/
theorem tile (c : Dev nD) (t : Fin cfg0.N) (r : Fin 256) (n : Fin 2560) (q : Fin 2048) (hq : q.val = 256 * t.val + r.val) (off : ℕ)
    (w : Vec Ideal S256x2560 .bf16) (hw : ∀ (a : Fin 256) (k : Fin 2560), w (ix2 a k) = entry (weightArg m c) (off + a.val) k)
    (h₁ : ∀ a, (![0, off] : Fin 2 → ℕ) a + (![256, 256] : Fin 2 → ℕ) a ≤ S256x2560.size a)
    (h₂ : ∀ a, (![0, off] : Fin 2 → ℕ) a + (![1, 256] : Fin 2 → ℕ) a ≤ S1x2560.size a) :
    View.TileAt (Val := Elt Ideal) (S := S256x2560) (e := .f32) (ix2 r n) ![0, off] ![256, 256]
      (k0_pay65 (F := Ideal) (k0_pay60 (iblk m c 0 t) (iblk m c 2 t)) (k0_pay61 (iblk m c 0 t) (iblk m c 2 t)) w
        (View.ld (Val := Elt Ideal) (S := S256x2560) (e' := .bf16) (iblk m c 1 t) (Rect.unit (s := S256x2560) ![0, off] ![256, 256] h₁))
        (View.ld (Val := Elt Ideal) (S := S1x2560) (e' := .f32) (iblk m c 5 t) (Rect.unit (s := S1x2560) ![0, off] ![1, 256] h₂)))
      (res m c q n) := by
  intro x hx
  obtain ⟨a, b, rfl⟩ : ∃ (a : Fin 256) (b : Fin 256), x = ix2 a b := ⟨x 0, x 1, eq_ix2 x⟩
  have h0 : r.val = 0 + a.val := hx 0
  have h1 : n.val = off + b.val := hx 1
  obtain rfl : r = a := Fin.ext (by omega)
  rw [tile_at, scale_at m c t r q hq]
  unfold res product
  have e₁ : View.ld (Val := Elt Ideal) (S := S256x2560) (e' := .bf16) (iblk m c 1 t) (Rect.unit (s := S256x2560) ![0, off] ![256, 256] h₁) (ix2 r b)
      = inputArg m c (ix2 q n) := by
    refine Eq.trans (congrArg (iblk m c 1 t) ?_) (input_blk m c t r n q hq)
    funext d
    match d with
    | ⟨0, _⟩ => exact Fin.ext (by show 0 + 1 * r.val = r.val; omega)
    | ⟨1, _⟩ => exact Fin.ext (by show off + 1 * b.val = n.val; omega)
  have e₂ : View.ld (Val := Elt Ideal) (S := S1x2560) (e' := .f32) (iblk m c 5 t) (Rect.unit (s := S1x2560) ![0, off] ![1, 256] h₂) (ix2 0 b)
      = outScaleArg m c (ix1 n) := by
    refine Eq.trans (congrArg (iblk m c 5 t) ?_) (outScale_blk m c t n)
    funext d
    match d with
    | ⟨0, _⟩ => exact Fin.ext rfl
    | ⟨1, _⟩ => exact Fin.ext (by show off + 1 * b.val = n.val; omega)
  rw [e₁, e₂, Finset.sum_congr rfl fun k _ => by rw [code_at m c t r q hq k, hw b k, ← h1]]

/-- The rows of a scratch that are loaded for a tile, from the scratch's contents. -/
theorem load_at (W : Vec Ideal S640x2560 .i8) (X : Vec Ideal S2560x2560 .bf16) (hX : ∀ n k, X (ix2 n k) = entry W n.val k) (off : ℕ)
    (h : ∀ a, (![off, 0] : Fin 2 → ℕ) a + (![256, 2560] : Fin 2 → ℕ) a ≤ S2560x2560.size a) (a : Fin 256) (k : Fin 2560) :
    X ((Rect.unit (s := S2560x2560) ![off, 0] ![256, 2560] h).idx (ix2 a k)) = entry W (off + a.val) k := by
  have hb : off + a.val < 2560 := by have := h 0; have : off + 256 ≤ 2560 := this; omega
  have e : (Rect.unit (s := S2560x2560) ![off, 0] ![256, 2560] h).idx (ix2 a k) = ix2 ⟨off + a.val, hb⟩ k := by
    funext d
    match d with
    | ⟨0, _⟩ => exact Fin.ext (by show off + 1 * a.val = off + a.val; omega)
    | ⟨1, _⟩ => exact Fin.ext (by show 0 + 1 * k.val = k.val; omega)
  exact (congrArg X e).trans (hX _ _)

theorem load_pieces (W : Vec Ideal S640x2560 .i8) (L : List (View.Piece (Elt Ideal) S2560x2560 .bf16))
    (hL : ∀ n k, View.canon L (ix2 n k) = entry W n.val k) (off : ℕ)
    (h : ∀ a, (![off, 0] : Fin 2 → ℕ) a + (![256, 2560] : Fin 2 → ℕ) a ≤ S2560x2560.size a) (a : Fin 256) (k : Fin 2560) :
    (View.whole cc0_scratch0).readCov (Val := Elt Ideal) L (Rect.unit (s := S2560x2560) ![off, 0] ![256, 2560] h).toLoadRect (ix2 a k)
      = entry W (off + a.val) k := by
  rw [View.readCov_eq_canon']
  exact load_at W (View.canon L) hL off h a k

theorem load_kept (W : Vec Ideal S640x2560 .i8) (X : Vec Ideal S2560x2560 .bf16) (hX : ∀ n k, X (ix2 n k) = entry W n.val k) (off : ℕ)
    (h : ∀ a, (![off, 0] : Fin 2 → ℕ) a + (![256, 2560] : Fin 2 → ℕ) a ≤ S2560x2560.size a) (a : Fin 256) (k : Fin 2560) :
    View.ld (Val := Elt Ideal) (S := S2560x2560) (e' := .bf16)
      (View.read (Elt Ideal) (View.whole cc0_scratch0) ((Memref.isWhole_whole cc0_scratch0).unread X))
      (Rect.unit (s := S2560x2560) ![off, 0] ![256, 2560] h) (ix2 a k) = entry W (off + a.val) k := by
  rw [(Memref.isWhole_whole cc0_scratch0).read_unread]
  exact load_at W X hX off h a k

/-- The scratch holds the unpacked weights after every point. -/
theorem w_at (c : Dev nD) (n : ℕ) (h : n < cfg0.N) (i : Fin 2560) (k : Fin 2560) :
    (outsAt0 m c n h).2.2.2.2.2 (ix2 i k) = entry (weightArg m c) i.val k := by
  induction n with
  | zero => exact w_first m c ⟨0, h⟩ (by show 0 % 8 = 0; omega) i k
  | succ n ih =>
    have hN := lt_of_lt_of_eq h (show cfg0.N = 8 from N_0)
    have e := congrArg (fun p => p.2.2.2.2.2 (ix2 i k)) (outsAt0_B m c ⟨n + 1, h⟩ (by show ¬ (n + 1) % 8 = 0; omega))
    refine e.trans ?_
    frame_out
    exact ih (by omega)

end Cert.OProjIdeal.Value
-- ==== Proof.OProjValue.lean ====
/- The results of the output projection, as functions of its arguments. -/
module

public import proofs.«01_k».proof.Proof.Gen.OProjIdeal.Frame
public import proofs.«01_k».proof.Proof.OProjBlocks
public import Idealize.ShloMosaic.Lib.Pipeline.ValueKit
public import Idealize.ShloMosaic.Lib.Pointwise

@[expose] public section

set_option maxRecDepth 16384

noncomputable section

namespace Cert.OProjIdeal.Value

open Cert.OProjIdeal Cert.OProjIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

theorem codes_out (c : Dev nD) (t : Fin cfg0.N) : (outsAt0 m c t.val t.isLt).1 = k0_pay61 (F := Ideal) (iblk m c 0 t) (iblk m c 2 t) := by
  by_cases h0 : t.val % 8 = 0
  · rw [outsAt0_A m c t h0]
    frame_out
  · rw [outsAt0_B m c t h0]
    frame_out

theorem scales_out (c : Dev nD) (t : Fin cfg0.N) :
    (outsAt0 m c t.val t.isLt).2.1 = k0_pay63 (F := Ideal) (k0_pay62 (iblk m c 0 t) (iblk m c 2 t)) := by
  by_cases h0 : t.val % 8 = 0
  · rw [outsAt0_A m c t h0]
    frame_out
  · rw [outsAt0_B m c t h0]
    frame_out

theorem out_first (c : Dev nD) (t : Fin cfg0.N) (h0 : t.val % 8 = 0) (r : Fin 256) (n : Fin 2560) (q : Fin 2048) (hq : q.val = 256 * t.val + r.val) :
    (outsAt0 m c t.val t.isLt).2.2.1 (ix2 r n) = res m c q n := by
  have hL := w_at m c t.val t.isLt
  rw [outsAt0_A m c t h0] at hL ⊢
  frame_out at hL ⊢
  refine View.canon_eq_of_allAt _ _ _ (View.cover_of_tiledL (s := S256x2560) _ S256x256.size (by sl_kernel_rfl) _) ?_
  repeat refine View.allAt_cons_unit _ _ _ _ _ (tile m c t r n q hq _ _ (load_pieces (weightArg m c) _ hL _ _) _ _) ?_
  exact View.allAt_nil _ _

theorem out_next (c : Dev nD) (t : Fin cfg0.N) (h0 : ¬ t.val % 8 = 0) (r : Fin 256) (n : Fin 2560) (q : Fin 2048) (hq : q.val = 256 * t.val + r.val) :
    (outsAt0 m c t.val t.isLt).2.2.1 (ix2 r n) = res m c q n := by
  rw [outsAt0_B m c t h0]
  frame_out
  refine View.canon_eq_of_allAt _ _ _ (View.cover_of_tiledL (s := S256x2560) _ S256x256.size (by sl_kernel_rfl) _) ?_
  repeat refine View.allAt_cons_unit _ _ _ _ _ (tile m c t r n q hq _ _ (load_kept (weightArg m c) _ (w_at m c (t.val - 1) _) _ _) _ _) ?_
  exact View.allAt_nil _ _

theorem out_at (c : Dev nD) (t : Fin cfg0.N) (r : Fin 256) (n : Fin 2560) (q : Fin 2048) (hq : q.val = 256 * t.val + r.val) :
    (outsAt0 m c t.val t.isLt).2.2.1 (ix2 r n) = res m c q n := by
  by_cases h0 : t.val % 8 = 0
  · exact out_first m c t h0 r n q hq
  · exact out_next m c t h0 r n q hq

/-- The result's block, read back whole from the pieces it was stored in. -/
theorem read_back (t : Fin cfg0.N) (L : List (View.Piece (Elt Ideal) S256x2560 .f32))
    (h : ∀ a, (![0, 0] : Fin 2 → ℕ) a + S256x2560.size a ≤ S256x2560.size a) (r : Fin 256) (k : Fin 2560) :
    (ms0_8 t).view.readCov (Val := Elt Ideal) L (Rect.unit (s := S256x2560) ![0, 0] S256x2560.size h).toLoadRect (ix2 r k) = View.canon L (ix2 r k) := by
  rw [View.readCov_eq_canon']
  refine congrArg (View.canon L) ?_
  funext d
  match d with
  | ⟨0, _⟩ => exact Fin.ext (by show 0 + 1 * r.val = r.val; omega)
  | ⟨1, _⟩ => exact Fin.ext (by show 0 + 1 * k.val = k.val; omega)

/-- The block of codes of the result, and that of their scales. -/
theorem post_out (c : Dev nD) (t : Fin cfg0.N) : ∃ H : FVec Ideal S256x2560 .f32,
    (∀ (r : Fin 256) (q : Fin 2048), q.val = 256 * t.val + r.val → ∀ k, H (ix2 r k) = res m c q k)
    ∧ (outsAt0 m c t.val t.isLt).2.2.2.1 = k0_pay3 (F := Ideal) (k0_pay78 H) (k0_pay79 (iblk m c 3 t)) (k0_pay80 H)
    ∧ (outsAt0 m c t.val t.isLt).2.2.2.2.1 = k0_pay4 (F := Ideal) (k0_pay78 H) (k0_pay79 (iblk m c 3 t)) (k0_pay80 H) := by
  have hR := out_at m c t
  by_cases h0 : t.val % 8 = 0
  · rw [outsAt0_A m c t h0] at hR ⊢
    frame_out at hR ⊢
    exact ⟨_, fun r q hq k => (read_back t _ _ r k).trans (hR r k q hq), rfl, rfl⟩
  · rw [outsAt0_B m c t h0] at hR ⊢
    frame_out at hR ⊢
    exact ⟨_, fun r q hq k => (read_back t _ _ r k).trans (hR r k q hq), rfl, rfl⟩

/-- The row of the arrays that row `r` of block `t` is. -/
def rowOf (t : Fin cfg0.N) (r : Fin 256) : Fin 2048 :=
  ⟨256 * t.val + r.val, by have := lt_of_lt_of_eq t.isLt (show cfg0.N = 8 from N_0); omega⟩

theorem arr6 (c : Dev nD) (W) (hW : ∀ q k, W (ix2 q k) = rowCode (row m c q) k) : (dats m 0 c).arrAt 6 cfg0.N = W := by
  refine (dats m 0 c).arrAt_eq_of_covers 6 _ (by decide +kernel) fun t hf y => ?_
  blk_simp
  rw [after0_6]
  obtain ⟨r, k, rfl⟩ : ∃ (r : Fin 256) (k : Fin 2560), y = ix2 r k := ⟨y 0, y 1, eq_ix2 y⟩
  rw [codes_out, code_at m c t r (rowOf t r) rfl k, ← hW]
  unfold rowOf
  blk_point [idx0 t]

/-- A column of scales laid out as a line, read at an index. -/
theorem line_at (s : FVec Ideal S256x1 .f32) (l : Fin 256) : shapeCast S1x1x256 (transpose S1x256 [1, 0] s transposes_S256x1_p1_0_S1x256)
    shapeCasts_S1x256_S1x1x256 (ix3 0 0 l) = s (ix2 l 0) := by
  pointwise

/-- The index of a line's entry. -/
theorem line_index (y : S1x1x256.Idx) : ∃ l : Fin 256, y = ix3 0 0 l :=
  ⟨y 2, by funext a; match a with | ⟨0, _⟩ => exact Subsingleton.elim (α := Fin 1) _ _ | ⟨1, _⟩ => exact Subsingleton.elim (α := Fin 1) _ _ | ⟨2, _⟩ => rfl⟩

theorem scale_line (X : FVec Ideal S256x2560 .f32) (g : FVec Ideal S1x2560 .f32) (l : Fin 256) :
    k0_pay63 (F := Ideal) (k0_pay62 X g) (ix3 0 0 l) = k0_pay60 X g (ix2 l 0) := by
  unfold k0_pay63 k0_pay62
  exact line_at _ l

theorem post_scale_line (H : FVec Ideal S256x2560 .f32) (g : FVec Ideal S1x2560 .f32) (d : FVec Ideal S256x1 .f32) (l : Fin 256) :
    k0_pay4 (F := Ideal) H g d (ix3 0 0 l) = k0_pay2 H g d (ix2 l 0) := by
  unfold k0_pay4
  exact line_at _ l

theorem arr7 (c : Dev nD) (W) (hW : ∀ (p : Fin 8) (l : Fin 256) (q : Fin 2048), q.val = 256 * p.val + l.val → W (ix3 p 0 l) = rowScale (row m c q)) :
    (dats m 0 c).arrAt 7 cfg0.N = W := by
  refine (dats m 0 c).arrAt_eq_of_covers 7 _ (by decide +kernel) fun t hf y => ?_
  blk_simp
  rw [after0_7]
  obtain ⟨l, rfl⟩ := line_index y
  rw [scales_out, scale_line, scale_at m c t l (rowOf t l) rfl, ← hW ⟨t.val, lt_of_lt_of_eq t.isLt (show cfg0.N = 8 from N_0)⟩ l (rowOf t l) rfl]
  blk_point [idx0 t]

theorem arr8 (c : Dev nD) (W) (hW : ∀ q n, W (ix2 q n) = res m c q n) : (dats m 0 c).arrAt 8 cfg0.N = W := by
  refine (dats m 0 c).arrAt_eq_of_covers 8 _ (by decide +kernel) fun t hf y => ?_
  blk_simp
  rw [after0_8]
  obtain ⟨r, n, rfl⟩ : ∃ (r : Fin 256) (n : Fin 2560), y = ix2 r n := ⟨y 0, y 1, eq_ix2 y⟩
  rw [out_at m c t r n (rowOf t r) rfl, ← hW]
  unfold rowOf
  blk_point [idx0 t]

theorem arr9 (c : Dev nD) (W) (hW : ∀ q k, W (ix2 q k) = rowCode (postRow m c q) k) : (dats m 0 c).arrAt 9 cfg0.N = W := by
  refine (dats m 0 c).arrAt_eq_of_covers 9 _ (by decide +kernel) fun t hf y => ?_
  blk_simp
  rw [after0_9]
  obtain ⟨r, k, rfl⟩ : ∃ (r : Fin 256) (k : Fin 2560), y = ix2 r k := ⟨y 0, y 1, eq_ix2 y⟩
  obtain ⟨H, hH, e, _⟩ := post_out m c t
  rw [e, post_code_at m c t r (rowOf t r) H (hH r _ rfl) k, ← hW]
  unfold rowOf
  blk_point [idx0 t]

theorem arr10 (c : Dev nD) (W) (hW : ∀ (p : Fin 8) (l : Fin 256) (q : Fin 2048), q.val = 256 * p.val + l.val → W (ix3 p 0 l) = rowScale (postRow m c q)) :
    (dats m 0 c).arrAt 10 cfg0.N = W := by
  refine (dats m 0 c).arrAt_eq_of_covers 10 _ (by decide +kernel) fun t hf y => ?_
  blk_simp
  rw [after0_10]
  obtain ⟨l, rfl⟩ := line_index y
  obtain ⟨H, hH, _, e⟩ := post_out m c t
  rw [e, post_scale_line, post_scale_at m c t l (rowOf t l) H (hH l _ rfl), ← hW ⟨t.val, lt_of_lt_of_eq t.isLt (show cfg0.N = 8 from N_0)⟩ l (rowOf t l) rfl]
  blk_point [idx0 t]

end Cert.OProjIdeal.Value
-- ==== Proof.OProjRef.lean ====
/- The results of the reference of the output projection, as functions of its arguments. -/
module

public import proofs.«01_k».proof.Proof.Gen.OProjRefIdeal.Frame
public import proofs.«01_k».proof.Proof.Quant
public import Idealize.ShloMosaic.Lib.Pipeline.ValueKit
public import Idealize.ShloMosaic.Lib.Pointwise

@[expose] public section

set_option maxRecDepth 16384

noncomputable section

namespace Cert.OProjRefIdeal.Value

open Cert.OProjRefIdeal Cert.OProjRefIdeal.Gen Idealize.ShloMosaic Idealize.ShloMosaic.TcCoe Idealize.SL.Sem
open Idealize.ShloMosaic.Pipeline (Dat)
open Cert.Ternary (entry)
open Cert.Quant

variable (m : (ℓ : Loc nD τ sig) → Buf (Elt Ideal) ℓ)

/-- The arguments. -/
def attnArg (c : Dev nD) : Vec Ideal S2048x2560 .f32 := m (c, Proc.tc.devRef main_arg0)
def inputArg (c : Dev nD) : Vec Ideal S2048x2560 .bf16 := m (c, Proc.tc.devRef main_arg1)
def gainArg (c : Dev nD) : Vec Ideal S2560 .f32 := m (c, Proc.tc.devRef main_arg2)
def postGainArg (c : Dev nD) : Vec Ideal S2560 .f32 := m (c, Proc.tc.devRef main_arg3)
def weightArg (c : Dev nD) : Vec Ideal S640x2560 .i8 := m (c, Proc.tc.devRef main_arg4)
def outScaleArg (c : Dev nD) : Vec Ideal S2560 .f32 := m (c, Proc.tc.devRef main_arg5)

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := by
  decide +kernel

theorem attn_blk (c) (q : Fin 2048) (k : Fin 2560) :
    iblk m c 0 t0_0 (ix2 q k) = attnArg m c (ix2 q k) := by
  unfold attnArg
  blk_point [iblk, V, idx0 t0_0]
theorem input_blk (c) (q : Fin 2048) (k : Fin 2560) :
    iblk m c 1 t0_0 (ix2 q k) = inputArg m c (ix2 q k) := by
  unfold inputArg
  blk_point [iblk, V, idx0 t0_0]
theorem gain_blk (c) (k : Fin 2560) : iblk m c 2 t0_0 (ix2 0 k) = gainArg m c (ix1 k) := by
  unfold gainArg
  blk_point [iblk, V, idx0 t0_0]
theorem postGain_blk (c) (k : Fin 2560) : iblk m c 3 t0_0 (ix2 0 k) = postGainArg m c (ix1 k) := by
  unfold postGainArg
  blk_point [iblk, V, idx0 t0_0]
theorem weight_blk (c) : iblk m c 4 t0_0 = weightArg m c := by
  funext i
  obtain ⟨r, k, rfl⟩ : ∃ (r : Fin 640) (k : Fin 2560), i = ix2 r k := ⟨i 0, i 1, eq_ix2 i⟩
  unfold weightArg
  blk_point [iblk, V, idx0 t0_0]
theorem outScale_blk (c) (k : Fin 2560) : iblk m c 5 t0_0 (ix2 0 k) = outScaleArg m c (ix1 k) := by
  unfold outScaleArg
  blk_point [iblk, V, idx0 t0_0]

/-- Row `q` of the attention result, normalised. -/
def row (c : Dev nD) (q : Fin 2048) (k : Fin 2560) : EReal :=
  normed (attnArg m c (ix2 q k)) (∑ l : Fin 2560, attnArg m c (ix2 q l) * attnArg m c (ix2 q l)) (Ideal.ofBits FTy.f32 1159725056#32) (gainArg m c (ix1 k))

/-- The result at row `q` and column `n`, of the arguments. -/
def res (c : Dev nD) (q : Fin 2048) (n : Fin 2560) : EReal :=
  inputArg m c (ix2 q n) + product (row m c q) (weightArg m c) n.val * outScaleArg m c (ix1 n)

/-- Row `q` of the result, normalised. -/
def postRow (c : Dev nD) (q : Fin 2048) (k : Fin 2560) : EReal :=
  normed (res m c q k) (∑ l : Fin 2560, res m c q l * res m c q l) (Ideal.ofBits FTy.f32 1159725056#32) (postGainArg m c (ix1 k))

theorem norm_vec (X : FVec Ideal S2048x2560 .f32) (g : FVec Ideal S1x2560 .f32) :
    k0_pay5 (F := Ideal) X g = normVec reduces_S2048x2560_S2048 shapeCasts_S2048_S2048x1 broadcasts_S2048x1_S2048x2560 broadcasts_S1x2560_S2048x2560 0x45200000#32
      X (shapeCast S1x2560 g shapeCasts_S1x2560_S1x2560) := rfl

theorem scale_vec (X : FVec Ideal S2048x2560 .f32) (g : FVec Ideal S1x2560 .f32) :
    k0_pay6 (F := Ideal) X g = scaleVec reduces_S2048x2560_S2048 shapeCasts_S2048_S2048x1 (k0_pay5 (F := Ideal) X g) := rfl

theorem code_vec (X : FVec Ideal S2048x2560 .f32) (g : FVec Ideal S1x2560 .f32) :
    k0_pay7 (F := Ideal) X g = codeVec broadcasts_S2048x1_S2048x2560 (k0_pay5 (F := Ideal) X g) (k0_pay6 (F := Ideal) X g) := rfl

/-- A block cast to its own shape. -/
theorem same_at (g : FVec Ideal S1x2560 .f32) (k : Fin 2560) : shapeCast S1x2560 g shapeCasts_S1x2560_S1x2560 (ix2 0 k) = g (ix2 0 k) :=
  shapeCast_apply _ _ _ _ rfl

theorem norm_at (c : Dev nD) (q : Fin 2048) (k : Fin 2560) : k0_pay5 (F := Ideal) (iblk m c 0 t0_0) (iblk m c 2 t0_0) (ix2 q k) = row m c q k := by
  rw [norm_vec, normVec_at, same_at, gain_blk, attn_blk m c q k, Finset.sum_congr rfl fun l _ => by rw [attn_blk m c q l]]
  rfl

theorem scale_at (c : Dev nD) (q : Fin 2048) : k0_pay6 (F := Ideal) (iblk m c 0 t0_0) (iblk m c 2 t0_0) (ix2 q 0) = rowScale (row m c q) := by
  rw [scale_vec, scaleVec_at]
  exact congrArg rowScale (funext fun k => norm_at m c q k)

theorem code_at (c : Dev nD) (q : Fin 2048) (k : Fin 2560) : k0_pay7 (F := Ideal) (iblk m c 0 t0_0) (iblk m c 2 t0_0) (ix2 q k) = rowCode (row m c q) k := by
  rw [code_vec, codeVec_at, norm_at, scale_at]
  rfl

theorem out_at (s : FVec Ideal S2048x1 .f32) (C : IVec S2048x2560 8) (h : FVec Ideal S2048x2560 .f32) (W : Vec Ideal S640x2560 .i8)
    (g : Vec Ideal S1x2560 .f32) (q : Fin 2048) (n : Fin 2560) : k0_pay10 (F := Ideal) s C h W g (ix2 q n)
      = h (ix2 q n) + (∑ k : Fin 2560, (((C (ix2 q k)).toInt : ℝ) : EReal) * entry W n.val k) * s (ix2 q 0) * g (ix2 0 n) := by
  pointwise [k0_pay10]
  refine congrArg (fun z : EReal => h (ix2 q n) + z * s (ix2 q 0) * g (ix2 0 n)) ?_
  refine Finset.sum_congr rfl fun k _ => ?_
  rw [Ternary.entry_of_fields (R := 640) W n.val (by omega) k]
  rfl

/-- The result, read at an index. -/
theorem res_at (c : Dev nD) (q : Fin 2048) (n : Fin 2560) :
    k0_pay10 (F := Ideal) (k0_pay6 (iblk m c 0 t0_0) (iblk m c 2 t0_0)) (k0_pay7 (iblk m c 0 t0_0) (iblk m c 2 t0_0)) (k0_pay9 (iblk m c 1 t0_0))
      (iblk m c 4 t0_0) (iblk m c 5 t0_0) (ix2 q n) = res m c q n := by
  refine (out_at _ _ _ _ _ q n).trans ?_
  rw [show k0_pay9 (F := Ideal) (iblk m c 1 t0_0) (ix2 q n) = inputArg m c (ix2 q n) from input_blk m c q n, weight_blk, outScale_blk, scale_at,
    Finset.sum_congr rfl fun k _ => by rw [code_at]]
  rfl

theorem post_norm_vec (s : FVec Ideal S2048x1 .f32) (C : IVec S2048x2560 8) (h : FVec Ideal S2048x2560 .f32) (W : Vec Ideal S640x2560 .i8)
    (w : Vec Ideal S1x2560 .f32) (g : Vec Ideal S1x2560 .f32) :
    k0_pay1 (F := Ideal) (k0_pay10 s C h W w) (k0_pay11 g) (k0_pay12 s C h W w) (Scalar.ofBits .f32 0x3727C5AC#32)
      = normVec reduces_S2048x2560_S2048 shapeCasts_S2048_S2048x1 broadcasts_S2048x1_S2048x2560
      broadcasts_S1x2560_S2048x2560 0x45200000#32 (k0_pay10 (F := Ideal) s C h W w) (shapeCast S1x2560 g shapeCasts_S1x2560_S1x2560) := rfl

theorem post_scale_vec (H : FVec Ideal S2048x2560 .f32) (g : FVec Ideal S1x2560 .f32) (d : FVec Ideal S2048x1 .f32) (e : Ideal .f32) :
    k0_pay2 (F := Ideal) H g d e = scaleVec reduces_S2048x2560_S2048 shapeCasts_S2048_S2048x1 (k0_pay1 (F := Ideal) H g d e) := rfl

theorem post_code_vec (H : FVec Ideal S2048x2560 .f32) (g : FVec Ideal S1x2560 .f32) (d : FVec Ideal S2048x1 .f32) (e : Ideal .f32) :
    k0_pay3 (F := Ideal) H g d e = codeVec broadcasts_S2048x1_S2048x2560 (k0_pay1 (F := Ideal) H g d e) (k0_pay2 (F := Ideal) H g d e) := rfl

theorem post_norm_at (c : Dev nD) (s : FVec Ideal S2048x1 .f32) (C : IVec S2048x2560 8) (h : FVec Ideal S2048x2560 .f32) (W : Vec Ideal S640x2560 .i8)
    (w : Vec Ideal S1x2560 .f32) (hH : ∀ q n, k0_pay10 (F := Ideal) s C h W w (ix2 q n) = res m c q n) (q : Fin 2048) (k : Fin 2560) :
    k0_pay1 (F := Ideal) (k0_pay10 s C h W w) (k0_pay11 (iblk m c 3 t0_0)) (k0_pay12 s C h W w) (Scalar.ofBits .f32 0x3727C5AC#32) (ix2 q k) = postRow m c q k := by
  rw [post_norm_vec, normVec_at, same_at, postGain_blk, hH, Finset.sum_congr rfl fun l _ => by rw [hH]]
  rfl

theorem post_scale_at (c : Dev nD) (s : FVec Ideal S2048x1 .f32) (C : IVec S2048x2560 8) (h : FVec Ideal S2048x2560 .f32) (W : Vec Ideal S640x2560 .i8)
    (w : Vec Ideal S1x2560 .f32) (hH : ∀ q n, k0_pay10 (F := Ideal) s C h W w (ix2 q n) = res m c q n) (q : Fin 2048) :
    k0_pay2 (F := Ideal) (k0_pay10 s C h W w) (k0_pay11 (iblk m c 3 t0_0)) (k0_pay12 s C h W w) (Scalar.ofBits .f32 0x3727C5AC#32) (ix2 q 0)
      = rowScale (postRow m c q) := by
  rw [post_scale_vec, scaleVec_at]
  exact congrArg rowScale (funext fun k => post_norm_at m c s C h W w hH q k)

theorem post_code_at (c : Dev nD) (s : FVec Ideal S2048x1 .f32) (C : IVec S2048x2560 8) (h : FVec Ideal S2048x2560 .f32) (W : Vec Ideal S640x2560 .i8)
    (w : Vec Ideal S1x2560 .f32) (hH : ∀ q n, k0_pay10 (F := Ideal) s C h W w (ix2 q n) = res m c q n) (q : Fin 2048) (k : Fin 2560) :
    k0_pay3 (F := Ideal) (k0_pay10 s C h W w) (k0_pay11 (iblk m c 3 t0_0)) (k0_pay12 s C h W w) (Scalar.ofBits .f32 0x3727C5AC#32) (ix2 q k)
      = rowCode (postRow m c q) k := by
  rw [post_code_vec, codeVec_at, post_norm_at m c s C h W w hH, post_scale_at m c s C h W w hH]
  rfl

/-- A column of scales laid out by blocks of rows, read at an index. -/
theorem lines_at (s : FVec Ideal S2048x1 .f32) (p : Fin 8) (l : Fin 256) (q : Fin 2048) (hq : q.val = 256 * p.val + l.val) :
    shapeCast S8x1x256 s shapeCasts_S2048x1_S8x1x256 (ix3 p 0 l) = s (ix2 q 0) := by
  refine shapeCast_apply _ _ _ (ix2 q 0) ?_
  rw [Shape.rowMajor_val_two, Shape.rowMajor_val_three]
  show q.val * 1 + 0 = (p.val * 1 + 0) * 256 + l.val
  omega

theorem arr6 (c : Dev nD) (q : Fin 2048) (k : Fin 2560) : (dats m 0 c).arrAt 6 cfg0.N (ix2 q k) = rowCode (row m c q) k := by
  refine congrFun ((dats m 0 c).arrAt_eq_of_after_last 6 t0_0 (by decide +kernel) (fun i => rowCode (row m c (i 0)) (i 1)) fun j => ?_) (ix2 q k)
  blk_simp
  rw [after0_6]
  frame_out
  obtain ⟨q, k, rfl⟩ : ∃ (q : Fin 2048) (k : Fin 2560), j = ix2 q k := ⟨j 0, j 1, eq_ix2 j⟩
  exact code_at m c q k

/-- The row that line `p` holds at place `l`. -/
def rowOf (p : Fin 8) (l : Fin 256) : Fin 2048 := ⟨256 * p.val + l.val, by omega⟩

theorem arr7 (c : Dev nD) (p : Fin 8) (l : Fin 256) : (dats m 0 c).arrAt 7 cfg0.N (ix3 p 0 l) = rowScale (row m c (rowOf p l)) := by
  refine congrFun ((dats m 0 c).arrAt_eq_of_after_last 7 t0_0 (by decide +kernel) (fun i => rowScale (row m c (rowOf (i 0) (i 2)))) fun j => ?_) (ix3 p 0 l)
  blk_simp
  rw [after0_7]
  frame_out
  obtain ⟨p, l, rfl⟩ : ∃ (p : Fin 8) (l : Fin 256), j = ix3 p 0 l :=
    ⟨j 0, j 2, by funext a; match a with | ⟨0, _⟩ => rfl | ⟨1, _⟩ => exact Subsingleton.elim (α := Fin 1) _ _ | ⟨2, _⟩ => rfl⟩
  unfold k0_pay8
  exact (lines_at _ p l (rowOf p l) rfl).trans (scale_at m c _)

theorem arr8 (c : Dev nD) (q : Fin 2048) (n : Fin 2560) : (dats m 0 c).arrAt 8 cfg0.N (ix2 q n) = res m c q n := by
  refine congrFun ((dats m 0 c).arrAt_eq_of_after_last 8 t0_0 (by decide +kernel) (fun i => res m c (i 0) (i 1)) fun j => ?_) (ix2 q n)
  blk_simp
  rw [after0_8]
  frame_out
  unfold k0_pay13 k0_pay14 k0_pay15
  frame_out
  obtain ⟨q, n, rfl⟩ : ∃ (q : Fin 2048) (n : Fin 2560), j = ix2 q n := ⟨j 0, j 1, eq_ix2 j⟩
  exact res_at m c q n

theorem arr9 (c : Dev nD) (q : Fin 2048) (k : Fin 2560) : (dats m 0 c).arrAt 9 cfg0.N (ix2 q k) = rowCode (postRow m c q) k := by
  refine congrFun ((dats m 0 c).arrAt_eq_of_after_last 9 t0_0 (by decide +kernel) (fun i => rowCode (postRow m c (i 0)) (i 1)) fun j => ?_) (ix2 q k)
  blk_simp
  rw [after0_9]
  frame_out
  unfold k0_pay16 k0_pay17 k0_pay18 k0_pay13 k0_pay14 k0_pay15
  frame_out
  obtain ⟨q, k, rfl⟩ : ∃ (q : Fin 2048) (k : Fin 2560), j = ix2 q k := ⟨j 0, j 1, eq_ix2 j⟩
  exact post_code_at m c _ _ _ _ _ (res_at m c) q k

theorem arr10 (c : Dev nD) (p : Fin 8) (l : Fin 256) : (dats m 0 c).arrAt 10 cfg0.N (ix3 p 0 l) = rowScale (postRow m c (rowOf p l)) := by
  refine congrFun ((dats m 0 c).arrAt_eq_of_after_last 10 t0_0 (by decide +kernel) (fun i => rowScale (postRow m c (rowOf (i 0) (i 2)))) fun j => ?_) (ix3 p 0 l)
  blk_simp
  rw [after0_10]
  frame_out
  unfold k0_pay16 k0_pay17 k0_pay18 k0_pay13 k0_pay14 k0_pay15
  frame_out
  obtain ⟨p, l, rfl⟩ : ∃ (p : Fin 8) (l : Fin 256), j = ix3 p 0 l :=
    ⟨j 0, j 2, by funext a; match a with | ⟨0, _⟩ => rfl | ⟨1, _⟩ => exact Subsingleton.elim (α := Fin 1) _ _ | ⟨2, _⟩ => rfl⟩
  unfold k0_pay4
  exact (lines_at _ p l (rowOf p l) rfl).trans (post_scale_at m c _ _ _ _ _ (res_at m c) _)

end Cert.OProjRefIdeal.Value
-- ==== Proof.OProjClaim.lean ====
/- The value claim of the output projection: on equal arguments the kernel's call and the reference leave the same codes,
   scales and result, and the same codes and scales of the result, because both leave the same functions of the arguments at every entry. -/
module

public import proofs.«01_k».proof.Defs
public import proofs.«01_k».proof.Proof.OProjValue
public import proofs.«01_k».proof.Proof.OProjRef
public import Idealize.ShloMosaic.Adequacy
public import Idealize.ShloMosaic.Init

@[expose] public section

set_option maxRecDepth 16384

noncomputable section

namespace Cert.OProjClaim

open Idealize.ShloMosaic Idealize.SL.Sem

set_option maxHeartbeats 1600000 in
theorem algebraic : Cert.algebraic_OProjIdeal_OProjRefIdeal := by
  pair_intro
  · run_from Cert.OProjIdeal.Gen.run_main m g
  · have hrow : ∀ c, Cert.OProjRefIdeal.Value.row m' c = Cert.OProjIdeal.Value.row m c := by
      intro c
      obtain ⟨a0, a1, a2, a3, a4, a5⟩ := hagree c
      unfold Cert.OProjRefIdeal.Value.row Cert.OProjIdeal.Value.row
      rw [show Cert.OProjRefIdeal.Value.attnArg m' c = Cert.OProjIdeal.Value.attnArg m c from a0,
        show Cert.OProjRefIdeal.Value.gainArg m' c = Cert.OProjIdeal.Value.gainArg m c from a2]
    have hres : ∀ c, Cert.OProjRefIdeal.Value.res m' c = Cert.OProjIdeal.Value.res m c := by
      intro c
      obtain ⟨a0, a1, a2, a3, a4, a5⟩ := hagree c
      unfold Cert.OProjRefIdeal.Value.res Cert.OProjIdeal.Value.res
      rw [hrow c, show Cert.OProjRefIdeal.Value.inputArg m' c = Cert.OProjIdeal.Value.inputArg m c from a1,
        show Cert.OProjRefIdeal.Value.weightArg m' c = Cert.OProjIdeal.Value.weightArg m c from a4,
        show Cert.OProjRefIdeal.Value.outScaleArg m' c = Cert.OProjIdeal.Value.outScaleArg m c from a5]
    have hpost : ∀ c, Cert.OProjRefIdeal.Value.postRow m' c = Cert.OProjIdeal.Value.postRow m c := by
      intro c
      obtain ⟨a0, a1, a2, a3, a4, a5⟩ := hagree c
      unfold Cert.OProjRefIdeal.Value.postRow Cert.OProjIdeal.Value.postRow
      rw [hres c, show Cert.OProjRefIdeal.Value.postGainArg m' c = Cert.OProjIdeal.Value.postGainArg m c from a3]
    have hline : ∀ (p : Fin 8) (l : Fin 256) (q : Fin 2048), q.val = 256 * p.val + l.val → Cert.OProjRefIdeal.Value.rowOf p l = q :=
      fun p l q hq => Fin.ext hq.symm
    run_from Cert.OProjRefIdeal.Gen.run_main m' g'
    · exact (Cert.OProjIdeal.Value.arr6 m c _ fun q k => (Cert.OProjRefIdeal.Value.arr6 m' c q k).trans (by rw [hrow c])).symm
    · exact (Cert.OProjIdeal.Value.arr7 m c _ fun p l q hq => (Cert.OProjRefIdeal.Value.arr7 m' c p l).trans (by rw [hline p l q hq, hrow c])).symm
    · exact (Cert.OProjIdeal.Value.arr8 m c _ fun q n => (Cert.OProjRefIdeal.Value.arr8 m' c q n).trans (by rw [hres c])).symm
    · exact (Cert.OProjIdeal.Value.arr9 m c _ fun q k => (Cert.OProjRefIdeal.Value.arr9 m' c q k).trans (by rw [hpost c])).symm
    · exact (Cert.OProjIdeal.Value.arr10 m c _ fun p l q hq => (Cert.OProjRefIdeal.Value.arr10 m' c p l).trans (by rw [hline p l q hq, hpost c])).symm

end Cert.OProjClaim
-- ==== Proof.InNormValue.lean ====
/- The results of the input norm, as functions of its arguments. -/
module

public import proofs.«01_k».proof.Proof.Gen.InNormIdeal.Frame
public import proofs.«01_k».proof.Proof.Quant
public import Idealize.ShloMosaic.Lib.Pipeline.ValueKit
public import Idealize.ShloMosaic.Lib.Pointwise

@[expose] public section

set_option maxRecDepth 16384

noncomputable section

namespace Cert.InNormIdeal.Value

open Cert.InNormIdeal Cert.InNormIdeal.Gen Idealize.ShloMosaic Idealize.ShloMosaic.TcCoe Idealize.SL.Sem
open Idealize.ShloMosaic.Pipeline (Dat)
open Cert.Quant

variable (m : (ℓ : Loc nD τ sig) → Buf (Elt Ideal) ℓ)

/-- The arguments. -/
def inputArg (c : Dev nD) : Vec Ideal S2048x2560 .bf16 := m (c, Proc.tc.devRef main_arg0)
def gainArg (c : Dev nD) : Vec Ideal S2560 .f32 := m (c, Proc.tc.devRef main_arg1)

theorem idx0 : ∀ t : Fin cfg0.N, win0_0.index t = ![t.val, 0] ∧ win0_1.index t = ![0, 0] ∧ win0_2.index t = ![t.val, 0]
   ∧ win0_3.index t = ![t.val, 0, 0] := by
  decide +kernel

theorem input_blk (c) (t : Fin cfg0.N) (r : Fin 256) (k : Fin 2560) (q : Fin 2048) (hq : q.val = 256 * t.val + r.val) :
    iblk m c 0 t (ix2 r k) = inputArg m c (ix2 q k) := by
  unfold inputArg
  blk_point [iblk, V, idx0 t]
theorem gain_blk (c) (t : Fin cfg0.N) (k : Fin 2560) : iblk m c 1 t (ix2 0 k) = gainArg m c (ix1 k) := by
  unfold gainArg
  blk_point [iblk, V, idx0 t]

/-- Row `q` of the input, normalised. -/
def row (c : Dev nD) (q : Fin 2048) (k : Fin 2560) : EReal :=
  normed (inputArg m c (ix2 q k)) (∑ l : Fin 2560, (inputArg m c (ix2 q l) : EReal) * inputArg m c (ix2 q l)) (Ideal.ofBits FTy.f32 1159725056#32) (gainArg m c (ix1 k))

theorem norm_vec (X : Vec Ideal S256x2560 .bf16) (g : Vec Ideal S1x2560 .f32) :
    k0_pay1 (F := Ideal) X g = normVec reduces_S256x2560_S256 shapeCasts_S256_S256x1 broadcasts_S256x1_S256x2560 broadcasts_S1x2560_S256x2560 0x45200000#32
      (extf (F := Ideal) .f32 X bitsLt_bf16_f32) (shapeCast S1x2560 g shapeCasts_S1x2560_S1x2560) := rfl

theorem scale_vec (X : Vec Ideal S256x2560 .bf16) (g : Vec Ideal S1x2560 .f32) :
    k0_pay2 (F := Ideal) X g = scaleVec reduces_S256x2560_S256 shapeCasts_S256_S256x1 (k0_pay1 (F := Ideal) X g) := rfl

theorem code_vec (X : Vec Ideal S256x2560 .bf16) (g : Vec Ideal S1x2560 .f32) :
    k0_pay3 (F := Ideal) X g = codeVec broadcasts_S256x1_S256x2560 (k0_pay1 (F := Ideal) X g) (k0_pay2 (F := Ideal) X g) := rfl

/-- A block cast to its own shape. -/
theorem same_at (g : Vec Ideal S1x2560 .f32) (k : Fin 2560) : shapeCast S1x2560 g shapeCasts_S1x2560_S1x2560 (ix2 0 k) = g (ix2 0 k) :=
  shapeCast_apply _ _ _ _ rfl

theorem norm_at (c) (t : Fin cfg0.N) (r : Fin 256) (q : Fin 2048) (hq : q.val = 256 * t.val + r.val) (k : Fin 2560) :
    k0_pay1 (F := Ideal) (iblk m c 0 t) (iblk m c 1 t) (ix2 r k) = row m c q k := by
  have e : ∀ l, extf (F := Ideal) .f32 (iblk m c 0 t) bitsLt_bf16_f32 (ix2 r l) = inputArg m c (ix2 q l) := fun l => input_blk m c t r l q hq
  rw [norm_vec, normVec_at, same_at, gain_blk, e, Finset.sum_congr rfl fun l _ => by rw [e]]
  rfl

theorem scale_at (c) (t : Fin cfg0.N) (r : Fin 256) (q : Fin 2048) (hq : q.val = 256 * t.val + r.val) :
    k0_pay2 (F := Ideal) (iblk m c 0 t) (iblk m c 1 t) (ix2 r 0) = rowScale (row m c q) := by
  rw [scale_vec, scaleVec_at]
  exact congrArg rowScale (funext fun k => norm_at m c t r q hq k)

theorem code_at (c) (t : Fin cfg0.N) (r : Fin 256) (q : Fin 2048) (hq : q.val = 256 * t.val + r.val) (k : Fin 2560) :
    k0_pay3 (F := Ideal) (iblk m c 0 t) (iblk m c 1 t) (ix2 r k) = rowCode (row m c q) k := by
  rw [code_vec, codeVec_at, norm_at m c t r q hq, scale_at m c t r q hq]
  rfl

/-- The row of the arrays that row `r` of block `t` is. -/
def rowOf (t : Fin cfg0.N) (r : Fin 256) : Fin 2048 :=
  ⟨256 * t.val + r.val, by have := lt_of_lt_of_eq t.isLt (show cfg0.N = 8 from N_0); omega⟩

theorem arr2 (c : Dev nD) (W) (hW : ∀ q k, W (ix2 q k) = rowCode (row m c q) k) : (dats m 0 c).arrAt 2 cfg0.N = W := by
  refine (dats m 0 c).arrAt_eq_of_covers 2 _ (by decide +kernel) fun t hf y => ?_
  blk_simp
  rw [after0_2]
  frame_out
  obtain ⟨r, k, rfl⟩ : ∃ (r : Fin 256) (k : Fin 2560), y = ix2 r k := ⟨y 0, y 1, eq_ix2 y⟩
  rw [code_at m c t r (rowOf t r) rfl k, ← hW]
  unfold rowOf
  blk_point [idx0 t]

theorem scale_line (X : Vec Ideal S256x2560 .bf16) (g : Vec Ideal S1x2560 .f32) (l : Fin 256) :
    k0_pay4 (F := Ideal) X g (ix3 0 0 l) = k0_pay2 X g (ix2 l 0) := by
  pointwise [k0_pay4]

theorem arr3 (c : Dev nD) (W) (hW : ∀ (p : Fin 8) (l : Fin 256) (q : Fin 2048), q.val = 256 * p.val + l.val → W (ix3 p 0 l) = rowScale (row m c q)) :
    (dats m 0 c).arrAt 3 cfg0.N = W := by
  refine (dats m 0 c).arrAt_eq_of_covers 3 _ (by decide +kernel) fun t hf y => ?_
  blk_simp
  rw [after0_3]
  frame_out
  obtain ⟨l, rfl⟩ : ∃ l : Fin 256, y = ix3 0 0 l :=
    ⟨y 2, by funext a; match a with | ⟨0, _⟩ => exact Subsingleton.elim (α := Fin 1) _ _ | ⟨1, _⟩ => exact Subsingleton.elim (α := Fin 1) _ _ | ⟨2, _⟩ => rfl⟩
  rw [scale_line, scale_at m c t l (rowOf t l) rfl, ← hW ⟨t.val, lt_of_lt_of_eq t.isLt (show cfg0.N = 8 from N_0)⟩ l (rowOf t l) rfl]
  blk_point [idx0 t]

end Cert.InNormIdeal.Value
-- ==== Proof.InNormRef.lean ====
/- The results of the reference of the input norm, as functions of its arguments. -/
module

public import proofs.«01_k».proof.Proof.Gen.InNormRefIdeal.Frame
public import proofs.«01_k».proof.Proof.Quant
public import Idealize.ShloMosaic.Lib.Pipeline.ValueKit
public import Idealize.ShloMosaic.Lib.Pointwise

@[expose] public section

set_option maxRecDepth 16384

noncomputable section

namespace Cert.InNormRefIdeal.Value

open Cert.InNormRefIdeal Cert.InNormRefIdeal.Gen Idealize.ShloMosaic Idealize.ShloMosaic.TcCoe Idealize.SL.Sem
open Idealize.ShloMosaic.Pipeline (Dat)
open Cert.Quant

variable (m : (ℓ : Loc nD τ sig) → Buf (Elt Ideal) ℓ)

/-- The arguments. -/
def inputArg (c : Dev nD) : Vec Ideal S2048x2560 .bf16 := m (c, Proc.tc.devRef main_arg0)
def gainArg (c : Dev nD) : Vec Ideal S2560 .f32 := m (c, Proc.tc.devRef main_arg1)

theorem idx0 : ∀ t : Fin cfg0.N, win0_0.index t = ![0, 0] ∧ win0_1.index t = ![0, 0] := by
  decide +kernel

theorem input_blk (c : Dev nD) (q : Fin 2048) (k : Fin 2560) : iblk m c 0 t0_0 (ix2 q k) = inputArg m c (ix2 q k) := by
  unfold inputArg
  blk_point [iblk, V, idx0 t0_0]
theorem gain_blk (c : Dev nD) (k : Fin 2560) : iblk m c 1 t0_0 (ix2 0 k) = gainArg m c (ix1 k) := by
  unfold gainArg
  blk_point [iblk, V, idx0 t0_0]

/-- Row `q` of the input, normalised. -/
def row (c : Dev nD) (q : Fin 2048) (k : Fin 2560) : EReal :=
  normed (inputArg m c (ix2 q k)) (∑ l : Fin 2560, (inputArg m c (ix2 q l) : EReal) * inputArg m c (ix2 q l)) (Ideal.ofBits FTy.f32 1159725056#32) (gainArg m c (ix1 k))

theorem norm_vec (X : Vec Ideal S2048x2560 .bf16) (g : Vec Ideal S1x2560 .f32) :
    k0_pay1 (F := Ideal) X g = normVec reduces_S2048x2560_S2048 shapeCasts_S2048_S2048x1 broadcasts_S2048x1_S2048x2560 broadcasts_S1x2560_S2048x2560 0x45200000#32
      (extf (F := Ideal) .f32 X bitsLt_bf16_f32) (shapeCast S1x2560 g shapeCasts_S1x2560_S1x2560) := rfl

theorem scale_vec (X : Vec Ideal S2048x2560 .bf16) (g : Vec Ideal S1x2560 .f32) :
    k0_pay2 (F := Ideal) X g = scaleVec reduces_S2048x2560_S2048 shapeCasts_S2048_S2048x1 (k0_pay1 (F := Ideal) X g) := rfl

theorem code_vec (X : Vec Ideal S2048x2560 .bf16) (g : Vec Ideal S1x2560 .f32) :
    k0_pay3 (F := Ideal) X g = codeVec broadcasts_S2048x1_S2048x2560 (k0_pay1 (F := Ideal) X g) (k0_pay2 (F := Ideal) X g) := rfl

/-- A block cast to its own shape. -/
theorem same_at (g : Vec Ideal S1x2560 .f32) (k : Fin 2560) : shapeCast S1x2560 g shapeCasts_S1x2560_S1x2560 (ix2 0 k) = g (ix2 0 k) :=
  shapeCast_apply _ _ _ _ rfl

theorem norm_at (c : Dev nD) (q : Fin 2048) (k : Fin 2560) : k0_pay1 (F := Ideal) (iblk m c 0 t0_0) (iblk m c 1 t0_0) (ix2 q k) = row m c q k := by
  have e : ∀ l, extf (F := Ideal) .f32 (iblk m c 0 t0_0) bitsLt_bf16_f32 (ix2 q l) = inputArg m c (ix2 q l) := fun l => input_blk m c q l
  rw [norm_vec, normVec_at, same_at, gain_blk, e, Finset.sum_congr rfl fun l _ => by rw [e]]
  rfl

theorem scale_at (c : Dev nD) (q : Fin 2048) : k0_pay2 (F := Ideal) (iblk m c 0 t0_0) (iblk m c 1 t0_0) (ix2 q 0) = rowScale (row m c q) := by
  rw [scale_vec, scaleVec_at]
  exact congrArg rowScale (funext fun k => norm_at m c q k)

theorem code_at (c : Dev nD) (q : Fin 2048) (k : Fin 2560) : k0_pay3 (F := Ideal) (iblk m c 0 t0_0) (iblk m c 1 t0_0) (ix2 q k) = rowCode (row m c q) k := by
  rw [code_vec, codeVec_at, norm_at, scale_at]
  rfl

/-- A column of scales laid out by blocks of rows, read at an index. -/
theorem lines_at (s : FVec Ideal S2048x1 .f32) (p : Fin 8) (l : Fin 256) (q : Fin 2048) (hq : q.val = 256 * p.val + l.val) :
    shapeCast S8x1x256 s shapeCasts_S2048x1_S8x1x256 (ix3 p 0 l) = s (ix2 q 0) := by
  refine shapeCast_apply _ _ _ (ix2 q 0) ?_
  rw [Shape.rowMajor_val_two, Shape.rowMajor_val_three]
  show q.val * 1 + 0 = (p.val * 1 + 0) * 256 + l.val
  omega

theorem arr2 (c : Dev nD) (q : Fin 2048) (k : Fin 2560) : (dats m 0 c).arrAt 2 cfg0.N (ix2 q k) = rowCode (row m c q) k := by
  refine congrFun ((dats m 0 c).arrAt_eq_of_after_last 2 t0_0 (by decide +kernel) (fun i => rowCode (row m c (i 0)) (i 1)) fun j => ?_) (ix2 q k)
  blk_simp
  rw [after0_2]
  frame_out
  obtain ⟨q, k, rfl⟩ : ∃ (q : Fin 2048) (k : Fin 2560), j = ix2 q k := ⟨j 0, j 1, eq_ix2 j⟩
  exact code_at m c q k

/-- The row that line `p` holds at place `l`. -/
def rowOf (p : Fin 8) (l : Fin 256) : Fin 2048 := ⟨256 * p.val + l.val, by omega⟩

theorem arr3 (c : Dev nD) (p : Fin 8) (l : Fin 256) : (dats m 0 c).arrAt 3 cfg0.N (ix3 p 0 l) = rowScale (row m c (rowOf p l)) := by
  refine congrFun ((dats m 0 c).arrAt_eq_of_after_last 3 t0_0 (by decide +kernel) (fun i => rowScale (row m c (rowOf (i 0) (i 2)))) fun j => ?_) (ix3 p 0 l)
  blk_simp
  rw [after0_3]
  frame_out
  obtain ⟨p, l, rfl⟩ : ∃ (p : Fin 8) (l : Fin 256), j = ix3 p 0 l :=
    ⟨j 0, j 2, by funext a; match a with | ⟨0, _⟩ => rfl | ⟨1, _⟩ => exact Subsingleton.elim (α := Fin 1) _ _ | ⟨2, _⟩ => rfl⟩
  unfold k0_pay4
  exact (lines_at _ p l (rowOf p l) rfl).trans (scale_at m c _)

end Cert.InNormRefIdeal.Value
-- ==== Proof.InNormClaim.lean ====
/- The value claim of the input norm: on equal arguments the kernel's call and the reference leave the same codes and the
   same scales, because both leave the same functions of the arguments at every entry. -/
module

public import proofs.«01_k».proof.Defs
public import proofs.«01_k».proof.Proof.InNormValue
public import proofs.«01_k».proof.Proof.InNormRef
public import Idealize.ShloMosaic.Adequacy
public import Idealize.ShloMosaic.Init

@[expose] public section

set_option maxRecDepth 16384

noncomputable section

namespace Cert.InNormClaim

open Idealize.ShloMosaic Idealize.SL.Sem

theorem algebraic : Cert.algebraic_InNormIdeal_InNormRefIdeal := by
  pair_intro
  · run_from Cert.InNormIdeal.Gen.run_main m g
  · have hrow : ∀ c, Cert.InNormRefIdeal.Value.row m' c = Cert.InNormIdeal.Value.row m c := by
      intro c
      obtain ⟨a0, a1⟩ := hagree c
      unfold Cert.InNormRefIdeal.Value.row Cert.InNormIdeal.Value.row
      rw [show Cert.InNormRefIdeal.Value.inputArg m' c = Cert.InNormIdeal.Value.inputArg m c from a0,
        show Cert.InNormRefIdeal.Value.gainArg m' c = Cert.InNormIdeal.Value.gainArg m c from a1]
    have hline : ∀ (p : Fin 8) (l : Fin 256) (q : Fin 2048), q.val = 256 * p.val + l.val → Cert.InNormRefIdeal.Value.rowOf p l = q :=
      fun p l q hq => Fin.ext hq.symm
    run_from Cert.InNormRefIdeal.Gen.run_main m' g'
    · exact (Cert.InNormIdeal.Value.arr2 m c _ fun q k => (Cert.InNormRefIdeal.Value.arr2 m' c q k).trans (by rw [hrow c])).symm
    · exact (Cert.InNormIdeal.Value.arr3 m c _ fun p l q hq => (Cert.InNormRefIdeal.Value.arr3 m' c p l).trans (by rw [hline p l q hq, hrow c])).symm

end Cert.InNormClaim
-- ==== Proof.Heads.lean ====
/- What the projection to queries, keys and values computes, entry by entry: a column of the product of given codes with a packed ternary
   matrix, and a head turned by the angles of its row. -/
module

public import proofs.«01_k».proof.Proof.Quant
public import Idealize.ShloMosaic.Lib.Pipeline.ValueKit
public import Idealize.ShloMosaic.Lib.Pointwise

@[expose] public section

set_option maxRecDepth 16384

noncomputable section

namespace Cert.Heads

open Idealize.ShloMosaic
open Cert.Ternary (entry)
open Cert.Quant

/-- A row of codes with scale `s` against row `n` of a packed matrix, times the gain of that row. -/
def column {K R : ℕ} [NeZero R] (C : Fin K → BitVec 8) (s : EReal) (W : (⟨2, ![R, K]⟩ : Shape).Idx → BitVec 8) (n : ℕ) (g : EReal) : EReal :=
  (∑ k : Fin K, (((C k).toInt : ℝ) : EReal) * entry W n k) * s * g

/-- A head whose halves are turned against each other by angles with the cosines `c` and the sines `s`. -/
def turned (z : Fin 128 → EReal) (c s : Fin 64 → EReal) (d : Fin 128) : EReal :=
  if h : d.val < 64 then z d * c ⟨d.val, h⟩ - z ⟨d.val + 64, by omega⟩ * s ⟨d.val, h⟩
  else z d * c ⟨d.val - 64, by omega⟩ + z ⟨d.val - 64, by omega⟩ * s ⟨d.val - 64, by omega⟩

/-- Turning equal heads by equal factors. -/
theorem turned_congr {z z' : Fin 128 → EReal} {c c' s s' : Fin 64 → EReal} (hz : ∀ l, z l = z' l) (hc : ∀ l, c l = c' l) (hs : ∀ l, s l = s' l) (d : Fin 128) :
    turned z c s d = turned z' c' s' d := by
  rw [funext hz, funext hc, funext hs]

/-- Turning by a rotated copy, times the sines with a sign. -/
theorem sub_form (a b c s : EReal) : a * c + b * (0 - s) = a * c - b * s := by
  rw [zero_sub, mul_neg, sub_eq_add_neg]

/-- The scales of the heads of rows, as the layer computes them. -/
def scaleVec3 {T H K : ℕ} (hr : (⟨3, ![T, H, K]⟩ : Shape).Reduces [2] ⟨2, ![T, H]⟩) (hc : (⟨2, ![T, H]⟩ : Shape).ShapeCasts ⟨3, ![T, H, 1]⟩)
    (Y : FVec Ideal ⟨3, ![T, H, K]⟩ .f32) : FVec Ideal ⟨3, ![T, H, 1]⟩ .f32 :=
  have top : FVec Ideal ⟨3, ![T, H, 1]⟩ .f32 :=
    shapeCast ⟨3, ![T, H, 1]⟩ (multiReduction (F := Ideal) .maximumf [2] ⟨2, ![T, H]⟩ (absf (F := Ideal) Y) 0xFF800000#32 hr (.inl rfl) rfl) hc
  select (cmpf (F := Ideal) .oeq top (broadcast ⟨3, ![T, H, 1]⟩ (Scalar.ofBits (F := Ideal) .f32 0x00000000#32)))
    (broadcast ⟨3, ![T, H, 1]⟩ (Scalar.ofBits (F := Ideal) .f32 0x3F800000#32))
    (divf (F := Ideal) top (broadcast ⟨3, ![T, H, 1]⟩ (Scalar.ofBits (F := Ideal) .f32 0x42FE0000#32)))

/-- A matrix of numbers with a last axis of one keeps its entries. -/
theorem last_index {T H : ℕ} (hc : (⟨2, ![T, H]⟩ : Shape).ShapeCasts ⟨3, ![T, H, 1]⟩) (r : Fin T) (h : Fin H) :
    Shape.reshapeEquiv hc (ix3 r h 0) = ix2 r h := Shape.reshapeEquiv_eq_of_rowMajor hc (by
  rw [Shape.rowMajor_val_three, Shape.rowMajor_val_two]
  show r.val * H + h.val = (r.val * H + h.val) * 1 + 0
  omega)

theorem scaleVec3_at {T H K : ℕ} (hr : (⟨3, ![T, H, K]⟩ : Shape).Reduces [2] ⟨2, ![T, H]⟩) (hc : (⟨2, ![T, H]⟩ : Shape).ShapeCasts ⟨3, ![T, H, 1]⟩)
    (Y : FVec Ideal ⟨3, ![T, H, K]⟩ .f32) (r : Fin T) (h : Fin H) : scaleVec3 hr hc Y (ix3 r h 0) = rowScale fun k => Y (ix3 r h k) := by
  unfold scaleVec3
  pointwise
  rw [last_index]
  unfold rowScale rowMax
  rfl

/-- A number per head spread over the head. -/
theorem spread_last {T H K : ℕ} {α : Type} (hb : (⟨3, ![T, H, 1]⟩ : Shape).Broadcasts ⟨3, ![T, H, K]⟩) (Z : (⟨3, ![T, H, 1]⟩ : Shape).Idx → α)
    (r : Fin T) (h : Fin H) (k : Fin K) : broadcastTo ⟨3, ![T, H, K]⟩ Z hb (ix3 r h k) = Z (ix3 r h 0) := by
  refine congrArg Z (funext fun a => Fin.ext ?_)
  match a with
  | ⟨0, _⟩ =>
    by_cases h1 : T = 1
    · subst h1; exact (Fin.val_eq_zero _).trans (Fin.val_eq_zero r).symm
    · exact congrArg Fin.val (dif_neg h1)
  | ⟨1, _⟩ =>
    by_cases h1 : H = 1
    · subst h1; exact (Fin.val_eq_zero _).trans (Fin.val_eq_zero h).symm
    · exact congrArg Fin.val (dif_neg h1)
  | ⟨2, _⟩ => exact congrArg Fin.val (dif_pos rfl)

/-- A row of numbers spread over the heads. -/
theorem spread_middle {T H K : ℕ} {α : Type} (hb : (⟨3, ![T, 1, K]⟩ : Shape).Broadcasts ⟨3, ![T, H, K]⟩) (Z : (⟨3, ![T, 1, K]⟩ : Shape).Idx → α)
    (r : Fin T) (h : Fin H) (k : Fin K) : broadcastTo ⟨3, ![T, H, K]⟩ Z hb (ix3 r h k) = Z (ix3 r 0 k) := by
  refine congrArg Z (funext fun a => Fin.ext ?_)
  match a with
  | ⟨0, _⟩ =>
    by_cases h1 : T = 1
    · subst h1; exact (Fin.val_eq_zero _).trans (Fin.val_eq_zero r).symm
    · exact congrArg Fin.val (dif_neg h1)
  | ⟨1, _⟩ => exact congrArg Fin.val (dif_pos rfl)
  | ⟨2, _⟩ =>
    by_cases h1 : K = 1
    · subst h1; exact (Fin.val_eq_zero _).trans (Fin.val_eq_zero k).symm
    · exact congrArg Fin.val (dif_neg h1)

/-- The codes of the heads of rows at given scales, as the layer computes them. -/
def codeVec3 {T H K : ℕ} (hb : (⟨3, ![T, H, 1]⟩ : Shape).Broadcasts ⟨3, ![T, H, K]⟩) (Y : FVec Ideal ⟨3, ![T, H, K]⟩ .f32)
    (Z : FVec Ideal ⟨3, ![T, H, 1]⟩ .f32) : IVec ⟨3, ![T, H, K]⟩ 8 :=
  fptosi (F := Ideal) 8 (minimumf (F := Ideal) (broadcast ⟨3, ![T, H, K]⟩ (Scalar.ofBits (F := Ideal) .f32 0x42FE0000#32))
    (maximumf (F := Ideal) (broadcast ⟨3, ![T, H, K]⟩ (Scalar.ofBits (F := Ideal) .f32 0xC2FE0000#32))
      (roundeven (F := Ideal) (divf (F := Ideal) Y (broadcastTo ⟨3, ![T, H, K]⟩ Z hb)))))

theorem codeVec3_at {T H K : ℕ} (hb : (⟨3, ![T, H, 1]⟩ : Shape).Broadcasts ⟨3, ![T, H, K]⟩) (Y : FVec Ideal ⟨3, ![T, H, K]⟩ .f32)
    (Z : FVec Ideal ⟨3, ![T, H, 1]⟩ .f32) (r : Fin T) (h : Fin H) (k : Fin K) :
    codeVec3 hb Y Z (ix3 r h k) = codeOf (Y (ix3 r h k)) (Z (ix3 r h 0)) := by
  unfold codeVec3 codeOf
  exact congrArg (fun z => FloatOps.fptosi (F := Ideal) (φ := FTy.f32) 8 (min (Ideal.ofBits FTy.f32 1123942400#32)
    (max (Ideal.ofBits FTy.f32 3271426048#32) (Ideal.liftRound Ideal.roundHalfEven (Ideal.div (Y (ix3 r h k)) z))))) (spread_last hb Z r h k)

end Cert.Heads
-- ==== Proof.QkvRows.lean ====
/- The blocks that the projection to queries, keys and values reads, and the heads it makes of them. -/
module

public import proofs.«01_k».proof.Proof.Gen.QkvIdeal.Frame
public import proofs.«01_k».proof.Proof.Heads
public import Idealize.ShloMosaic.Lib.Pipeline.ValueKit
public import Idealize.ShloMosaic.Lib.Pointwise

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)
open Cert.Ternary (entry)
open Cert.Quant Cert.Heads

variable (m : (ℓ : Loc nD τ sig) → Buf (Elt Ideal) ℓ)

/-- The arguments. -/
def codeArg (c : Dev nD) : Vec Ideal S2048x2560 .i8 := m (c, Proc.tc.devRef main_arg0)
def scaleArg (c : Dev nD) : Vec Ideal S8x1x256 .f32 := m (c, Proc.tc.devRef main_arg1)
def cosArg (c : Dev nD) : Vec Ideal S2048x64 .f32 := m (c, Proc.tc.devRef main_arg2)
def sinArg (c : Dev nD) : Vec Ideal S2048x64 .f32 := m (c, Proc.tc.devRef main_arg3)
def qWeightArg (c : Dev nD) : Vec Ideal S640x2560 .i8 := m (c, Proc.tc.devRef main_arg4)
def kWeightArg (c : Dev nD) : Vec Ideal S160x2560 .i8 := m (c, Proc.tc.devRef main_arg5)
def vWeightArg (c : Dev nD) : Vec Ideal S160x2560 .i8 := m (c, Proc.tc.devRef main_arg6)
def qGainArg (c : Dev nD) : Vec Ideal S2560 .f32 := m (c, Proc.tc.devRef main_arg7)
def kGainArg (c : Dev nD) : Vec Ideal S640 .f32 := m (c, Proc.tc.devRef main_arg8)
def vGainArg (c : Dev nD) : Vec Ideal S640 .f32 := m (c, Proc.tc.devRef main_arg9)

theorem idx0 : ∀ t : Fin cfg0.N, win0_0.index t = ![t.val, 0] ∧ win0_1.index t = ![t.val, 0, 0] ∧ win0_2.index t = ![t.val, 0] ∧ win0_3.index t = ![t.val, 0]
   ∧ win0_4.index t = ![0, 0] ∧ win0_5.index t = ![0, 0] ∧ win0_6.index t = ![0, 0] ∧ win0_7.index t = ![0, 0] ∧ win0_8.index t = ![0, 0]
   ∧ win0_9.index t = ![0, 0] ∧ win0_10.index t = ![t.val, 0] ∧ win0_11.index t = ![t.val, 0] ∧ win0_12.index t = ![t.val, 0]
   ∧ win0_13.index t = ![t.val, 0] ∧ win0_14.index t = ![t.val, 0] ∧ win0_15.index t = ![t.val, 0] ∧ win0_16.index t = ![t.val, 0] := by
  decide +kernel

theorem code_blk (c) (t : Fin cfg0.N) (r : Fin 256) (k : Fin 2560) (q : Fin 2048) (hq : q.val = 256 * t.val + r.val) :
    iblk m c 0 t (ix2 r k) = codeArg m c (ix2 q k) := by
  unfold codeArg
  blk_point [iblk, V, idx0 t]
theorem scale_blk (c) (t : Fin cfg0.N) (r : Fin 256) (p : Fin 8) (hp : p.val = t.val) : iblk m c 1 t (ix3 0 0 r) = scaleArg m c (ix3 p 0 r) := by
  unfold scaleArg
  blk_point [iblk, V, idx0 t]
theorem cos_blk (c) (t : Fin cfg0.N) (r : Fin 256) (k : Fin 64) (q : Fin 2048) (hq : q.val = 256 * t.val + r.val) :
    iblk m c 2 t (ix2 r k) = cosArg m c (ix2 q k) := by
  unfold cosArg
  blk_point [iblk, V, idx0 t]
theorem sin_blk (c) (t : Fin cfg0.N) (r : Fin 256) (k : Fin 64) (q : Fin 2048) (hq : q.val = 256 * t.val + r.val) :
    iblk m c 3 t (ix2 r k) = sinArg m c (ix2 q k) := by
  unfold sinArg
  blk_point [iblk, V, idx0 t]
theorem qWeight_blk (c) (t : Fin cfg0.N) : iblk m c 4 t = qWeightArg m c := by
  funext i
  obtain ⟨r, k, rfl⟩ : ∃ (r : Fin 640) (k : Fin 2560), i = ix2 r k := ⟨i 0, i 1, eq_ix2 i⟩
  unfold qWeightArg
  blk_point [iblk, V, idx0 t]
theorem kWeight_blk (c) (t : Fin cfg0.N) : iblk m c 5 t = kWeightArg m c := by
  funext i
  obtain ⟨r, k, rfl⟩ : ∃ (r : Fin 160) (k : Fin 2560), i = ix2 r k := ⟨i 0, i 1, eq_ix2 i⟩
  unfold kWeightArg
  blk_point [iblk, V, idx0 t]
theorem vWeight_blk (c) (t : Fin cfg0.N) : iblk m c 6 t = vWeightArg m c := by
  funext i
  obtain ⟨r, k, rfl⟩ : ∃ (r : Fin 160) (k : Fin 2560), i = ix2 r k := ⟨i 0, i 1, eq_ix2 i⟩
  unfold vWeightArg
  blk_point [iblk, V, idx0 t]
theorem qGain_blk (c) (t : Fin cfg0.N) (k : Fin 2560) : iblk m c 7 t (ix2 0 k) = qGainArg m c (ix1 k) := by
  unfold qGainArg
  blk_point [iblk, V, idx0 t]
theorem kGain_blk (c) (t : Fin cfg0.N) (k : Fin 640) : iblk m c 8 t (ix2 0 k) = kGainArg m c (ix1 k) := by
  unfold kGainArg
  blk_point [iblk, V, idx0 t]
theorem vGain_blk (c) (t : Fin cfg0.N) (k : Fin 640) : iblk m c 9 t (ix2 0 k) = vGainArg m c (ix1 k) := by
  unfold vGainArg
  blk_point [iblk, V, idx0 t]

/-- The scale of row `q`. -/
def scaleOf (c : Dev nD) (q : Fin 2048) : EReal := scaleArg m c (ix3 ⟨q.val / 256, by omega⟩ 0 ⟨q.val % 256, by omega⟩)

/-- The entries of the three products. -/
def qCol (c : Dev nD) (q : Fin 2048) (n : Fin 2560) : EReal :=
  column (fun k => codeArg m c (ix2 q k)) (scaleOf m c q) (qWeightArg m c) n.val (qGainArg m c (ix1 n))
def kCol (c : Dev nD) (q : Fin 2048) (n : Fin 640) : EReal :=
  column (fun k => codeArg m c (ix2 q k)) (scaleOf m c q) (kWeightArg m c) n.val (kGainArg m c (ix1 n))
def vCol (c : Dev nD) (q : Fin 2048) (n : Fin 640) : EReal :=
  column (fun k => codeArg m c (ix2 q k)) (scaleOf m c q) (vWeightArg m c) n.val (vGainArg m c (ix1 n))

/-- The heads of a row: queries and keys are turned by the angles of the row. -/
def qHead (c : Dev nD) (q : Fin 2048) (h : Fin 20) : Fin 128 → EReal :=
  turned (fun d => qCol m c q ⟨128 * h.val + d.val, by omega⟩) (fun k => cosArg m c (ix2 q k)) (fun k => sinArg m c (ix2 q k))
def kHead (c : Dev nD) (q : Fin 2048) (h : Fin 5) : Fin 128 → EReal :=
  turned (fun d => kCol m c q ⟨128 * h.val + d.val, by omega⟩) (fun k => cosArg m c (ix2 q k)) (fun k => sinArg m c (ix2 q k))
def vHead (c : Dev nD) (q : Fin 2048) (h : Fin 5) (d : Fin 128) : EReal := vCol m c q ⟨128 * h.val + d.val, by omega⟩

/-- The product of a block of codes with a tile of weights. -/
def prodVec (C : IVec S256x2560 8) (w : FVec Ideal S256x2560 .bf16) : FVec Ideal S256x256 .f32 :=
  matmul (F := Ideal) dot_S256x2560_S256x2560_S256x256_1_1_0_0_n_n none (k0_pay167 C) w (constant S256x256 .f32 0x00000000#32)

theorem prodVec_at (C : IVec S256x2560 8) (w : FVec Ideal S256x2560 .bf16) (a b : Fin 256) :
    prodVec C w (ix2 a b) = ∑ k : Fin 2560, (((C (ix2 a k)).toInt : ℝ) : EReal) * w (ix2 b k) := by
  pointwise [prodVec, k0_pay167]
  rfl

/-- A block of heads turned by the angles of its rows. -/
def turnVec (x : FVec Ideal S256x128 .f32) (c s : FVec Ideal S256x64 .f32) : FVec Ideal S256x128 .f32 :=
  addf (F := Ideal) (mulf (F := Ideal) x (k0_pay169 c)) (mulf (F := Ideal) (dynamicRotate 1 64#32 none x rotates_S256x128_d1) (k0_pay170 s))

theorem turnVec_at (x : FVec Ideal S256x128 .f32) (c s : FVec Ideal S256x64 .f32) (a : Fin 256) (d : Fin 128) :
    turnVec x c s (ix2 a d) = turned (fun l => x (ix2 a l)) (fun k => c (ix2 a k)) (fun k => s (ix2 a k)) d := by
  unfold turned
  by_cases h : d.val < 64
  · rw [dif_pos h]
    pointwise [turnVec, k0_pay169, k0_pay170]
    rw [dif_pos h, dif_pos h, sub_form]
    congr 4
    exact Fin.ext (by show (d.val + 128 - 64) % 128 = d.val + 64; omega)
  · rw [dif_neg h]
    pointwise [turnVec, k0_pay169, k0_pay170]
    rw [dif_neg h, dif_neg h]
    congr 4
    exact Fin.ext (by show (d.val + 128 - 64) % 128 = d.val - 64; omega)

/-- A head of a product that is scaled whole. -/
def qVec (C : IVec S256x2560 8) (w : FVec Ideal S256x2560 .bf16) (S : Vec Ideal S1x1x256 .f32) (g : Vec Ideal S1x256 .f32) (o : ℕ)
    (h : S256x256.Slices ![0, o] S256x128) : FVec Ideal S256x128 .f32 :=
  extractStridedSlice S256x128 ![0, o] (mulf (F := Ideal) (mulf (F := Ideal) (prodVec C w) (broadcastTo S256x256 (k0_pay168 S) broadcasts_S256x1_S256x256))
    (broadcastTo S256x256 (shapeCast S1x256 g shapeCasts_S1x256_S1x256) broadcasts_S1x256_S256x256)) h

/-- A head of a product, then scaled. -/
def kvVec (C : IVec S256x2560 8) (w : FVec Ideal S256x2560 .bf16) (S : Vec Ideal S1x1x256 .f32) (g : Vec Ideal S1x128 .f32) (o : ℕ)
    (h : S256x256.Slices ![0, o] S256x128) : FVec Ideal S256x128 .f32 :=
  mulf (F := Ideal) (mulf (F := Ideal) (extractStridedSlice S256x128 ![0, o] (prodVec C w) h) (broadcastTo S256x128 (k0_pay168 S) broadcasts_S256x1_S256x128))
    (broadcastTo S256x128 (shapeCast S1x128 g shapeCasts_S1x128_S1x128) broadcasts_S1x128_S256x128)

theorem scale_at (S : Vec Ideal S1x1x256 .f32) (a : Fin 256) : k0_pay168 (F := Ideal) S (ix2 a 0) = S (ix3 0 0 a) := by
  pointwise [k0_pay168]

theorem slice_at (X : FVec Ideal S256x256 .f32) (o : ℕ) (h : S256x256.Slices ![0, o] S256x128) (a : Fin 256) (d : Fin 128) (e : Fin 256)
    (he : e.val = o + d.val) : extractStridedSlice S256x128 ![0, o] X h (ix2 a d) = X (ix2 a e) := by
  refine congrArg X ?_
  funext b
  match b with
  | ⟨0, _⟩ => exact Fin.ext (by show 0 + a.val = a.val; omega)
  | ⟨1, _⟩ => exact Fin.ext (by show o + d.val = e.val; omega)

theorem qVec_at (C : IVec S256x2560 8) (w : FVec Ideal S256x2560 .bf16) (S : Vec Ideal S1x1x256 .f32) (g : Vec Ideal S1x256 .f32) (o : ℕ)
    (h : S256x256.Slices ![0, o] S256x128) (a : Fin 256) (d : Fin 128) (e : Fin 256) (he : e.val = o + d.val) :
    qVec C w S g o h (ix2 a d) = (∑ k : Fin 2560, (((C (ix2 a k)).toInt : ℝ) : EReal) * w (ix2 e k)) * S (ix3 0 0 a) * g (ix2 0 e) := by
  unfold qVec
  rw [slice_at _ o h a d e he]
  refine congrArg₂ (fun x y : EReal => x * y) (congrArg₂ (fun x y : EReal => x * y) (prodVec_at C w a e)
    ((spread_column _ _ a e).trans (scale_at S a))) ((spread_row _ _ a e).trans (shapeCast_apply _ _ _ _ rfl))

theorem kvVec_at (C : IVec S256x2560 8) (w : FVec Ideal S256x2560 .bf16) (S : Vec Ideal S1x1x256 .f32) (g : Vec Ideal S1x128 .f32) (o : ℕ)
    (h : S256x256.Slices ![0, o] S256x128) (a : Fin 256) (d : Fin 128) (e : Fin 256) (he : e.val = o + d.val) :
    kvVec C w S g o h (ix2 a d) = (∑ k : Fin 2560, (((C (ix2 a k)).toInt : ℝ) : EReal) * w (ix2 e k)) * S (ix3 0 0 a) * g (ix2 0 d) := by
  unfold kvVec
  refine congrArg₂ (fun x y : EReal => x * y) (congrArg₂ (fun x y : EReal => x * y) ((slice_at _ o h a d e he).trans (prodVec_at C w a e))
    ((spread_column _ _ a d).trans (scale_at S a))) ((spread_row _ _ a d).trans (shapeCast_apply _ _ _ _ rfl))

end Cert.QkvIdeal.Value
-- ==== Proof.QkvWeights.lean ====
/- The scratch of unpacked weights after the first grid point: those of the queries, then of the keys, then of the values. -/
module

public import proofs.«01_k».proof.Proof.Gen.QkvIdeal.Frame
public import proofs.«01_k».proof.Proof.QkvRows
public import Idealize.ShloMosaic.Lib.Pipeline.ValueKit
public import Idealize.ShloMosaic.Lib.Pointwise

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)
open Cert.Ternary (entry)
open Cert.Quant Cert.Heads

variable (m : (ℓ : Loc nD τ sig) → Buf (Elt Ideal) ℓ)

/-- Row `n` of the unpacked weights. -/
def wEntry (c : Dev nD) (n : ℕ) (k : Fin 2560) : EReal :=
  if n < 2560 then entry (qWeightArg m c) n k else if n < 3200 then entry (kWeightArg m c) (n - 2560) k else entry (vWeightArg m c) (n - 3200) k

/-- A piece of the scratch holds the weights of its rows. -/
theorem q_tile (c : Dev nD) (n : Fin 3840) (k : Fin 2560) (off src : ℕ) (s : BitVec 32)
    (h : ∀ a, (![src, 0] : Fin 2 → ℕ) a + (![32, 2560] : Fin 2 → ℕ) a ≤ S640x2560.size a)
    (ok : 32 = 4 * 8 ∧ s.toNat / 2 < 4 ∧ s = BitVec.ofNat 32 (2 * (s.toNat / 2)) ∧ off = 0 + s.toNat / 2 * 640 + src ∧ src + 32 ≤ 640) :
    View.TileAt (Val := Elt Ideal) (S := S3840x2560) (e := .bf16) (ix2 n k) ![off, 0] ![32, 2560]
      (stored bitcasts_S32x2560_w8_S8x2560_w32 bitcasts_S8x2560_w32_S32x2560_w8 shapeCasts_S32x2560_S32x2560 s
        (View.ld (Val := Elt Ideal) (S := S640x2560) (e' := .i8) (qWeightArg m c) (Rect.unit (s := S640x2560) ![src, 0] ![32, 2560] h)))
      (wEntry m c n.val k) :=
  piece_tile (qWeightArg m c) 0 off src s _ _ _ h ok _ _ fun h₀ h₁ => by
    have h₁ : n.val < 0 + 4 * 640 := h₁
    show entry (qWeightArg m c) (n.val - 0) k = _
    unfold wEntry
    rw [if_pos (by omega), Nat.sub_zero]

theorem k_tile (c : Dev nD) (n : Fin 3840) (k : Fin 2560) (off src : ℕ) (s : BitVec 32)
    (h : ∀ a, (![src, 0] : Fin 2 → ℕ) a + (![32, 2560] : Fin 2 → ℕ) a ≤ S160x2560.size a)
    (ok : 32 = 4 * 8 ∧ s.toNat / 2 < 4 ∧ s = BitVec.ofNat 32 (2 * (s.toNat / 2)) ∧ off = 2560 + s.toNat / 2 * 160 + src ∧ src + 32 ≤ 160) :
    View.TileAt (Val := Elt Ideal) (S := S3840x2560) (e := .bf16) (ix2 n k) ![off, 0] ![32, 2560]
      (stored bitcasts_S32x2560_w8_S8x2560_w32 bitcasts_S8x2560_w32_S32x2560_w8 shapeCasts_S32x2560_S32x2560 s
        (View.ld (Val := Elt Ideal) (S := S160x2560) (e' := .i8) (kWeightArg m c) (Rect.unit (s := S160x2560) ![src, 0] ![32, 2560] h)))
      (wEntry m c n.val k) :=
  piece_tile (kWeightArg m c) 2560 off src s _ _ _ h ok _ _ fun h₀ h₁ => by
    have h₀ : 2560 ≤ n.val := h₀
    have h₁ : n.val < 2560 + 4 * 160 := h₁
    show entry (kWeightArg m c) (n.val - 2560) k = _
    unfold wEntry
    rw [if_neg (by omega), if_pos (by omega)]

theorem v_tile (c : Dev nD) (n : Fin 3840) (k : Fin 2560) (off src : ℕ) (s : BitVec 32)
    (h : ∀ a, (![src, 0] : Fin 2 → ℕ) a + (![32, 2560] : Fin 2 → ℕ) a ≤ S160x2560.size a)
    (ok : 32 = 4 * 8 ∧ s.toNat / 2 < 4 ∧ s = BitVec.ofNat 32 (2 * (s.toNat / 2)) ∧ off = 3200 + s.toNat / 2 * 160 + src ∧ src + 32 ≤ 160) :
    View.TileAt (Val := Elt Ideal) (S := S3840x2560) (e := .bf16) (ix2 n k) ![off, 0] ![32, 2560]
      (stored bitcasts_S32x2560_w8_S8x2560_w32 bitcasts_S8x2560_w32_S32x2560_w8 shapeCasts_S32x2560_S32x2560 s
        (View.ld (Val := Elt Ideal) (S := S160x2560) (e' := .i8) (vWeightArg m c) (Rect.unit (s := S160x2560) ![src, 0] ![32, 2560] h)))
      (wEntry m c n.val k) :=
  piece_tile (vWeightArg m c) 3200 off src s _ _ _ h ok _ _ fun h₀ h₁ => by
    have h₀ : 3200 ≤ n.val := h₀
    show entry (vWeightArg m c) (n.val - 3200) k = _
    unfold wEntry
    rw [if_neg (by omega), if_neg (by omega)]

set_option maxHeartbeats 1600000 in
/-- After a point that fills it, the scratch holds the unpacked weights. -/
theorem w_first (c : Dev nD) (t : Fin cfg0.N) (h0 : t.val % 8 = 0) (n : Fin 3840) (k : Fin 2560) :
    (outsAt0 m c t.val t.isLt).2.2.2.2.2.2.2 (ix2 n k) = wEntry m c n.val k := by
  rw [outsAt0_A m c t h0]
  frame_out
  rw [qWeight_blk, kWeight_blk, vWeight_blk]
  refine View.canon_eq_of_allAt _ _ _ ?cov ?_
  case cov =>
    exact View.cover_of_tiledL (s := S3840x2560) _ S32x2560.size (by sl_kernel_rfl) _
  iterate 20 refine View.allAt_cons_unit _ _ _ _ _ (v_tile m c n k _ _ _ _ (by decide)) ?_
  iterate 20 refine View.allAt_cons_unit _ _ _ _ _ (k_tile m c n k _ _ _ _ (by decide)) ?_
  iterate 80 refine View.allAt_cons_unit _ _ _ _ _ (q_tile m c n k _ _ _ _ (by decide)) ?_
  exact View.allAt_nil _ _

end Cert.QkvIdeal.Value
-- ==== Proof.QkvBlocks.lean ====
/- What a grid point of the projection leaves in its blocks, tile by tile. -/
module

public import proofs.«01_k».proof.Proof.Gen.QkvIdeal.Frame
public import proofs.«01_k».proof.Proof.QkvWeights
public import Idealize.ShloMosaic.Lib.Pipeline.ValueKit
public import Idealize.ShloMosaic.Lib.Pointwise

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)
open Cert.Ternary (entry)
open Cert.Quant Cert.Heads

variable (m : (ℓ : Loc nD τ sig) → Buf (Elt Ideal) ℓ)

/-- The rows of a scratch that are loaded for a tile, from the scratch's contents. -/
theorem load_at (c : Dev nD) (X : Vec Ideal S3840x2560 .bf16) (hX : ∀ n k, X (ix2 n k) = wEntry m c n.val k) (off : ℕ)
    (h : ∀ a, (![off, 0] : Fin 2 → ℕ) a + (![256, 2560] : Fin 2 → ℕ) a ≤ S3840x2560.size a) (a : Fin 256) (k : Fin 2560) :
    X ((Rect.unit (s := S3840x2560) ![off, 0] ![256, 2560] h).idx (ix2 a k)) = wEntry m c (off + a.val) k := by
  have hb : off + a.val < 3840 := by have := h 0; have : off + 256 ≤ 3840 := this; omega
  have e : (Rect.unit (s := S3840x2560) ![off, 0] ![256, 2560] h).idx (ix2 a k) = ix2 ⟨off + a.val, hb⟩ k := by
    funext d
    match d with
    | ⟨0, _⟩ => exact Fin.ext (by show off + 1 * a.val = off + a.val; omega)
    | ⟨1, _⟩ => exact Fin.ext (by show 0 + 1 * k.val = k.val; omega)
  exact (congrArg X e).trans (hX _ _)

theorem load_pieces (c : Dev nD) (L : List (View.Piece (Elt Ideal) S3840x2560 .bf16))
    (hL : ∀ n k, View.canon L (ix2 n k) = wEntry m c n.val k) (off : ℕ)
    (h : ∀ a, (![off, 0] : Fin 2 → ℕ) a + (![256, 2560] : Fin 2 → ℕ) a ≤ S3840x2560.size a) (a : Fin 256) (k : Fin 2560) :
    (View.whole cc0_scratch0).readCov (Val := Elt Ideal) L (Rect.unit (s := S3840x2560) ![off, 0] ![256, 2560] h).toLoadRect (ix2 a k)
      = wEntry m c (off + a.val) k := by
  rw [View.readCov_eq_canon']
  exact load_at m c (View.canon L) hL off h a k

theorem load_kept (c : Dev nD) (X : Vec Ideal S3840x2560 .bf16) (hX : ∀ n k, X (ix2 n k) = wEntry m c n.val k) (off : ℕ)
    (h : ∀ a, (![off, 0] : Fin 2 → ℕ) a + (![256, 2560] : Fin 2 → ℕ) a ≤ S3840x2560.size a) (a : Fin 256) (k : Fin 2560) :
    View.ld (Val := Elt Ideal) (S := S3840x2560) (e' := .bf16)
      (View.read (Elt Ideal) (View.whole cc0_scratch0) ((Memref.isWhole_whole cc0_scratch0).unread X))
      (Rect.unit (s := S3840x2560) ![off, 0] ![256, 2560] h) (ix2 a k) = wEntry m c (off + a.val) k := by
  rw [(Memref.isWhole_whole cc0_scratch0).read_unread]
  exact load_at m c X hX off h a k

/-- The scratch holds the unpacked weights after every point. -/
theorem w_at (c : Dev nD) (n : ℕ) (h : n < cfg0.N) (i : Fin 3840) (k : Fin 2560) :
    (outsAt0 m c n h).2.2.2.2.2.2.2 (ix2 i k) = wEntry m c i.val k := by
  induction n with
  | zero => exact w_first m c ⟨0, h⟩ (by show 0 % 8 = 0; omega) i k
  | succ n ih =>
    have hN := lt_of_lt_of_eq h (show cfg0.N = 8 from N_0)
    have e := congrArg (fun p => p.2.2.2.2.2.2.2 (ix2 i k)) (outsAt0_B m c ⟨n + 1, h⟩ (by show ¬ (n + 1) % 8 = 0; omega))
    refine e.trans ?_
    frame_out
    exact ih (by omega)

/-- The scale of a row, from its block. -/
theorem scale_row (c : Dev nD) (t : Fin cfg0.N) (r : Fin 256) (q : Fin 2048) (hq : q.val = 256 * t.val + r.val) :
    iblk m c 1 t (ix3 0 0 r) = scaleOf m c q := by
  unfold scaleOf
  have e : (⟨q.val % 256, by omega⟩ : Fin 256) = r := Fin.ext (by show q.val % 256 = r.val; omega)
  rw [e]
  exact scale_blk m c t r _ (by show q.val / 256 = t.val; omega)

/-- A stretch of a line of gains, read at an index. -/
theorem gain_at {N M : ℕ} (G : Vec Ideal ⟨2, ![1, N]⟩ .f32) (col : ℕ)
    (h : ∀ a, (![0, col] : Fin 2 → ℕ) a + (![1, M] : Fin 2 → ℕ) a ≤ (⟨2, ![1, N]⟩ : Shape).size a) (d : Fin M) (n : Fin N) (hn : n.val = col + d.val) :
    View.ld (Val := Elt Ideal) (S := ⟨2, ![1, N]⟩) (e' := .f32) G (Rect.unit (s := ⟨2, ![1, N]⟩) ![0, col] ![1, M] h) (ix2 0 d) = G (ix2 0 n) := by
  refine congrArg G ?_
  funext b
  match b with
  | ⟨0, _⟩ => exact Fin.ext rfl
  | ⟨1, _⟩ => exact Fin.ext (by show col + 1 * d.val = n.val; omega)

section rows

variable (c : Dev nD) (t : Fin cfg0.N) (r : Fin 256) (q : Fin 2048) (hq : q.val = 256 * t.val + r.val) (off o col : ℕ)
  (w : FVec Ideal S256x2560 .bf16) (hw : ∀ (a : Fin 256) (k : Fin 2560), w (ix2 a k) = wEntry m c (off + a.val) k)
  (hs : S256x256.Slices ![0, o] S256x128)
include hq hw

/-- A tile's head of queries. -/
theorem q_row (h : Fin 20) (ok : col = off + o ∧ col = 128 * h.val ∧ o ≤ 128)
    (hg : ∀ a, (![0, off] : Fin 2 → ℕ) a + (![1, 256] : Fin 2 → ℕ) a ≤ S1x2560.size a) (d : Fin 128) :
    turnVec (qVec (iblk m c 0 t) w (iblk m c 1 t) (View.ld (Val := Elt Ideal) (S := S1x2560) (e' := .f32) (iblk m c 7 t)
      (Rect.unit (s := S1x2560) ![0, off] ![1, 256] hg)) o hs) (iblk m c 2 t) (iblk m c 3 t) (ix2 r d) = qHead m c q h d := by
  obtain ⟨h₁, h₂, h₃⟩ := ok
  rw [turnVec_at]
  unfold qHead
  have e₁ : ∀ l : Fin 128, qVec (iblk m c 0 t) w (iblk m c 1 t) (View.ld (Val := Elt Ideal) (S := S1x2560) (e' := .f32) (iblk m c 7 t)
      (Rect.unit (s := S1x2560) ![0, off] ![1, 256] hg)) o hs (ix2 r l) = qCol m c q ⟨128 * h.val + l.val, by omega⟩ := by
    intro l
    rw [qVec_at _ _ _ _ _ _ r l ⟨o + l.val, by omega⟩ rfl, gain_at _ off hg _ ⟨128 * h.val + l.val, by omega⟩ (by show 128 * h.val + l.val = off + (o + l.val); omega),
      qGain_blk, scale_row m c t r q hq, Finset.sum_congr rfl fun k _ => by rw [hw, code_blk m c t r k q hq]]
    have e : off + (o + l.val) = 128 * h.val + l.val := by omega
    unfold qCol column wEntry
    rw [Finset.sum_congr rfl fun k _ => by rw [e, if_pos (by omega)]]
  exact congrFun (congrArg₂ (fun z f => turned z f.1 f.2) (funext e₁)
    (congrArg₂ Prod.mk (funext fun k => cos_blk m c t r k q hq) (funext fun k => sin_blk m c t r k q hq))) d

/-- A tile's head of keys. -/
theorem k_row (h : Fin 5) (ok : off + o = 2560 + col ∧ col = 128 * h.val ∧ o ≤ 128)
    (hg : ∀ a, (![0, col] : Fin 2 → ℕ) a + (![1, 128] : Fin 2 → ℕ) a ≤ S1x640.size a) (d : Fin 128) :
    turnVec (kvVec (iblk m c 0 t) w (iblk m c 1 t) (View.ld (Val := Elt Ideal) (S := S1x640) (e' := .f32) (iblk m c 8 t)
      (Rect.unit (s := S1x640) ![0, col] ![1, 128] hg)) o hs) (iblk m c 2 t) (iblk m c 3 t) (ix2 r d) = kHead m c q h d := by
  obtain ⟨h₁, h₂, h₃⟩ := ok
  rw [turnVec_at]
  unfold kHead
  have e₁ : ∀ l : Fin 128, kvVec (iblk m c 0 t) w (iblk m c 1 t) (View.ld (Val := Elt Ideal) (S := S1x640) (e' := .f32) (iblk m c 8 t)
      (Rect.unit (s := S1x640) ![0, col] ![1, 128] hg)) o hs (ix2 r l) = kCol m c q ⟨128 * h.val + l.val, by omega⟩ := by
    intro l
    rw [kvVec_at _ _ _ _ _ _ r l ⟨o + l.val, by omega⟩ rfl, gain_at _ col hg _ ⟨128 * h.val + l.val, by omega⟩ (by show 128 * h.val + l.val = col + l.val; omega),
      kGain_blk, scale_row m c t r q hq, Finset.sum_congr rfl fun k _ => by rw [hw, code_blk m c t r k q hq]]
    have e : off + (o + l.val) = 2560 + (128 * h.val + l.val) := by omega
    unfold kCol column wEntry
    rw [Finset.sum_congr rfl fun k _ => by rw [e, if_neg (by omega), if_pos (by omega), Nat.add_sub_cancel_left]]
  exact congrFun (congrArg₂ (fun z f => turned z f.1 f.2) (funext e₁)
    (congrArg₂ Prod.mk (funext fun k => cos_blk m c t r k q hq) (funext fun k => sin_blk m c t r k q hq))) d

/-- A tile's head of values. -/
theorem v_row (h : Fin 5) (ok : off + o = 3200 + col ∧ col = 128 * h.val ∧ o ≤ 128)
    (hg : ∀ a, (![0, col] : Fin 2 → ℕ) a + (![1, 128] : Fin 2 → ℕ) a ≤ S1x640.size a) (l : Fin 128) :
    kvVec (iblk m c 0 t) w (iblk m c 1 t) (View.ld (Val := Elt Ideal) (S := S1x640) (e' := .f32) (iblk m c 9 t)
      (Rect.unit (s := S1x640) ![0, col] ![1, 128] hg)) o hs (ix2 r l) = vHead m c q h l := by
  obtain ⟨h₁, h₂, h₃⟩ := ok
  rw [kvVec_at _ _ _ _ _ _ r l ⟨o + l.val, by omega⟩ rfl, gain_at _ col hg _ ⟨128 * h.val + l.val, by omega⟩ (by show 128 * h.val + l.val = col + l.val; omega),
    vGain_blk, scale_row m c t r q hq, Finset.sum_congr rfl fun k _ => by rw [hw, code_blk m c t r k q hq]]
  have e : off + (o + l.val) = 3200 + (128 * h.val + l.val) := by omega
  unfold vHead vCol column wEntry
  rw [Finset.sum_congr rfl fun k _ => by rw [e, if_neg (by omega), if_neg (by omega), Nat.add_sub_cancel_left]]

end rows

/-- A head's block of numbers, stored at the head's columns. -/
theorem head_tile {N H : ℕ} (hN : N = 128 * H) (f : Fin H → Fin 128 → EReal) (r : Fin 256) (n : Fin N) (h : Fin H) (col : ℕ) (hc : col = 128 * h.val)
    (Y : FVec Ideal S256x128 .f32) (hY : ∀ d, Y (ix2 r d) = f h d) :
    View.TileAt (Val := Elt Ideal) (S := ⟨2, ![256, N]⟩) (e := .bf16) (ix2 r n) ![0, col] ![256, 128] (truncf (F := Ideal) .bf16 Y bitsLt_bf16_f32)
      (f ⟨n.val / 128, by omega⟩ ⟨n.val % 128, by omega⟩) := by
  intro x hx
  obtain ⟨a, b, rfl⟩ : ∃ (a : Fin 256) (b : Fin 128), x = ix2 a b := ⟨x 0, x 1, eq_ix2 x⟩
  have h0 : r.val = 0 + a.val := hx 0
  have h1 : n.val = col + b.val := hx 1
  obtain rfl : r = a := Fin.ext (by omega)
  have e₁ : (⟨n.val / 128, by omega⟩ : Fin H) = h := Fin.ext (by show n.val / 128 = h.val; omega)
  have e₂ : (⟨n.val % 128, by omega⟩ : Fin 128) = b := Fin.ext (by show n.val % 128 = b.val; omega)
  rw [e₁, e₂]
  exact hY b

/-- The codes of a head's block. -/
theorem code_tile (f : Fin 5 → Fin 128 → EReal) (r : Fin 256) (n : Fin 640) (h : Fin 5) (col : ℕ) (hc : col = 128 * h.val)
    (Y : FVec Ideal S256x128 .f32) (hY : ∀ d, Y (ix2 r d) = f h d) :
    View.TileAt (Val := Elt Ideal) (S := S256x640) (e := .i8) (ix2 r n) ![0, col] ![256, 128]
      (codeVec broadcasts_S256x1_S256x128 Y (scaleVec reduces_S256x128_S256 shapeCasts_S256_S256x1 Y))
      (rowCode (f ⟨n.val / 128, by omega⟩) ⟨n.val % 128, by omega⟩) := by
  intro x hx
  obtain ⟨a, b, rfl⟩ : ∃ (a : Fin 256) (b : Fin 128), x = ix2 a b := ⟨x 0, x 1, eq_ix2 x⟩
  have h0 : r.val = 0 + a.val := hx 0
  have h1 : n.val = col + b.val := hx 1
  obtain rfl : r = a := Fin.ext (by omega)
  have e₁ : (⟨n.val / 128, by omega⟩ : Fin 5) = h := Fin.ext (by show n.val / 128 = h.val; omega)
  have e₂ : (⟨n.val % 128, by omega⟩ : Fin 128) = b := Fin.ext (by show n.val % 128 = b.val; omega)
  rw [e₁, e₂, codeVec_at, scaleVec_at, hY, funext hY]
  rfl

/-- The scales of a head's block. -/
theorem scale_tile (f : Fin 5 → Fin 128 → EReal) (r : Fin 256) (n : Fin 5) (h : Fin 5) (col : ℕ) (hc : col = h.val)
    (Y : FVec Ideal S256x128 .f32) (hY : ∀ d, Y (ix2 r d) = f h d) :
    View.TileAt (Val := Elt Ideal) (S := S256x5) (e := .f32) (ix2 r n) ![0, col] ![256, 1]
      (scaleVec reduces_S256x128_S256 shapeCasts_S256_S256x1 Y) (rowScale (f n)) := by
  intro x hx
  obtain ⟨a, b, rfl⟩ : ∃ (a : Fin 256) (b : Fin 1), x = ix2 a b := ⟨x 0, x 1, eq_ix2 x⟩
  have h0 : r.val = 0 + a.val := hx 0
  have h1 : n.val = col + b.val := hx 1
  obtain rfl : r = a := Fin.ext (by omega)
  obtain rfl : b = 0 := Subsingleton.elim _ _
  have h1 : n.val = col + 0 := h1
  obtain rfl : n = h := Fin.ext (by omega)
  rw [scaleVec_at, funext hY]

end Cert.QkvIdeal.Value
-- ==== Proof.QkvValue.lean ====
/- What a grid point of the projection leaves in its blocks. -/
module

public import proofs.«01_k».proof.Proof.Gen.QkvIdeal.Frame
public import proofs.«01_k».proof.Proof.QkvBlocks
public import Idealize.ShloMosaic.Lib.Pipeline.ValueKit
public import Idealize.ShloMosaic.Lib.Pointwise

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)
open Cert.Ternary (entry)
open Cert.Quant Cert.Heads

variable (m : (ℓ : Loc nD τ sig) → Buf (Elt Ideal) ℓ)

section tiles

variable (c : Dev nD) (t : Fin cfg0.N) (r : Fin 256) (q : Fin 2048) (hq : q.val = 256 * t.val + r.val) (off o col j : ℕ)
  (w : FVec Ideal S256x2560 .bf16) (hw : ∀ (a : Fin 256) (k : Fin 2560), w (ix2 a k) = wEntry m c (off + a.val) k)
  (hs : S256x256.Slices ![0, o] S256x128)
include hq hw

theorem q_out_tile (n : Fin 2560) (ok : col = off + o ∧ col = 128 * (col / 128) ∧ o ≤ 128 ∧ col / 128 < 20)
    (hg : ∀ a, (![0, off] : Fin 2 → ℕ) a + (![1, 256] : Fin 2 → ℕ) a ≤ S1x2560.size a) :
    View.TileAt (Val := Elt Ideal) (S := S256x2560) (e := .bf16) (ix2 r n) ![0, col] ![256, 128]
      (truncf (F := Ideal) .bf16 (turnVec (qVec (iblk m c 0 t) w (iblk m c 1 t) (View.ld (Val := Elt Ideal) (S := S1x2560) (e' := .f32) (iblk m c 7 t)
        (Rect.unit (s := S1x2560) ![0, off] ![1, 256] hg)) o hs) (iblk m c 2 t) (iblk m c 3 t)) bitsLt_bf16_f32)
      (qHead m c q ⟨n.val / 128, by omega⟩ ⟨n.val % 128, by omega⟩) :=
  head_tile (H := 20) rfl (qHead m c q) r n ⟨col / 128, ok.2.2.2⟩ col ok.2.1 _
    (q_row m c t r q hq off o col w hw hs ⟨col / 128, ok.2.2.2⟩ ⟨ok.1, ok.2.1, ok.2.2.1⟩ hg)

theorem k_out_tile (n : Fin 640) (ok : off + o = 2560 + col ∧ col = 128 * (col / 128) ∧ o ≤ 128 ∧ col / 128 < 5)
    (hg : ∀ a, (![0, col] : Fin 2 → ℕ) a + (![1, 128] : Fin 2 → ℕ) a ≤ S1x640.size a) :
    View.TileAt (Val := Elt Ideal) (S := S256x640) (e := .bf16) (ix2 r n) ![0, col] ![256, 128]
      (truncf (F := Ideal) .bf16 (turnVec (kvVec (iblk m c 0 t) w (iblk m c 1 t) (View.ld (Val := Elt Ideal) (S := S1x640) (e' := .f32) (iblk m c 8 t)
        (Rect.unit (s := S1x640) ![0, col] ![1, 128] hg)) o hs) (iblk m c 2 t) (iblk m c 3 t)) bitsLt_bf16_f32)
      (kHead m c q ⟨n.val / 128, by omega⟩ ⟨n.val % 128, by omega⟩) :=
  head_tile (H := 5) rfl (kHead m c q) r n ⟨col / 128, ok.2.2.2⟩ col ok.2.1 _
    (k_row m c t r q hq off o col w hw hs ⟨col / 128, ok.2.2.2⟩ ⟨ok.1, ok.2.1, ok.2.2.1⟩ hg)

theorem k_code_tile (n : Fin 640) (ok : off + o = 2560 + col ∧ col = 128 * (col / 128) ∧ o ≤ 128 ∧ col / 128 < 5)
    (hg : ∀ a, (![0, col] : Fin 2 → ℕ) a + (![1, 128] : Fin 2 → ℕ) a ≤ S1x640.size a) :
    View.TileAt (Val := Elt Ideal) (S := S256x640) (e := .i8) (ix2 r n) ![0, col] ![256, 128]
      (codeVec broadcasts_S256x1_S256x128 (turnVec (kvVec (iblk m c 0 t) w (iblk m c 1 t) (View.ld (Val := Elt Ideal) (S := S1x640) (e' := .f32) (iblk m c 8 t)
        (Rect.unit (s := S1x640) ![0, col] ![1, 128] hg)) o hs) (iblk m c 2 t) (iblk m c 3 t))
        (scaleVec reduces_S256x128_S256 shapeCasts_S256_S256x1 (turnVec (kvVec (iblk m c 0 t) w (iblk m c 1 t) (View.ld (Val := Elt Ideal) (S := S1x640) (e' := .f32) (iblk m c 8 t)
        (Rect.unit (s := S1x640) ![0, col] ![1, 128] hg)) o hs) (iblk m c 2 t) (iblk m c 3 t))))
      (rowCode (kHead m c q ⟨n.val / 128, by omega⟩) ⟨n.val % 128, by omega⟩) :=
  code_tile (kHead m c q) r n ⟨col / 128, ok.2.2.2⟩ col ok.2.1 _
    (k_row m c t r q hq off o col w hw hs ⟨col / 128, ok.2.2.2⟩ ⟨ok.1, ok.2.1, ok.2.2.1⟩ hg)

theorem k_scale_tile (n : Fin 5) (ok : (off + o = 2560 + col ∧ col = 128 * (col / 128) ∧ o ≤ 128 ∧ col / 128 < 5) ∧ j = col / 128)
    (hg : ∀ a, (![0, col] : Fin 2 → ℕ) a + (![1, 128] : Fin 2 → ℕ) a ≤ S1x640.size a) :
    View.TileAt (Val := Elt Ideal) (S := S256x5) (e := .f32) (ix2 r n) ![0, j] ![256, 1]
      (scaleVec reduces_S256x128_S256 shapeCasts_S256_S256x1 (turnVec (kvVec (iblk m c 0 t) w (iblk m c 1 t) (View.ld (Val := Elt Ideal) (S := S1x640) (e' := .f32) (iblk m c 8 t)
        (Rect.unit (s := S1x640) ![0, col] ![1, 128] hg)) o hs) (iblk m c 2 t) (iblk m c 3 t)))
      (rowScale (kHead m c q n)) := by
  obtain ⟨ok, hj⟩ := ok
  exact scale_tile (kHead m c q) r n ⟨col / 128, ok.2.2.2⟩ j hj _
    (k_row m c t r q hq off o col w hw hs ⟨col / 128, ok.2.2.2⟩ ⟨ok.1, ok.2.1, ok.2.2.1⟩ hg)

theorem v_out_tile (n : Fin 640) (ok : off + o = 3200 + col ∧ col = 128 * (col / 128) ∧ o ≤ 128 ∧ col / 128 < 5)
    (hg : ∀ a, (![0, col] : Fin 2 → ℕ) a + (![1, 128] : Fin 2 → ℕ) a ≤ S1x640.size a) :
    View.TileAt (Val := Elt Ideal) (S := S256x640) (e := .bf16) (ix2 r n) ![0, col] ![256, 128]
      (truncf (F := Ideal) .bf16 (kvVec (iblk m c 0 t) w (iblk m c 1 t) (View.ld (Val := Elt Ideal) (S := S1x640) (e' := .f32) (iblk m c 9 t)
        (Rect.unit (s := S1x640) ![0, col] ![1, 128] hg)) o hs) bitsLt_bf16_f32)
      (vHead m c q ⟨n.val / 128, by omega⟩ ⟨n.val % 128, by omega⟩) :=
  head_tile (H := 5) rfl (vHead m c q) r n ⟨col / 128, ok.2.2.2⟩ col ok.2.1 _
    (v_row m c t r q hq off o col w hw hs ⟨col / 128, ok.2.2.2⟩ ⟨ok.1, ok.2.1, ok.2.2.1⟩ hg)

theorem v_code_tile (n : Fin 640) (ok : off + o = 3200 + col ∧ col = 128 * (col / 128) ∧ o ≤ 128 ∧ col / 128 < 5)
    (hg : ∀ a, (![0, col] : Fin 2 → ℕ) a + (![1, 128] : Fin 2 → ℕ) a ≤ S1x640.size a) :
    View.TileAt (Val := Elt Ideal) (S := S256x640) (e := .i8) (ix2 r n) ![0, col] ![256, 128]
      (codeVec broadcasts_S256x1_S256x128 (kvVec (iblk m c 0 t) w (iblk m c 1 t) (View.ld (Val := Elt Ideal) (S := S1x640) (e' := .f32) (iblk m c 9 t)
        (Rect.unit (s := S1x640) ![0, col] ![1, 128] hg)) o hs)
        (scaleVec reduces_S256x128_S256 shapeCasts_S256_S256x1 (kvVec (iblk m c 0 t) w (iblk m c 1 t) (View.ld (Val := Elt Ideal) (S := S1x640) (e' := .f32) (iblk m c 9 t)
        (Rect.unit (s := S1x640) ![0, col] ![1, 128] hg)) o hs)))
      (rowCode (vHead m c q ⟨n.val / 128, by omega⟩) ⟨n.val % 128, by omega⟩) :=
  code_tile (vHead m c q) r n ⟨col / 128, ok.2.2.2⟩ col ok.2.1 _
    (v_row m c t r q hq off o col w hw hs ⟨col / 128, ok.2.2.2⟩ ⟨ok.1, ok.2.1, ok.2.2.1⟩ hg)

theorem v_scale_tile (n : Fin 5) (ok : (off + o = 3200 + col ∧ col = 128 * (col / 128) ∧ o ≤ 128 ∧ col / 128 < 5) ∧ j = col / 128)
    (hg : ∀ a, (![0, col] : Fin 2 → ℕ) a + (![1, 128] : Fin 2 → ℕ) a ≤ S1x640.size a) :
    View.TileAt (Val := Elt Ideal) (S := S256x5) (e := .f32) (ix2 r n) ![0, j] ![256, 1]
      (scaleVec reduces_S256x128_S256 shapeCasts_S256_S256x1 (kvVec (iblk m c 0 t) w (iblk m c 1 t) (View.ld (Val := Elt Ideal) (S := S1x640) (e' := .f32) (iblk m c 9 t)
        (Rect.unit (s := S1x640) ![0, col] ![1, 128] hg)) o hs))
      (rowScale (vHead m c q n)) := by
  obtain ⟨ok, hj⟩ := ok
  exact scale_tile (vHead m c q) r n ⟨col / 128, ok.2.2.2⟩ j hj _
    (v_row m c t r q hq off o col w hw hs ⟨col / 128, ok.2.2.2⟩ ⟨ok.1, ok.2.1, ok.2.2.1⟩ hg)

end tiles

set_option maxHeartbeats 1600000 in
theorem q_out_at (c : Dev nD) (t : Fin cfg0.N) (r : Fin 256) (q : Fin 2048) (hq : q.val = 256 * t.val + r.val) (n : Fin 2560) :
    (outsAt0 m c t.val t.isLt).1 (ix2 r n) = qHead m c q ⟨n.val / 128, by omega⟩ ⟨n.val % 128, by omega⟩ := by
  by_cases h0 : t.val % 8 = 0
  · have hL := w_at m c t.val t.isLt
    rw [outsAt0_A m c t h0] at hL ⊢
    frame_out at hL ⊢
    refine View.canon_eq_of_allAt _ _ _ (View.cover_of_tiledL (s := S256x2560) _ S256x128.size (by sl_kernel_rfl) _) ?_
    iterate 20 refine View.allAt_cons_unit _ _ _ _ _ (q_out_tile m c t r q hq _ _ _ _ (load_pieces m c _ hL _ _) (by first | exact slices_S256x256_o0_0_S256x128 | exact slices_S256x256_o0_128_S256x128) n (by decide) _) ?_
    exact View.allAt_nil _ _
  · rw [outsAt0_B m c t h0]
    frame_out
    refine View.canon_eq_of_allAt _ _ _ (View.cover_of_tiledL (s := S256x2560) _ S256x128.size (by sl_kernel_rfl) _) ?_
    iterate 20 refine View.allAt_cons_unit _ _ _ _ _ (q_out_tile m c t r q hq _ _ _ _ (load_kept m c _ (w_at m c (t.val - 1) _) _ _) (by first | exact slices_S256x256_o0_0_S256x128 | exact slices_S256x256_o0_128_S256x128) n (by decide) _) ?_
    exact View.allAt_nil _ _

set_option maxHeartbeats 1600000 in
theorem k_out_at (c : Dev nD) (t : Fin cfg0.N) (r : Fin 256) (q : Fin 2048) (hq : q.val = 256 * t.val + r.val) (n : Fin 640) :
    (outsAt0 m c t.val t.isLt).2.1 (ix2 r n) = kHead m c q ⟨n.val / 128, by omega⟩ ⟨n.val % 128, by omega⟩ := by
  by_cases h0 : t.val % 8 = 0
  · have hL := w_at m c t.val t.isLt
    rw [outsAt0_A m c t h0] at hL ⊢
    frame_out at hL ⊢
    refine View.canon_eq_of_allAt _ _ _ (View.cover_of_tiledL (s := S256x640) _ S256x128.size (by sl_kernel_rfl) _) ?_
    iterate 5 refine View.allAt_cons_unit _ _ _ _ _ (k_out_tile m c t r q hq _ _ _ _ (load_pieces m c _ hL _ _) (by first | exact slices_S256x256_o0_0_S256x128 | exact slices_S256x256_o0_128_S256x128) n (by decide) _) ?_
    exact View.allAt_nil _ _
  · rw [outsAt0_B m c t h0]
    frame_out
    refine View.canon_eq_of_allAt _ _ _ (View.cover_of_tiledL (s := S256x640) _ S256x128.size (by sl_kernel_rfl) _) ?_
    iterate 5 refine View.allAt_cons_unit _ _ _ _ _ (k_out_tile m c t r q hq _ _ _ _ (load_kept m c _ (w_at m c (t.val - 1) _) _ _) (by first | exact slices_S256x256_o0_0_S256x128 | exact slices_S256x256_o0_128_S256x128) n (by decide) _) ?_
    exact View.allAt_nil _ _

set_option maxHeartbeats 1600000 in
theorem v_out_at (c : Dev nD) (t : Fin cfg0.N) (r : Fin 256) (q : Fin 2048) (hq : q.val = 256 * t.val + r.val) (n : Fin 640) :
    (outsAt0 m c t.val t.isLt).2.2.1 (ix2 r n) = vHead m c q ⟨n.val / 128, by omega⟩ ⟨n.val % 128, by omega⟩ := by
  by_cases h0 : t.val % 8 = 0
  · have hL := w_at m c t.val t.isLt
    rw [outsAt0_A m c t h0] at hL ⊢
    frame_out at hL ⊢
    refine View.canon_eq_of_allAt _ _ _ (View.cover_of_tiledL (s := S256x640) _ S256x128.size (by sl_kernel_rfl) _) ?_
    iterate 5 refine View.allAt_cons_unit _ _ _ _ _ (v_out_tile m c t r q hq _ _ _ _ (load_pieces m c _ hL _ _) (by first | exact slices_S256x256_o0_0_S256x128 | exact slices_S256x256_o0_128_S256x128) n (by decide) _) ?_
    exact View.allAt_nil _ _
  · rw [outsAt0_B m c t h0]
    frame_out
    refine View.canon_eq_of_allAt _ _ _ (View.cover_of_tiledL (s := S256x640) _ S256x128.size (by sl_kernel_rfl) _) ?_
    iterate 5 refine View.allAt_cons_unit _ _ _ _ _ (v_out_tile m c t r q hq _ _ _ _ (load_kept m c _ (w_at m c (t.val - 1) _) _ _) (by first | exact slices_S256x256_o0_0_S256x128 | exact slices_S256x256_o0_128_S256x128) n (by decide) _) ?_
    exact View.allAt_nil _ _

set_option maxHeartbeats 1600000 in
theorem k_code_at (c : Dev nD) (t : Fin cfg0.N) (r : Fin 256) (q : Fin 2048) (hq : q.val = 256 * t.val + r.val) (n : Fin 640) :
    (outsAt0 m c t.val t.isLt).2.2.2.1 (ix2 r n) = rowCode (kHead m c q ⟨n.val / 128, by omega⟩) ⟨n.val % 128, by omega⟩ := by
  by_cases h0 : t.val % 8 = 0
  · have hL := w_at m c t.val t.isLt
    rw [outsAt0_A m c t h0] at hL ⊢
    frame_out at hL ⊢
    refine View.canon_eq_of_allAt _ _ _ (View.cover_of_tiledL (s := S256x640) _ S256x128.size (by sl_kernel_rfl) _) ?_
    iterate 5 refine View.allAt_cons_unit _ _ _ _ _ (k_code_tile m c t r q hq _ _ _ _ (load_pieces m c _ hL _ _) (by first | exact slices_S256x256_o0_0_S256x128 | exact slices_S256x256_o0_128_S256x128) n (by decide) _) ?_
    exact View.allAt_nil _ _
  · rw [outsAt0_B m c t h0]
    frame_out
    refine View.canon_eq_of_allAt _ _ _ (View.cover_of_tiledL (s := S256x640) _ S256x128.size (by sl_kernel_rfl) _) ?_
    iterate 5 refine View.allAt_cons_unit _ _ _ _ _ (k_code_tile m c t r q hq _ _ _ _ (load_kept m c _ (w_at m c (t.val - 1) _) _ _) (by first | exact slices_S256x256_o0_0_S256x128 | exact slices_S256x256_o0_128_S256x128) n (by decide) _) ?_
    exact View.allAt_nil _ _

set_option maxHeartbeats 1600000 in
theorem k_scale_at (c : Dev nD) (t : Fin cfg0.N) (r : Fin 256) (q : Fin 2048) (hq : q.val = 256 * t.val + r.val) (n : Fin 5) :
    (outsAt0 m c t.val t.isLt).2.2.2.2.1 (ix2 r n) = rowScale (kHead m c q n) := by
  by_cases h0 : t.val % 8 = 0
  · have hL := w_at m c t.val t.isLt
    rw [outsAt0_A m c t h0] at hL ⊢
    frame_out at hL ⊢
    refine View.canon_eq_of_allAt _ _ _ (View.cover_of_tiledL (s := S256x5) _ S256x1.size (by sl_kernel_rfl) _) ?_
    iterate 5 refine View.allAt_cons_unit _ _ _ _ _ (k_scale_tile m c t r q hq _ _ _ _ _ (load_pieces m c _ hL _ _) (by first | exact slices_S256x256_o0_0_S256x128 | exact slices_S256x256_o0_128_S256x128) n (by decide) _) ?_
    exact View.allAt_nil _ _
  · rw [outsAt0_B m c t h0]
    frame_out
    refine View.canon_eq_of_allAt _ _ _ (View.cover_of_tiledL (s := S256x5) _ S256x1.size (by sl_kernel_rfl) _) ?_
    iterate 5 refine View.allAt_cons_unit _ _ _ _ _ (k_scale_tile m c t r q hq _ _ _ _ _ (load_kept m c _ (w_at m c (t.val - 1) _) _ _) (by first | exact slices_S256x256_o0_0_S256x128 | exact slices_S256x256_o0_128_S256x128) n (by decide) _) ?_
    exact View.allAt_nil _ _

set_option maxHeartbeats 1600000 in
theorem v_code_at (c : Dev nD) (t : Fin cfg0.N) (r : Fin 256) (q : Fin 2048) (hq : q.val = 256 * t.val + r.val) (n : Fin 640) :
    (outsAt0 m c t.val t.isLt).2.2.2.2.2.1 (ix2 r n) = rowCode (vHead m c q ⟨n.val / 128, by omega⟩) ⟨n.val % 128, by omega⟩ := by
  by_cases h0 : t.val % 8 = 0
  · have hL := w_at m c t.val t.isLt
    rw [outsAt0_A m c t h0] at hL ⊢
    frame_out at hL ⊢
    refine View.canon_eq_of_allAt _ _ _ (View.cover_of_tiledL (s := S256x640) _ S256x128.size (by sl_kernel_rfl) _) ?_
    iterate 5 refine View.allAt_cons_unit _ _ _ _ _ (v_code_tile m c t r q hq _ _ _ _ (load_pieces m c _ hL _ _) (by first | exact slices_S256x256_o0_0_S256x128 | exact slices_S256x256_o0_128_S256x128) n (by decide) _) ?_
    exact View.allAt_nil _ _
  · rw [outsAt0_B m c t h0]
    frame_out
    refine View.canon_eq_of_allAt _ _ _ (View.cover_of_tiledL (s := S256x640) _ S256x128.size (by sl_kernel_rfl) _) ?_
    iterate 5 refine View.allAt_cons_unit _ _ _ _ _ (v_code_tile m c t r q hq _ _ _ _ (load_kept m c _ (w_at m c (t.val - 1) _) _ _) (by first | exact slices_S256x256_o0_0_S256x128 | exact slices_S256x256_o0_128_S256x128) n (by decide) _) ?_
    exact View.allAt_nil _ _

set_option maxHeartbeats 1600000 in
theorem v_scale_at (c : Dev nD) (t : Fin cfg0.N) (r : Fin 256) (q : Fin 2048) (hq : q.val = 256 * t.val + r.val) (n : Fin 5) :
    (outsAt0 m c t.val t.isLt).2.2.2.2.2.2.1 (ix2 r n) = rowScale (vHead m c q n) := by
  by_cases h0 : t.val % 8 = 0
  · have hL := w_at m c t.val t.isLt
    rw [outsAt0_A m c t h0] at hL ⊢
    frame_out at hL ⊢
    refine View.canon_eq_of_allAt _ _ _ (View.cover_of_tiledL (s := S256x5) _ S256x1.size (by sl_kernel_rfl) _) ?_
    iterate 5 refine View.allAt_cons_unit _ _ _ _ _ (v_scale_tile m c t r q hq _ _ _ _ _ (load_pieces m c _ hL _ _) (by first | exact slices_S256x256_o0_0_S256x128 | exact slices_S256x256_o0_128_S256x128) n (by decide) _) ?_
    exact View.allAt_nil _ _
  · rw [outsAt0_B m c t h0]
    frame_out
    refine View.canon_eq_of_allAt _ _ _ (View.cover_of_tiledL (s := S256x5) _ S256x1.size (by sl_kernel_rfl) _) ?_
    iterate 5 refine View.allAt_cons_unit _ _ _ _ _ (v_scale_tile m c t r q hq _ _ _ _ _ (load_kept m c _ (w_at m c (t.val - 1) _) _ _) (by first | exact slices_S256x256_o0_0_S256x128 | exact slices_S256x256_o0_128_S256x128) n (by decide) _) ?_
    exact View.allAt_nil _ _

end Cert.QkvIdeal.Value
-- ==== Proof.QkvArrays.lean ====
/- The seven arrays that the projection to queries, keys and values leaves: at every entry what its grid point left in its block. -/
module

public import proofs.«01_k».proof.Proof.Gen.QkvIdeal.Frame
public import proofs.«01_k».proof.Proof.QkvValue
public import Idealize.ShloMosaic.Lib.Pipeline.ValueKit
public import Idealize.ShloMosaic.Lib.Pointwise

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)
open Cert.Ternary (entry)
open Cert.Quant Cert.Heads

variable (m : (ℓ : Loc nD τ sig) → Buf (Elt Ideal) ℓ)

/-- The row of the whole result that row `r` of block `t` is. -/
def rowOf (t : Fin cfg0.N) (r : Fin 256) : Fin 2048 := ⟨256 * t.val + r.val, by have := lt_of_lt_of_eq t.isLt (show cfg0.N = 8 from N_0); omega⟩

theorem arr10 (c : Dev nD) (W) (hW : ∀ (q : Fin 2048) (n : Fin 2560), W (ix2 q n) = qHead m c q ⟨n.val / 128, by omega⟩ ⟨n.val % 128, by omega⟩) :
    (dats m 0 c).arrAt 10 cfg0.N = W := by
  refine (dats m 0 c).arrAt_eq_of_covers 10 _ (by decide +kernel) fun t hf y => ?_
  blk_simp
  rw [after0_10]
  obtain ⟨r, n, rfl⟩ : ∃ (r : Fin 256) (n : Fin 2560), y = ix2 r n := ⟨y 0, y 1, eq_ix2 y⟩
  rw [q_out_at m c t r (rowOf t r) rfl n, ← hW]
  unfold rowOf
  blk_point [idx0 t]

theorem arr11 (c : Dev nD) (W) (hW : ∀ (q : Fin 2048) (n : Fin 640), W (ix2 q n) = kHead m c q ⟨n.val / 128, by omega⟩ ⟨n.val % 128, by omega⟩) :
    (dats m 0 c).arrAt 11 cfg0.N = W := by
  refine (dats m 0 c).arrAt_eq_of_covers 11 _ (by decide +kernel) fun t hf y => ?_
  blk_simp
  rw [after0_11]
  obtain ⟨r, n, rfl⟩ : ∃ (r : Fin 256) (n : Fin 640), y = ix2 r n := ⟨y 0, y 1, eq_ix2 y⟩
  rw [k_out_at m c t r (rowOf t r) rfl n, ← hW]
  unfold rowOf
  blk_point [idx0 t]

theorem arr12 (c : Dev nD) (W) (hW : ∀ (q : Fin 2048) (n : Fin 640), W (ix2 q n) = vHead m c q ⟨n.val / 128, by omega⟩ ⟨n.val % 128, by omega⟩) :
    (dats m 0 c).arrAt 12 cfg0.N = W := by
  refine (dats m 0 c).arrAt_eq_of_covers 12 _ (by decide +kernel) fun t hf y => ?_
  blk_simp
  rw [after0_12]
  obtain ⟨r, n, rfl⟩ : ∃ (r : Fin 256) (n : Fin 640), y = ix2 r n := ⟨y 0, y 1, eq_ix2 y⟩
  rw [v_out_at m c t r (rowOf t r) rfl n, ← hW]
  unfold rowOf
  blk_point [idx0 t]

theorem arr13 (c : Dev nD) (W) (hW : ∀ (q : Fin 2048) (n : Fin 640), W (ix2 q n) = rowCode (kHead m c q ⟨n.val / 128, by omega⟩) ⟨n.val % 128, by omega⟩) :
    (dats m 0 c).arrAt 13 cfg0.N = W := by
  refine (dats m 0 c).arrAt_eq_of_covers 13 _ (by decide +kernel) fun t hf y => ?_
  blk_simp
  rw [after0_13]
  obtain ⟨r, n, rfl⟩ : ∃ (r : Fin 256) (n : Fin 640), y = ix2 r n := ⟨y 0, y 1, eq_ix2 y⟩
  rw [k_code_at m c t r (rowOf t r) rfl n, ← hW]
  unfold rowOf
  blk_point [idx0 t]

theorem arr14 (c : Dev nD) (W) (hW : ∀ (q : Fin 2048) (n : Fin 5), W (ix2 q n) = rowScale (kHead m c q n)) :
    (dats m 0 c).arrAt 14 cfg0.N = W := by
  refine (dats m 0 c).arrAt_eq_of_covers 14 _ (by decide +kernel) fun t hf y => ?_
  blk_simp
  rw [after0_14]
  obtain ⟨r, n, rfl⟩ : ∃ (r : Fin 256) (n : Fin 5), y = ix2 r n := ⟨y 0, y 1, eq_ix2 y⟩
  rw [k_scale_at m c t r (rowOf t r) rfl n, ← hW]
  unfold rowOf
  blk_point [idx0 t]

theorem arr15 (c : Dev nD) (W) (hW : ∀ (q : Fin 2048) (n : Fin 640), W (ix2 q n) = rowCode (vHead m c q ⟨n.val / 128, by omega⟩) ⟨n.val % 128, by omega⟩) :
    (dats m 0 c).arrAt 15 cfg0.N = W := by
  refine (dats m 0 c).arrAt_eq_of_covers 15 _ (by decide +kernel) fun t hf y => ?_
  blk_simp
  rw [after0_15]
  obtain ⟨r, n, rfl⟩ : ∃ (r : Fin 256) (n : Fin 640), y = ix2 r n := ⟨y 0, y 1, eq_ix2 y⟩
  rw [v_code_at m c t r (rowOf t r) rfl n, ← hW]
  unfold rowOf
  blk_point [idx0 t]

theorem arr16 (c : Dev nD) (W) (hW : ∀ (q : Fin 2048) (n : Fin 5), W (ix2 q n) = rowScale (vHead m c q n)) :
    (dats m 0 c).arrAt 16 cfg0.N = W := by
  refine (dats m 0 c).arrAt_eq_of_covers 16 _ (by decide +kernel) fun t hf y => ?_
  blk_simp
  rw [after0_16]
  obtain ⟨r, n, rfl⟩ : ∃ (r : Fin 256) (n : Fin 5), y = ix2 r n := ⟨y 0, y 1, eq_ix2 y⟩
  rw [v_scale_at m c t r (rowOf t r) rfl n, ← hW]
  unfold rowOf
  blk_point [idx0 t]

end Cert.QkvIdeal.Value
-- ==== Proof.QkvRef.lean ====
/- What the reference of the projection to queries, keys and values leaves, entry by entry. -/
module

public import proofs.«01_k».proof.Proof.Gen.QkvRefIdeal.Frame
public import proofs.«01_k».proof.Proof.Heads
public import Idealize.ShloMosaic.Lib.Pipeline.ValueKit
public import Idealize.ShloMosaic.Lib.Pointwise

@[expose] public section

set_option maxRecDepth 16384

noncomputable section

namespace Cert.QkvRefIdeal.Value

open Cert.QkvRefIdeal Cert.QkvRefIdeal.Gen Idealize.ShloMosaic Idealize.ShloMosaic.TcCoe Idealize.SL.Sem
open Idealize.ShloMosaic.Pipeline (Dat)
open Cert.Ternary (entry)
open Cert.Quant Cert.Heads

variable (m : (ℓ : Loc nD τ sig) → Buf (Elt Ideal) ℓ)

/-- The arguments. -/
def codeArg (c : Dev nD) : Vec Ideal S2048x2560 .i8 := m (c, Proc.tc.devRef main_arg0)
def scaleArg (c : Dev nD) : Vec Ideal S8x1x256 .f32 := m (c, Proc.tc.devRef main_arg1)
def cosArg (c : Dev nD) : Vec Ideal S2048x64 .f32 := m (c, Proc.tc.devRef main_arg2)
def sinArg (c : Dev nD) : Vec Ideal S2048x64 .f32 := m (c, Proc.tc.devRef main_arg3)
def qWeightArg (c : Dev nD) : Vec Ideal S640x2560 .i8 := m (c, Proc.tc.devRef main_arg4)
def kWeightArg (c : Dev nD) : Vec Ideal S160x2560 .i8 := m (c, Proc.tc.devRef main_arg5)
def vWeightArg (c : Dev nD) : Vec Ideal S160x2560 .i8 := m (c, Proc.tc.devRef main_arg6)
def qGainArg (c : Dev nD) : Vec Ideal S2560 .f32 := m (c, Proc.tc.devRef main_arg7)
def kGainArg (c : Dev nD) : Vec Ideal S640 .f32 := m (c, Proc.tc.devRef main_arg8)
def vGainArg (c : Dev nD) : Vec Ideal S640 .f32 := m (c, Proc.tc.devRef main_arg9)

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] := by
  decide +kernel

theorem code_blk (c) (q : Fin 2048) (k : Fin 2560) :
    iblk m c 0 t0_0 (ix2 q k) = codeArg m c (ix2 q k) := by
  unfold codeArg
  blk_point [iblk, V, idx0 t0_0]
theorem cos_blk (c) (q : Fin 2048) (k : Fin 64) :
    iblk m c 2 t0_0 (ix2 q k) = cosArg m c (ix2 q k) := by
  unfold cosArg
  blk_point [iblk, V, idx0 t0_0]
theorem sin_blk (c) (q : Fin 2048) (k : Fin 64) :
    iblk m c 3 t0_0 (ix2 q k) = sinArg m c (ix2 q k) := by
  unfold sinArg
  blk_point [iblk, V, idx0 t0_0]
theorem qWeight_blk (c) : iblk m c 4 t0_0 = qWeightArg m c := by
  funext i
  obtain ⟨r, k, rfl⟩ : ∃ (r : Fin 640) (k : Fin 2560), i = ix2 r k := ⟨i 0, i 1, eq_ix2 i⟩
  unfold qWeightArg
  blk_point [iblk, V, idx0 t0_0]
theorem kWeight_blk (c) : iblk m c 5 t0_0 = kWeightArg m c := by
  funext i
  obtain ⟨r, k, rfl⟩ : ∃ (r : Fin 160) (k : Fin 2560), i = ix2 r k := ⟨i 0, i 1, eq_ix2 i⟩
  unfold kWeightArg
  blk_point [iblk, V, idx0 t0_0]
theorem vWeight_blk (c) : iblk m c 6 t0_0 = vWeightArg m c := by
  funext i
  obtain ⟨r, k, rfl⟩ : ∃ (r : Fin 160) (k : Fin 2560), i = ix2 r k := ⟨i 0, i 1, eq_ix2 i⟩
  unfold vWeightArg
  blk_point [iblk, V, idx0 t0_0]
theorem qGain_blk (c) (k : Fin 2560) : iblk m c 7 t0_0 (ix2 0 k) = qGainArg m c (ix1 k) := by
  unfold qGainArg
  blk_point [iblk, V, idx0 t0_0]
theorem kGain_blk (c) (k : Fin 640) : iblk m c 8 t0_0 (ix2 0 k) = kGainArg m c (ix1 k) := by
  unfold kGainArg
  blk_point [iblk, V, idx0 t0_0]
theorem vGain_blk (c) (k : Fin 640) : iblk m c 9 t0_0 (ix2 0 k) = vGainArg m c (ix1 k) := by
  unfold vGainArg
  blk_point [iblk, V, idx0 t0_0]

/-- The scale of row `q`. -/
def scaleOf (c : Dev nD) (q : Fin 2048) : EReal := scaleArg m c (ix3 ⟨q.val / 256, by omega⟩ 0 ⟨q.val % 256, by omega⟩)

/-- The entries of the three products. -/
def qCol (c : Dev nD) (q : Fin 2048) (n : Fin 2560) : EReal :=
  column (fun k => codeArg m c (ix2 q k)) (scaleOf m c q) (qWeightArg m c) n.val (qGainArg m c (ix1 n))
def kCol (c : Dev nD) (q : Fin 2048) (n : Fin 640) : EReal :=
  column (fun k => codeArg m c (ix2 q k)) (scaleOf m c q) (kWeightArg m c) n.val (kGainArg m c (ix1 n))
def vCol (c : Dev nD) (q : Fin 2048) (n : Fin 640) : EReal :=
  column (fun k => codeArg m c (ix2 q k)) (scaleOf m c q) (vWeightArg m c) n.val (vGainArg m c (ix1 n))

/-- The heads of a row: queries and keys are turned by the angles of the row. -/
def qHead (c : Dev nD) (q : Fin 2048) (h : Fin 20) : Fin 128 → EReal :=
  turned (fun d => qCol m c q ⟨128 * h.val + d.val, by omega⟩) (fun k => cosArg m c (ix2 q k)) (fun k => sinArg m c (ix2 q k))
def kHead (c : Dev nD) (q : Fin 2048) (h : Fin 5) : Fin 128 → EReal :=
  turned (fun d => kCol m c q ⟨128 * h.val + d.val, by omega⟩) (fun k => cosArg m c (ix2 q k)) (fun k => sinArg m c (ix2 q k))
def vHead (c : Dev nD) (q : Fin 2048) (h : Fin 5) (d : Fin 128) : EReal := vCol m c q ⟨128 * h.val + d.val, by omega⟩

/-- The scale of a row, from the column that the reference reads. -/
theorem scale_blk (c) (q : Fin 2048) : iblk m c 1 t0_0 (ix2 q 0) = scaleOf m c q := by
  unfold scaleOf scaleArg
  blk_point [iblk, V, idx0 t0_0]

theorem q_prod_at (C : Vec Ideal S2048x2560 .i8) (s : Vec Ideal S2048x1 .f32) (W : Vec Ideal S640x2560 .i8) (g : Vec Ideal S1x2560 .f32)
    (q : Fin 2048) (h : Fin 20) (d : Fin 128) : k0_pay8 (F := Ideal) C s W g (ix3 q h d)
      = column (fun k => C (ix2 q k)) (s (ix2 q 0)) W (128 * h.val + d.val) (g (ix2 0 ⟨128 * h.val + d.val, by omega⟩)) := by
  dsimp only [k0_pay8]
  refine (shapeCast_apply _ _ _ (ix2 q ⟨128 * h.val + d.val, by omega⟩) ?_).trans ?_
  · rw [Shape.rowMajor_val_two, Shape.rowMajor_val_three]
    show q.val * 2560 + (128 * h.val + d.val) = (q.val * 20 + h.val) * 128 + d.val
    omega
  generalize hn : (⟨128 * h.val + d.val, by omega⟩ : Fin 2560) = n
  have hn' : 128 * h.val + d.val = n.val := congrArg Fin.val hn
  rw [hn']
  pointwise
  unfold column
  refine congrArg (fun z : EReal => z * s (ix2 q 0) * g (ix2 0 n)) ?_
  refine Finset.sum_congr rfl fun k _ => ?_
  rw [Ternary.entry_of_fields (R := 640) W n.val (by omega) k]
  rfl

theorem q_turn_at (c s : Vec Ideal S2048x64 .f32) (Z : FVec Ideal S2048x20x128 .f32) (q : Fin 2048) (h : Fin 20) (d : Fin 128) :
    k0_pay11 (F := Ideal) c s (extractStridedSlice S2048x20x64 ![0, 0, 0] Z slices_S2048x20x128_o0_0_0_S2048x20x64)
        (extractStridedSlice S2048x20x64 ![0, 0, 64] Z slices_S2048x20x128_o0_0_64_S2048x20x64) (ix3 q h d)
      = turned (fun l => Z (ix3 q h l)) (fun k => c (ix2 q k)) (fun k => s (ix2 q k)) d := by
  unfold turned
  pointwise [k0_pay11]
  by_cases hd : d.val < 64
  · rw [dif_pos hd, dif_pos hd]
    congr 4
    exact Fin.ext (by show 64 + d.val = d.val + 64; omega)
  · rw [dif_neg hd, dif_neg hd]
    congr 4
    exact Fin.ext (by show 64 + (d.val - 64) = d.val; omega)

/-- The products of the keys, by heads. -/
def kProd (s : FVec Ideal S2048x1 .f32) (g : FVec Ideal S1x640 .f32) (P : FVec Ideal S2048x640 .f32) : FVec Ideal S2048x5x128 .f32 :=
  shapeCast S2048x5x128 (mulf (F := Ideal) (mulf (F := Ideal) P (broadcastTo S2048x640 s broadcasts_S2048x1_S2048x640))
    (broadcastTo S2048x640 g broadcasts_S1x640_S2048x640)) shapeCasts_S2048x640_S2048x5x128

theorem kProd_at (s : FVec Ideal S2048x1 .f32) (g : FVec Ideal S1x640 .f32) (P : FVec Ideal S2048x640 .f32) (q : Fin 2048) (h : Fin 5) (d : Fin 128) :
    kProd s g P (ix3 q h d) = P (ix2 q ⟨128 * h.val + d.val, by omega⟩) * s (ix2 q 0) * g (ix2 0 ⟨128 * h.val + d.val, by omega⟩) := by
  unfold kProd
  refine (shapeCast_apply _ _ _ (ix2 q ⟨128 * h.val + d.val, by omega⟩) ?_).trans ?_
  · rw [Shape.rowMajor_val_two, Shape.rowMajor_val_three]
    show q.val * 640 + (128 * h.val + d.val) = (q.val * 5 + h.val) * 128 + d.val
    omega
  exact congrArg₂ (fun x y : EReal => P (ix2 q ⟨128 * h.val + d.val, by omega⟩) * x * y) (spread_column _ _ _ _) (spread_row _ _ _ _)

theorem k_dot_at (C : Vec Ideal S2048x2560 .i8) (W : Vec Ideal S160x2560 .i8) (q : Fin 2048) (n : Fin 640) :
    k0_pay14 (F := Ideal) C W (ix2 q n) = ∑ k : Fin 2560, (((C (ix2 q k)).toInt : ℝ) : EReal) * entry W n.val k := by
  pointwise [k0_pay14]
  refine Finset.sum_congr rfl fun k _ => ?_
  rw [Ternary.entry_of_fields (R := 160) W n.val (by omega) k]
  rfl

/-- The turned heads of keys. -/
def turn5 (c s : FVec Ideal S2048x64 .f32) (Z : FVec Ideal S2048x5x128 .f32) : FVec Ideal S2048x5x128 .f32 :=
  have z₁ : FVec Ideal S2048x5x64 .f32 := extractStridedSlice S2048x5x64 ![0, 0, 0] Z slices_S2048x5x128_o0_0_0_S2048x5x64
  have z₂ : FVec Ideal S2048x5x64 .f32 := extractStridedSlice S2048x5x64 ![0, 0, 64] Z slices_S2048x5x128_o0_0_64_S2048x5x64
  have c : FVec Ideal S2048x5x64 .f32 := broadcastTo S2048x5x64 (shapeCast S2048x1x64 c shapeCasts_S2048x64_S2048x1x64) broadcasts_S2048x1x64_S2048x5x64
  have s : FVec Ideal S2048x5x64 .f32 := broadcastTo S2048x5x64 (shapeCast S2048x1x64 s shapeCasts_S2048x64_S2048x1x64) broadcasts_S2048x1x64_S2048x5x64
  concatenate S2048x5x128 2 [⟨S2048x5x64, subf (F := Ideal) (mulf (F := Ideal) z₁ c) (mulf (F := Ideal) z₂ s)⟩,
    ⟨S2048x5x64, addf (F := Ideal) (mulf (F := Ideal) z₂ c) (mulf (F := Ideal) z₁ s)⟩] concatenates_S2048x5x64_S2048x5x64_S2048x5x128_d2

theorem k_turn5_at (c s : FVec Ideal S2048x64 .f32) (Z : FVec Ideal S2048x5x128 .f32) (q : Fin 2048) (h : Fin 5) (d : Fin 128) :
    turn5 c s Z (ix3 q h d) = turned (fun l => Z (ix3 q h l)) (fun k => c (ix2 q k)) (fun k => s (ix2 q k)) d := by
  unfold turned
  pointwise [turn5]
  by_cases hd : d.val < 64
  · rw [dif_pos hd, dif_pos hd]
    congr 4
    exact Fin.ext (by show 64 + d.val = d.val + 64; omega)
  · rw [dif_neg hd, dif_neg hd]
    congr 4
    exact Fin.ext (by show 64 + (d.val - 64) = d.val; omega)

theorem k_turn_at (s : FVec Ideal S2048x1 .f32) (g : FVec Ideal S1x640 .f32) (P : FVec Ideal S2048x640 .f32) (c e : Vec Ideal S2048x64 .f32)
    (q : Fin 2048) (h : Fin 5) (d : Fin 128) :
    k0_pay15 (F := Ideal) s g P c e (ix3 q h d)
      = turned (fun l => kProd s g P (ix3 q h l)) (fun k => c (ix2 q k)) (fun k => e (ix2 q k)) d := by
  rw [show k0_pay15 (F := Ideal) s g P c e = turn5 c e (kProd s g P) from rfl]
  exact k_turn5_at c e _ q h d

theorem v_same (C : Vec Ideal S2048x2560 .i8) (W : Vec Ideal S160x2560 .i8) (s : FVec Ideal S2048x1 .f32) (g : FVec Ideal S1x640 .f32) :
    k0_pay23 (F := Ideal) s g (k0_pay18 C) (k0_pay19 W) (k0_pay20 W) (k0_pay21 W) (k0_pay22 W) = kProd s g (k0_pay14 C W) := rfl

theorem scale_vec (Z : FVec Ideal S2048x5x128 .f32) :
    k0_pay24 (F := Ideal) Z = scaleVec3 reduces_S2048x5x128_S2048x5 shapeCasts_S2048x5_S2048x5x1 Z := rfl

theorem code_vec (Z : FVec Ideal S2048x5x128 .f32) :
    k0_pay25 (F := Ideal) Z = codeVec3 broadcasts_S2048x5x1_S2048x5x128 Z (k0_pay24 Z) := rfl

/-- The query heads of the reference. -/
theorem q_head_at (c : Dev nD) (q : Fin 2048) (h : Fin 20) (d : Fin 128) :
    k0_pay11 (F := Ideal) (iblk m c 2 t0_0) (iblk m c 3 t0_0) (k0_pay9 (iblk m c 0 t0_0) (iblk m c 1 t0_0) (iblk m c 4 t0_0) (iblk m c 7 t0_0))
      (k0_pay10 (iblk m c 0 t0_0) (iblk m c 1 t0_0) (iblk m c 4 t0_0) (iblk m c 7 t0_0)) (ix3 q h d) = qHead m c q h d := by
  refine (q_turn_at _ _ (k0_pay8 (iblk m c 0 t0_0) (iblk m c 1 t0_0) (iblk m c 4 t0_0) (iblk m c 7 t0_0)) q h d).trans ?_
  unfold qHead qCol
  refine turned_congr (fun l => ?_) (fun l => cos_blk m c q l) (fun l => sin_blk m c q l) d
  rw [q_prod_at, qWeight_blk, qGain_blk, scale_blk, funext fun k => code_blk m c q k]

/-- The products of the keys or of the values, of the arguments. -/
theorem kv_prod_at (c : Dev nD) (q : Fin 2048) (h : Fin 5) (d : Fin 128) (W : Vec Ideal S160x2560 .i8) (G : Vec Ideal S1x640 .f32) (g : Vec Ideal S640 .f32)
    (hG : ∀ n, G (ix2 0 n) = g (ix1 n)) :
    kProd (k0_pay12 (iblk m c 1 t0_0)) (k0_pay13 G) (k0_pay14 (F := Ideal) (iblk m c 0 t0_0) W) (ix3 q h d)
      = column (fun k => codeArg m c (ix2 q k)) (scaleOf m c q) W (128 * h.val + d.val) (g (ix1 ⟨128 * h.val + d.val, by omega⟩)) := by
  rw [kProd_at, k_dot_at, show k0_pay12 (F := Ideal) (iblk m c 1 t0_0) (ix2 q 0) = scaleOf m c q from (shapeCast_apply _ _ _ _ rfl).trans (scale_blk m c q),
    show k0_pay13 (F := Ideal) G (ix2 0 ⟨128 * h.val + d.val, by omega⟩) = g (ix1 ⟨128 * h.val + d.val, by omega⟩) from (shapeCast_apply _ _ _ _ rfl).trans (hG _),
    Finset.sum_congr rfl fun k _ => by rw [code_blk]]
  rfl

/-- The heads of keys that the reference computes. -/
def keys (c : Dev nD) : FVec Ideal S2048x5x128 .f32 :=
  k0_pay15 (F := Ideal) (k0_pay12 (iblk m c 1 t0_0)) (k0_pay13 (iblk m c 8 t0_0)) (k0_pay14 (iblk m c 0 t0_0) (iblk m c 5 t0_0)) (iblk m c 2 t0_0) (iblk m c 3 t0_0)

/-- The heads of values that the reference computes. -/
def vals (c : Dev nD) : FVec Ideal S2048x5x128 .f32 :=
  k0_pay23 (F := Ideal) (k0_pay16 (iblk m c 1 t0_0)) (k0_pay17 (iblk m c 9 t0_0)) (k0_pay18 (iblk m c 0 t0_0)) (k0_pay19 (iblk m c 6 t0_0))
    (k0_pay20 (iblk m c 6 t0_0)) (k0_pay21 (iblk m c 6 t0_0)) (k0_pay22 (iblk m c 6 t0_0))

theorem keys_at (c : Dev nD) (q : Fin 2048) (h : Fin 5) (d : Fin 128) : keys m c (ix3 q h d) = kHead m c q h d := by
  refine (k_turn_at _ _ _ _ _ q h d).trans ?_
  unfold kHead kCol
  refine turned_congr (fun l => ?_) (fun l => cos_blk m c q l) (fun l => sin_blk m c q l) d
  rw [kv_prod_at m c q h l _ _ (kGainArg m c) (kGain_blk m c), kWeight_blk]

theorem vals_at (c : Dev nD) (q : Fin 2048) (h : Fin 5) (d : Fin 128) : vals m c (ix3 q h d) = vHead m c q h d := by
  refine (congrFun (v_same _ _ _ _) _).trans ?_
  refine (kv_prod_at m c q h d _ _ (vGainArg m c) (vGain_blk m c)).trans ?_
  unfold vHead vCol
  rw [vWeight_blk]

/-- Heads laid side by side, read at an index. -/
theorem flat_at {α : Type} (Z : S2048x5x128.Idx → α) (q : Fin 2048) (n : Fin 640) :
    shapeCast S2048x640 Z shapeCasts_S2048x5x128_S2048x640 (ix2 q n) = Z (ix3 q ⟨n.val / 128, by omega⟩ ⟨n.val % 128, by omega⟩) := by
  refine shapeCast_apply _ _ _ (ix3 q ⟨n.val / 128, by omega⟩ ⟨n.val % 128, by omega⟩) ?_
  rw [Shape.rowMajor_val_two, Shape.rowMajor_val_three]
  show (q.val * 5 + n.val / 128) * 128 + n.val % 128 = q.val * 640 + n.val
  omega

theorem q_flat_at {α : Type} (Z : S2048x20x128.Idx → α) (q : Fin 2048) (n : Fin 2560) :
    shapeCast S2048x2560 Z shapeCasts_S2048x20x128_S2048x2560 (ix2 q n) = Z (ix3 q ⟨n.val / 128, by omega⟩ ⟨n.val % 128, by omega⟩) := by
  refine shapeCast_apply _ _ _ (ix3 q ⟨n.val / 128, by omega⟩ ⟨n.val % 128, by omega⟩) ?_
  rw [Shape.rowMajor_val_two, Shape.rowMajor_val_three]
  show (q.val * 20 + n.val / 128) * 128 + n.val % 128 = q.val * 2560 + n.val
  omega

theorem scales_flat_at {α : Type} (Z : S2048x5x1.Idx → α) (q : Fin 2048) (h : Fin 5) :
    shapeCast S2048x5 Z shapeCasts_S2048x5x1_S2048x5 (ix2 q h) = Z (ix3 q h 0) := by
  refine shapeCast_apply _ _ _ (ix3 q h 0) ?_
  rw [Shape.rowMajor_val_two, Shape.rowMajor_val_three]
  show (q.val * 5 + h.val) * 1 + 0 = q.val * 5 + h.val
  omega

/-- The scales and the codes of heads. -/
theorem head_scale_at (Z : FVec Ideal S2048x5x128 .f32) (f : Fin 128 → EReal) (q : Fin 2048) (h : Fin 5) (hZ : ∀ d, Z (ix3 q h d) = f d) :
    scaleVec3 reduces_S2048x5x128_S2048x5 shapeCasts_S2048x5_S2048x5x1 Z (ix3 q h 0) = rowScale f := by
  rw [scaleVec3_at, funext hZ]

theorem head_code_at (Z : FVec Ideal S2048x5x128 .f32) (f : Fin 128 → EReal) (q : Fin 2048) (h : Fin 5) (hZ : ∀ d, Z (ix3 q h d) = f d) (d : Fin 128) :
    codeVec3 broadcasts_S2048x5x1_S2048x5x128 Z (scaleVec3 reduces_S2048x5x128_S2048x5 shapeCasts_S2048x5_S2048x5x1 Z) (ix3 q h d) = rowCode f d := by
  rw [codeVec3_at, head_scale_at Z f q h hZ, hZ]
  rfl

/-- The arrays of the reference: queries, keys, values, then codes and scales of the keys, codes and scales of the values. -/
theorem arr10 (c : Dev nD) (q : Fin 2048) (n : Fin 2560) :
    (dats m 0 c).arrAt 10 cfg0.N (ix2 q n) = qHead m c q ⟨n.val / 128, by omega⟩ ⟨n.val % 128, by omega⟩ := by
  refine congrFun ((dats m 0 c).arrAt_eq_of_after_last 10 t0_0 (by decide +kernel)
    (fun i => qHead m c (i 0) ⟨(i 1).val / 128, by have : (i 1).val < 2560 := (i 1).isLt; omega⟩ ⟨(i 1).val % 128, by omega⟩) fun j => ?_) (ix2 q n)
  blk_simp
  rw [after0_10]
  frame_out
  obtain ⟨q, n, rfl⟩ : ∃ (q : Fin 2048) (n : Fin 2560), j = ix2 q n := ⟨j 0, j 1, eq_ix2 j⟩
  exact (q_flat_at _ q n).trans (q_head_at m c q _ _)

theorem arr11 (c : Dev nD) (q : Fin 2048) (n : Fin 640) :
    (dats m 0 c).arrAt 11 cfg0.N (ix2 q n) = kHead m c q ⟨n.val / 128, by omega⟩ ⟨n.val % 128, by omega⟩ := by
  refine congrFun ((dats m 0 c).arrAt_eq_of_after_last 11 t0_0 (by decide +kernel)
    (fun i => kHead m c (i 0) ⟨(i 1).val / 128, by have : (i 1).val < 640 := (i 1).isLt; omega⟩ ⟨(i 1).val % 128, by omega⟩) fun j => ?_) (ix2 q n)
  blk_simp
  rw [after0_11]
  frame_out
  unfold k0_pay29
  frame_out
  obtain ⟨q, n, rfl⟩ : ∃ (q : Fin 2048) (n : Fin 640), j = ix2 q n := ⟨j 0, j 1, eq_ix2 j⟩
  exact (flat_at (keys m c) q n).trans (keys_at m c q _ _)

theorem arr12 (c : Dev nD) (q : Fin 2048) (n : Fin 640) :
    (dats m 0 c).arrAt 12 cfg0.N (ix2 q n) = vHead m c q ⟨n.val / 128, by omega⟩ ⟨n.val % 128, by omega⟩ := by
  refine congrFun ((dats m 0 c).arrAt_eq_of_after_last 12 t0_0 (by decide +kernel)
    (fun i => vHead m c (i 0) ⟨(i 1).val / 128, by have : (i 1).val < 640 := (i 1).isLt; omega⟩ ⟨(i 1).val % 128, by omega⟩) fun j => ?_) (ix2 q n)
  blk_simp
  rw [after0_12]
  frame_out
  unfold k0_pay30 k0_pay31 k0_pay32 k0_pay33 k0_pay34 k0_pay35 k0_pay36
  frame_out
  obtain ⟨q, n, rfl⟩ : ∃ (q : Fin 2048) (n : Fin 640), j = ix2 q n := ⟨j 0, j 1, eq_ix2 j⟩
  exact (flat_at (vals m c) q n).trans (vals_at m c q _ _)

theorem arr13 (c : Dev nD) (q : Fin 2048) (n : Fin 640) :
    (dats m 0 c).arrAt 13 cfg0.N (ix2 q n) = rowCode (kHead m c q ⟨n.val / 128, by omega⟩) ⟨n.val % 128, by omega⟩ := by
  refine congrFun ((dats m 0 c).arrAt_eq_of_after_last 13 t0_0 (by decide +kernel)
    (fun i => rowCode (kHead m c (i 0) ⟨(i 1).val / 128, by have : (i 1).val < 640 := (i 1).isLt; omega⟩) ⟨(i 1).val % 128, by omega⟩) fun j => ?_) (ix2 q n)
  blk_simp
  rw [after0_13]
  frame_out
  unfold k0_pay29
  frame_out
  obtain ⟨q, n, rfl⟩ : ∃ (q : Fin 2048) (n : Fin 640), j = ix2 q n := ⟨j 0, j 1, eq_ix2 j⟩
  refine (flat_at (k0_pay25 (keys m c)) q n).trans ?_
  rw [code_vec, scale_vec]
  exact head_code_at (keys m c) _ q _ (keys_at m c q _) _

theorem arr14 (c : Dev nD) (q : Fin 2048) (n : Fin 5) :
    (dats m 0 c).arrAt 14 cfg0.N (ix2 q n) = rowScale (kHead m c q n) := by
  refine congrFun ((dats m 0 c).arrAt_eq_of_after_last 14 t0_0 (by decide +kernel)
    (fun i => rowScale (kHead m c (i 0) (i 1))) fun j => ?_) (ix2 q n)
  blk_simp
  rw [after0_14]
  frame_out
  unfold k0_pay29
  frame_out
  obtain ⟨q, n, rfl⟩ : ∃ (q : Fin 2048) (n : Fin 5), j = ix2 q n := ⟨j 0, j 1, eq_ix2 j⟩
  refine (scales_flat_at (k0_pay24 (keys m c)) q n).trans ?_
  rw [scale_vec]
  exact head_scale_at (keys m c) _ q _ (keys_at m c q _)

theorem arr15 (c : Dev nD) (q : Fin 2048) (n : Fin 640) :
    (dats m 0 c).arrAt 15 cfg0.N (ix2 q n) = rowCode (vHead m c q ⟨n.val / 128, by omega⟩) ⟨n.val % 128, by omega⟩ := by
  refine congrFun ((dats m 0 c).arrAt_eq_of_after_last 15 t0_0 (by decide +kernel)
    (fun i => rowCode (vHead m c (i 0) ⟨(i 1).val / 128, by have : (i 1).val < 640 := (i 1).isLt; omega⟩) ⟨(i 1).val % 128, by omega⟩) fun j => ?_) (ix2 q n)
  blk_simp
  rw [after0_15]
  frame_out
  unfold k0_pay30 k0_pay31 k0_pay32 k0_pay33 k0_pay34 k0_pay35 k0_pay36
  frame_out
  obtain ⟨q, n, rfl⟩ : ∃ (q : Fin 2048) (n : Fin 640), j = ix2 q n := ⟨j 0, j 1, eq_ix2 j⟩
  exact (flat_at (codeVec3 broadcasts_S2048x5x1_S2048x5x128 (vals m c) (scaleVec3 reduces_S2048x5x128_S2048x5 shapeCasts_S2048x5_S2048x5x1 (vals m c))) q n).trans
    (head_code_at (vals m c) _ q _ (vals_at m c q _) _)

theorem arr16 (c : Dev nD) (q : Fin 2048) (n : Fin 5) :
    (dats m 0 c).arrAt 16 cfg0.N (ix2 q n) = rowScale (vHead m c q n) := by
  refine congrFun ((dats m 0 c).arrAt_eq_of_after_last 16 t0_0 (by decide +kernel)
    (fun i => rowScale (vHead m c (i 0) (i 1))) fun j => ?_) (ix2 q n)
  blk_simp
  rw [after0_16]
  frame_out
  unfold k0_pay30 k0_pay31 k0_pay32 k0_pay33 k0_pay34 k0_pay35 k0_pay36
  frame_out
  obtain ⟨q, n, rfl⟩ : ∃ (q : Fin 2048) (n : Fin 5), j = ix2 q n := ⟨j 0, j 1, eq_ix2 j⟩
  exact (scales_flat_at (scaleVec3 reduces_S2048x5x128_S2048x5 shapeCasts_S2048x5_S2048x5x1 (vals m c)) q n).trans
    (head_scale_at (vals m c) _ q _ (vals_at m c q _))

end Cert.QkvRefIdeal.Value
-- ==== Proof.QkvClaim.lean ====
/- The value claim of the projections of queries, keys and values: on equal arguments the kernel's call and the reference leave the same
   heads, and the same codes and scales of keys and values, because both leave the same functions of the arguments at every entry. -/
module

public import proofs.«01_k».proof.Defs
public import proofs.«01_k».proof.Proof.QkvArrays
public import proofs.«01_k».proof.Proof.QkvRef
public import Idealize.ShloMosaic.Adequacy
public import Idealize.ShloMosaic.Init

@[expose] public section

set_option maxRecDepth 16384

noncomputable section

namespace Cert.QkvClaim

open Idealize.ShloMosaic Idealize.SL.Sem

set_option maxHeartbeats 1600000 in
theorem algebraic : Cert.algebraic_QkvIdeal_QkvRefIdeal := by
  pair_intro
  · run_from Cert.QkvIdeal.Gen.run_main m g
    exact hc.1 16
  · have hheads : ∀ c q, Cert.QkvRefIdeal.Value.qHead m' c q = Cert.QkvIdeal.Value.qHead m c q
        ∧ Cert.QkvRefIdeal.Value.kHead m' c q = Cert.QkvIdeal.Value.kHead m c q
        ∧ Cert.QkvRefIdeal.Value.vHead m' c q = Cert.QkvIdeal.Value.vHead m c q := by
      intro c q
      obtain ⟨a0, a1, a2, a3, a4, a5, a6, a7, a8, a9⟩ := hagree c
      have hs : Cert.QkvRefIdeal.Value.scaleOf m' c q = Cert.QkvIdeal.Value.scaleOf m c q := by
        unfold Cert.QkvRefIdeal.Value.scaleOf Cert.QkvIdeal.Value.scaleOf
        rw [show Cert.QkvRefIdeal.Value.scaleArg m' c = Cert.QkvIdeal.Value.scaleArg m c from a1]
      have h0 : Cert.QkvRefIdeal.Value.codeArg m' c = Cert.QkvIdeal.Value.codeArg m c := a0
      have h2 : Cert.QkvRefIdeal.Value.cosArg m' c = Cert.QkvIdeal.Value.cosArg m c := a2
      have h3 : Cert.QkvRefIdeal.Value.sinArg m' c = Cert.QkvIdeal.Value.sinArg m c := a3
      refine ⟨?_, ?_, ?_⟩
      · unfold Cert.QkvRefIdeal.Value.qHead Cert.QkvIdeal.Value.qHead Cert.QkvRefIdeal.Value.qCol Cert.QkvIdeal.Value.qCol
        rw [hs, h0, h2, h3, show Cert.QkvRefIdeal.Value.qWeightArg m' c = Cert.QkvIdeal.Value.qWeightArg m c from a4,
          show Cert.QkvRefIdeal.Value.qGainArg m' c = Cert.QkvIdeal.Value.qGainArg m c from a7]
      · unfold Cert.QkvRefIdeal.Value.kHead Cert.QkvIdeal.Value.kHead Cert.QkvRefIdeal.Value.kCol Cert.QkvIdeal.Value.kCol
        rw [hs, h0, h2, h3, show Cert.QkvRefIdeal.Value.kWeightArg m' c = Cert.QkvIdeal.Value.kWeightArg m c from a5,
          show Cert.QkvRefIdeal.Value.kGainArg m' c = Cert.QkvIdeal.Value.kGainArg m c from a8]
      · unfold Cert.QkvRefIdeal.Value.vHead Cert.QkvIdeal.Value.vHead Cert.QkvRefIdeal.Value.vCol Cert.QkvIdeal.Value.vCol
        rw [hs, h0, show Cert.QkvRefIdeal.Value.vWeightArg m' c = Cert.QkvIdeal.Value.vWeightArg m c from a6,
          show Cert.QkvRefIdeal.Value.vGainArg m' c = Cert.QkvIdeal.Value.vGainArg m c from a9]
    run_from Cert.QkvRefIdeal.Gen.run_main m' g'
    · exact (Cert.QkvIdeal.Value.arr10 m c _ fun q n => (Cert.QkvRefIdeal.Value.arr10 m' c q n).trans (by rw [(hheads c q).1])).symm
    · exact (Cert.QkvIdeal.Value.arr11 m c _ fun q n => (Cert.QkvRefIdeal.Value.arr11 m' c q n).trans (by rw [(hheads c q).2.1])).symm
    · exact (Cert.QkvIdeal.Value.arr12 m c _ fun q n => (Cert.QkvRefIdeal.Value.arr12 m' c q n).trans (by rw [(hheads c q).2.2])).symm
    · exact (Cert.QkvIdeal.Value.arr13 m c _ fun q n => (Cert.QkvRefIdeal.Value.arr13 m' c q n).trans (by rw [(hheads c q).2.1])).symm
    · exact (Cert.QkvIdeal.Value.arr14 m c _ fun q n => (Cert.QkvRefIdeal.Value.arr14 m' c q n).trans (by rw [(hheads c q).2.1])).symm
    · exact (Cert.QkvIdeal.Value.arr15 m c _ fun q n => (Cert.QkvRefIdeal.Value.arr15 m' c q n).trans (by rw [(hheads c q).2.2])).symm
    · exact (hc.1 16).trans (Cert.QkvIdeal.Value.arr16 m c _ fun q n => (Cert.QkvRefIdeal.Value.arr16 m' c q n).trans (by rw [(hheads c q).2.2])).symm

end Cert.QkvClaim
-- ==== Proof.lean ====
module

public import proofs.«01_k».proof.Defs
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpRefIdeal
public import proofs.«01_k».proof.Proof.Gen.GateUpRefIdeal.Frame
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Frame
public import proofs.«01_k».proof.Proof.Gen.OProj
public import proofs.«01_k».proof.Proof.Gen.OProj.Frame
public import proofs.«01_k».proof.Proof.Gen.OProjIdeal
public import proofs.«01_k».proof.Proof.Gen.OProjIdeal.Frame
public import proofs.«01_k».proof.Proof.Gen.OProjRefIdeal
public import proofs.«01_k».proof.Proof.Gen.OProjRefIdeal.Frame
public import proofs.«01_k».proof.Proof.Gen.InNorm
public import proofs.«01_k».proof.Proof.Gen.InNorm.Frame
public import proofs.«01_k».proof.Proof.Gen.InNormIdeal
public import proofs.«01_k».proof.Proof.Gen.InNormIdeal.Frame
public import proofs.«01_k».proof.Proof.Gen.InNormRefIdeal
public import proofs.«01_k».proof.Proof.Gen.InNormRefIdeal.Frame
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.QkvRefIdeal.Frame
public import proofs.«01_k».proof.Proof.GateUpClaim
public import proofs.«01_k».proof.Proof.DownClaim
public import proofs.«01_k».proof.Proof.OProjClaim
public import proofs.«01_k».proof.Proof.InNormClaim
public import proofs.«01_k».proof.Proof.QkvClaim
public import Idealize.ShloMosaic.Adequacy
public import Idealize.ShloMosaic.Init

@[expose] public section

noncomputable section

namespace Cert.Proof

open Idealize.ShloMosaic Idealize.SL.Sem

theorem claim : Cert.Claim :=
  ⟨Cert.GateUp.Gen.facts, Cert.GateUpIdeal.Gen.facts, Cert.GateUpRefIdeal.Gen.facts, Cert.Down.Gen.facts, Cert.DownIdeal.Gen.facts, Cert.DownRefIdeal.Gen.facts, Cert.OProj.Gen.facts, Cert.OProjIdeal.Gen.facts, Cert.OProjRefIdeal.Gen.facts, Cert.InNorm.Gen.facts, Cert.InNormIdeal.Gen.facts, Cert.InNormRefIdeal.Gen.facts, Cert.Qkv.Gen.facts, Cert.QkvIdeal.Gen.facts, Cert.QkvRefIdeal.Gen.facts,
   fun m ρ _ => Cert.GateUp.Gen.frame m ρ,
   fun m ρ _ => Cert.GateUpIdeal.Gen.frame m ρ,
   fun m ρ _ => Cert.GateUpRefIdeal.Gen.frame m ρ,
   fun m ρ _ => Cert.Down.Gen.frame m ρ,
   fun m ρ _ => Cert.DownIdeal.Gen.frame m ρ,
   fun m ρ _ => Cert.DownRefIdeal.Gen.frame m ρ,
   fun m ρ _ => Cert.OProj.Gen.frame m ρ,
   fun m ρ _ => Cert.OProjIdeal.Gen.frame m ρ,
   fun m ρ _ => Cert.OProjRefIdeal.Gen.frame m ρ,
   fun m ρ _ => Cert.InNorm.Gen.frame m ρ,
   fun m ρ _ => Cert.InNormIdeal.Gen.frame m ρ,
   fun m ρ _ => Cert.InNormRefIdeal.Gen.frame m ρ,
   fun m ρ _ => Cert.Qkv.Gen.frame m ρ,
   fun m ρ _ => Cert.QkvIdeal.Gen.frame m ρ,
   fun m ρ _ => Cert.QkvRefIdeal.Gen.frame m ρ,
   trivial, Cert.GateUpClaim.algebraic,
   trivial, Cert.DownClaim.algebraic,
   trivial, Cert.OProjClaim.algebraic,
   trivial, Cert.InNormClaim.algebraic,
   trivial, Cert.QkvClaim.algebraic⟩

end Cert.Proof

end
